-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_v96) = v1 c
          ∧ r.2.mem ((c.tc : Thread Cert.Reference6Ideal.nD Cert.Reference6Ideal.τ).loc Cert.Reference6Ideal.main_v97) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v91) = v0 c
          ∧ r.2.mem ((c.tc : Thread Cert.Reference9Ideal.nD Cert.Reference9Ideal.τ).loc Cert.Reference9Ideal.main_v92) = v1 c
          ∧ r.2.mem ((c.tc : Thread Cert.Reference9Ideal.nD Cert.Reference9Ideal.τ).loc Cert.Reference9Ideal.main_v93) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S2x4096x2048 : Shape := ⟨3, ![2, 4096, 2048]⟩
abbrev S1x2048 : Shape := ⟨2, ![1, 2048]⟩
abbrev S1x2048x6208 : Shape := ⟨3, ![1, 2048, 6208]⟩
abbrev S8192x2048 : Shape := ⟨2, ![8192, 2048]⟩
abbrev S2048x6208 : Shape := ⟨2, ![2048, 6208]⟩
abbrev S6208x2048 : Shape := ⟨2, ![6208, 2048]⟩
abbrev S2048 : Shape := ⟨1, ![2048]⟩
abbrev S8192x1152 : Shape := ⟨2, ![8192, 1152]⟩
abbrev S512x2048 : Shape := ⟨2, ![512, 2048]⟩
abbrev S1152x2048 : Shape := ⟨2, ![1152, 2048]⟩
abbrev S512x1152 : Shape := ⟨2, ![512, 1152]⟩
abbrev S512 : Shape := ⟨1, ![512]⟩
abbrev S512x1 : Shape := ⟨2, ![512, 1]⟩
abbrev S512x512 : Shape := ⟨2, ![512, 512]⟩
abbrev S128x2048 : Shape := ⟨2, ![128, 2048]⟩
abbrev S512x128 : Shape := ⟨2, ![512, 128]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6208, .f32⟩
  | .hbm, ⟨3, _⟩ => ⟨S8192x2048, .f32⟩
  | .hbm, ⟨4, _⟩ => ⟨S2048x6208, .f32⟩
  | .hbm, ⟨5, _⟩ => ⟨S6208x2048, .f32⟩
  | .hbm, ⟨6, _⟩ => ⟨S2048, .f32⟩
  | .hbm, ⟨7, _⟩ => ⟨S1x2048, .f32⟩
  | .hbm, ⟨8, _⟩ => ⟨S8192x1152, .bf16⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1152x2048, .f32⟩
  | .local _ .vmem, ⟨4, _⟩ => ⟨S512x1152, .bf16⟩
  | .local _ .vmem, ⟨5, _⟩ => ⟨S512x1152, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c0_i32 : BitVec 32 := 0#32
  let arg1 : BitVec 32 := BitVec.ofNat 32 (i 1).val
  let c1152_i32 : BitVec 32 := 1152#32
  let v0 : BitVec 32 := Scalar.muli arg1 c1152_i32
  let v1 : BitVec 32 := Scalar.addi c0_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1152_i32 : BitVec 32 := 1152#32
  let v0 : BitVec 32 := Scalar.muli arg1 c1152_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2x4096x2048 : Shape := ⟨3, ![2, 4096, 2048]⟩
abbrev S1x2048 : Shape := ⟨2, ![1, 2048]⟩
abbrev S1x2048x6208 : Shape := ⟨3, ![1, 2048, 6208]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x6208 : Shape := ⟨2, ![2048, 6208]⟩
abbrev S8192x6208 : Shape := ⟨2, ![8192, 6208]⟩
abbrev S8192x1152 : Shape := ⟨2, ![8192, 1152]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6208, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x6208, .f32⟩
  | .hbm, ⟨22, _⟩ => ⟨S8192x6208, .f32⟩
  | .hbm, ⟨23, _⟩ => ⟨S8192x1152, .f32⟩
  | .hbm, ⟨24, _⟩ => ⟨S8192x1152, .bf16⟩
  | .hbm, ⟨25, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩
abbrev S2048x256 : Shape := ⟨2, ![2048, 256]⟩
abbrev S1024x256 : Shape := ⟨2, ![1024, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v71 : BitVec 32 := Scalar.muli arg0 c1024_i32
  v71
def k0_off1 (i : grid0.Coords) : Fin 2 → Nat :=
  let arg0 : BitVec 32 := BitVec.ofNat 32 (i 0).val
  let c1024_i32 : BitVec 32 := 1024#32
  let v71 : BitVec 32 := Scalar.muli arg0 c1024_i32
  let v72 : BitVec 32 := v71
  let c0_i32_56 : BitVec 32 := 0#32
  ![v72.toNat, 0]
def k0_cond2 (i : grid0.Coords) : BitVec 1 :=
  let arg1 : BitVec 32 := BitVec.ofNat 32 (i 1).val
  let c10_i32 : BitVec 32 := 10#32
  let v68 : BitVec 1 := Scalar.cmpi .eq arg1 c10_i32
  let v69 : BitVec 32 := Scalar.extui v68
  let c0_i32_55 : BitVec 32 := 0#32
  let v70 : BitVec 1 := Scalar.cmpi .ne v69 c0_i32_55
  v70

def k0_mult2 (i : grid0.Coords) : BitVec 32 :=
  let arg0 : BitVec 32 := BitVec.ofNat 32 (i 0).val
  let c1024_i32 : BitVec 32 := 1024#32
  let v71 : BitVec 32 := Scalar.muli arg0 c1024_i32
  v71
def k0_off2 (i : grid0.Coords) : Fin 2 → Nat :=
  let arg0 : BitVec 32 := BitVec.ofNat 32 (i 0).val
  let c1024_i32 : BitVec 32 := 1024#32
  let v71 : BitVec 32 := Scalar.muli arg0 c1024_i32
  let v72 : BitVec 32 := v71
  let c0_i32_56 : BitVec 32 := 0#32
  ![v72.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S2048x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S5632x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S8192x4096 : Shape := ⟨2, ![8192, 4096]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x2048, .bf16⟩
  | .hbm, ⟨3, _⟩ => ⟨S1024x2048, .bf16⟩
  | .hbm, ⟨4, _⟩ => ⟨S1024x2048, .bf16⟩
  | .hbm, ⟨5, _⟩ => ⟨S8192x4096, .bf16⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S8192x4096 : Shape := ⟨2, ![8192, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x2048, .bf16⟩
  | .hbm, ⟨3, _⟩ => ⟨S1024x2048, .bf16⟩
  | .hbm, ⟨4, _⟩ => ⟨S1024x2048, .bf16⟩
  | .hbm, ⟨5, _⟩ => ⟨S8192x4096, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S1024x2048, .f32⟩
  | .hbm, ⟨10, _⟩ => ⟨S8192x2048, .f32⟩
  | .hbm, ⟨11, _⟩ => ⟨S1024x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x4096, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S2x4096x2048 : Shape := ⟨3, ![2, 4096, 2048]⟩
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512x256 : Shape := ⟨2, ![512, 256]⟩
abbrev S2048x256 : Shape := ⟨2, ![2048, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x4096x2048 : Shape := ⟨3, ![2, 4096, 2048]⟩
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S8192x2048 : Shape := ⟨2, ![8192, 2048]⟩
abbrev S1x2048x6208 : Shape := ⟨3, ![1, 2048, 6208]⟩
abbrev S2048x6208 : Shape := ⟨2, ![2048, 6208]⟩
abbrev S6208x2048 : Shape := ⟨2, ![6208, 2048]⟩
abbrev S8x512x2048 : Shape := ⟨3, ![8, 512, 2048]⟩
abbrev S8192x4096 : Shape := ⟨2, ![8192, 4096]⟩
abbrev S1024x2048 : Shape := ⟨2, ![1024, 2048]⟩
abbrev S8x64x2048 : Shape := ⟨3, ![8, 64, 2048]⟩
abbrev S1024x1024 : Shape := ⟨2, ![1024, 1024]⟩
abbrev S8x1024x128 : Shape := ⟨3, ![8, 1024, 128]⟩
abbrev S256x2048 : Shape := ⟨2, ![256, 2048]⟩
abbrev S1024x256 : Shape := ⟨2, ![1024, 256]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S512x2048 : Shape := ⟨2, ![512, 2048]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048x6208, .f32⟩
  | .hbm, ⟨2, _⟩ => ⟨S2048x6208, .f32⟩
  | .hbm, ⟨3, _⟩ => ⟨S6208x2048, .f32⟩
  | .hbm, ⟨4, _⟩ => ⟨S8x512x2048, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S8x64x2048, .bf16⟩
  | .local _ .vmem, ⟨5, _⟩ => ⟨S8x64x2048, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_mult1 (i : grid0.Coords) : BitVec 32 :=
  let c1088_i32 : BitVec 32 := 1088#32
  let arg1 : BitVec 32 := BitVec.ofNat 32 (i 1).val
  let c1024_i32 : BitVec 32 := 1024#32
  let v0 : BitVec 32 := Scalar.muli arg1 c1024_i32
  let v1 : BitVec 32 := Scalar.addi c1088_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1088_i32 : BitVec 32 := 1088#32
  let v1 : BitVec 32 := Scalar.addi c1088_i32 v0
  let v2 : BitVec 32 := v1
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S1x2048x6208 : Shape := ⟨3, ![1, 2048, 6208]⟩
abbrev S2048x6208 : Shape := ⟨2, ![2048, 6208]⟩
abbrev S8192x6208 : Shape := ⟨2, ![8192, 6208]⟩
abbrev S8192x1024 : Shape := ⟨2, ![8192, 1024]⟩
abbrev S8192x4096 : Shape := ⟨2, ![8192, 4096]⟩
abbrev S512x16x8x128 : Shape := ⟨4, ![512, 16, 8, 128]⟩
abbrev S8x512x16x128 : Shape := ⟨4, ![8, 512, 16, 128]⟩
abbrev S8x512x2048 : Shape := ⟨3, ![8, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6208, .f32⟩
  | .hbm, ⟨2, _⟩ => ⟨S8192x2048, .f32⟩
  | .hbm, ⟨3, _⟩ => ⟨S2048x6208, .f32⟩
  | .hbm, ⟨4, _⟩ => ⟨S8192x6208, .f32⟩
  | .hbm, ⟨5, _⟩ => ⟨S8192x1024, .f32⟩
  | .hbm, ⟨6, _⟩ => ⟨S8192x4096, .f32⟩
  | .hbm, ⟨7, _⟩ => ⟨S512x16x8x128, .f32⟩
  | .hbm, ⟨8, _⟩ => ⟨S8x512x16x128, .f32⟩
  | .hbm, ⟨9, _⟩ => ⟨S8x512x2048, .f32⟩
  | .hbm, ⟨10, _⟩ => ⟨S8x512x2048, .bf16⟩
  | .hbm, ⟨11, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S8192x1152 : Shape := ⟨2, ![8192, 1152]⟩
abbrev S1x512 : Shape := ⟨2, ![1, 512]⟩
abbrev S1x512x3072 : Shape := ⟨3, ![1, 512, 3072]⟩
abbrev S1x512x4096 : Shape := ⟨3, ![1, 512, 4096]⟩
abbrev S4096x32 : Shape := ⟨2, ![4096, 32]⟩
abbrev S512x3072 : Shape := ⟨2, ![512, 3072]⟩
abbrev S_ : Shape := ⟨0, ![]⟩
abbrev S512x16x192 : Shape := ⟨3, ![512, 16, 192]⟩
abbrev S512x16x256 : Shape := ⟨3, ![512, 16, 256]⟩
abbrev S512x4096 : Shape := ⟨2, ![512, 4096]⟩
abbrev S512 : Shape := ⟨1, ![512]⟩
abbrev S4096x128 : Shape := ⟨2, ![4096, 128]⟩
abbrev S16x8192x256 : Shape := ⟨3, ![16, 8192, 256]⟩
abbrev S16x256x8192 : Shape := ⟨3, ![16, 256, 8192]⟩
abbrev S512x512 : Shape := ⟨2, ![512, 512]⟩
abbrev S512x128 : Shape := ⟨2, ![512, 128]⟩
abbrev S16x512x256 : Shape := ⟨3, ![16, 512, 256]⟩
abbrev S16x256x512 : Shape := ⟨3, ![16, 256, 512]⟩
abbrev S512x1 : Shape := ⟨2, ![512, 1]⟩
abbrev S128x512 : Shape := ⟨2, ![128, 512]⟩
abbrev S512x256 : Shape := ⟨2, ![512, 256]⟩
abbrev S1x512x128 : Shape := ⟨3, ![1, 512, 128]⟩
abbrev S1x128x512 : Shape := ⟨3, ![1, 128, 512]⟩

abbrev nBuf : Space → Nat
  | .hbm => 32
  | .vmem => 22
  | .smem => 0
  | _ => 0

abbrev bufTy : (tb : Table) → Fin (tcTables nBuf tb) → BufTy
  | .hbm, ⟨0, _⟩ => ⟨S8192x1152, .bf16⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S4096x32, .f32⟩
  | .hbm, ⟨6, _⟩ => ⟨S4096x32, .f32⟩
  | .hbm, ⟨7, _⟩ => ⟨S512x3072, .f32⟩
  | .hbm, ⟨8, _⟩ => ⟨S_, .f32⟩
  | .hbm, ⟨9, _⟩ => ⟨S512x3072, .f32⟩
  | .hbm, ⟨10, _⟩ => ⟨S512x3072, .f32⟩
  | .hbm, ⟨11, _⟩ => ⟨S512x16x192, .f32⟩
  | .hbm, ⟨12, _⟩ => ⟨S_, .i32⟩
  | .hbm, ⟨13, _⟩ => ⟨S_, .f32⟩
  | .hbm, ⟨14, _⟩ => ⟨S512x16x256, .f32⟩
  | .hbm, ⟨15, _⟩ => ⟨S512x4096, .f32⟩
  | .hbm, ⟨16, _⟩ => ⟨S512x4096, .bf16⟩
  | .hbm, ⟨17, _⟩ => ⟨S512x4096, .f32⟩
  | .hbm, ⟨18, _⟩ => ⟨S512x4096, .bf16⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S_, .f32⟩
  | .hbm, ⟨24, _⟩ => ⟨S4096x32, .f32⟩
  | .hbm, ⟨25, _⟩ => ⟨S4096x128, .f32⟩
  | .hbm, ⟨26, _⟩ => ⟨S4096x32, .f32⟩
  | .hbm, ⟨27, _⟩ => ⟨S4096x128, .f32⟩
  | .hbm, ⟨28, _⟩ => ⟨S4096x128, .f32⟩
  | .hbm, ⟨29, _⟩ => ⟨S16x8192x256, .bf16⟩
  | .hbm, ⟨30, _⟩ => ⟨S16x256x8192, .bf16⟩
  | .hbm, ⟨31, _⟩ => ⟨S16x8192x256, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S1x512, .f32⟩
  | .local _ .vmem, ⟨7, _⟩ => ⟨S1x512, .f32⟩
  | .local _ .vmem, ⟨8, _⟩ => ⟨S512x4096, .bf16⟩
  | .local _ .vmem, ⟨9, _⟩ => ⟨S512x4096, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S16x512x256, .bf16⟩
  | .local _ .vmem, ⟨17, _⟩ => ⟨S16x512x256, .bf16⟩
  | .local _ .vmem, ⟨18, _⟩ => ⟨S16x256x512, .bf16⟩
  | .local _ .vmem, ⟨19, _⟩ => ⟨S16x256x512, .bf16⟩
  | .local _ .vmem, ⟨20, _⟩ => ⟨S16x512x256, .bf16⟩
  | .local _ .vmem, ⟨21, _⟩ => ⟨S16x512x256, .bf16⟩
  | _, _ => ⟨S8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S8192x1152 : Shape := ⟨2, ![8192, 1152]⟩
abbrev S1x512 : Shape := ⟨2, ![1, 512]⟩
abbrev S1x512x3072 : Shape := ⟨3, ![1, 512, 3072]⟩
abbrev S1x512x4096 : Shape := ⟨3, ![1, 512, 4096]⟩
abbrev S4096x32 : Shape := ⟨2, ![4096, 32]⟩
abbrev S2x4096x1152 : Shape := ⟨3, ![2, 4096, 1152]⟩
abbrev S2x4096x512 : Shape := ⟨3, ![2, 4096, 512]⟩
abbrev S2x4096x64 : Shape := ⟨3, ![2, 4096, 64]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S512x3072 : Shape := ⟨2, ![512, 3072]⟩
abbrev S2x4096x3072 : Shape := ⟨3, ![2, 4096, 3072]⟩
abbrev S2x4096x16x192 : Shape := ⟨4, ![2, 4096, 16, 192]⟩
abbrev S512x4096 : Shape := ⟨2, ![512, 4096]⟩
abbrev S2x4096x4096 : Shape := ⟨3, ![2, 4096, 4096]⟩
abbrev S2x4096x16x256 : Shape := ⟨4, ![2, 4096, 16, 256]⟩
abbrev S2x4096x16x64 : Shape := ⟨4, ![2, 4096, 16, 64]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩
abbrev S2x4096x32 : Shape := ⟨3, ![2, 4096, 32]⟩
abbrev S1x4096x32 : Shape := ⟨3, ![1, 4096, 32]⟩
abbrev S2x4096x1x64 : Shape := ⟨4, ![2, 4096, 1, 64]⟩
abbrev S2x4096x16x1 : Shape := ⟨4, ![2, 4096, 16, 1]⟩
abbrev S2x4096x16x128 : Shape := ⟨4, ![2, 4096, 16, 128]⟩
abbrev S2x4096x16x127 : Shape := ⟨4, ![2, 4096, 16, 127]⟩
abbrev S8192x16x256 : Shape := ⟨3, ![8192, 16, 256]⟩
abbrev S16x8192x256 : Shape := ⟨3, ![16, 8192, 256]⟩
abbrev S16x256x8192 : Shape := ⟨3, ![16, 256, 8192]⟩

abbrev nBuf : Space → Nat
  | .hbm => 115
  | .vmem => 0
  | .smem => 0
  | _ => 0

abbrev bufTy : (tb : Table) → Fin (tcTables nBuf tb) → BufTy
  | .hbm, ⟨0, _⟩ => ⟨S8192x1152, .bf16⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S4096x32, .f32⟩
  | .hbm, ⟨6, _⟩ => ⟨S4096x32, .f32⟩
  | .hbm, ⟨7, _⟩ => ⟨S2x4096x1152, .bf16⟩
  | .hbm, ⟨8, _⟩ => ⟨S2x4096x1152, .f32⟩
  | .hbm, ⟨9, _⟩ => ⟨S2x4096x512, .f32⟩
  | .hbm, ⟨10, _⟩ => ⟨S2x4096x512, .f32⟩
  | .hbm, ⟨11, _⟩ => ⟨S2x4096x64, .f32⟩
  | .hbm, ⟨12, _⟩ => ⟨S512, .f32⟩
  | .hbm, ⟨13, _⟩ => ⟨S2x4096x512, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x512, .f32⟩
  | .hbm, ⟨25, _⟩ => ⟨S2x4096x512, .f32⟩
  | .hbm, ⟨26, _⟩ => ⟨S1x1x512, .f32⟩
  | .hbm, ⟨27, _⟩ => ⟨S2x4096x512, .f32⟩
  | .hbm, ⟨28, _⟩ => ⟨S2x4096x512, .f32⟩
  | .hbm, ⟨29, _⟩ => ⟨S512x3072, .f32⟩
  | .hbm, ⟨30, _⟩ => ⟨S_, .f32⟩
  | .hbm, ⟨31, _⟩ => ⟨S512x3072, .f32⟩
  | .hbm, ⟨32, _⟩ => ⟨S512x3072, .f32⟩
  | .hbm, ⟨33, _⟩ => ⟨S2x4096x3072, .f32⟩
  | .hbm, ⟨34, _⟩ => ⟨S2x4096x16x192, .f32⟩
  | .hbm, ⟨35, _⟩ => ⟨S512, .f32⟩
  | .hbm, ⟨36, _⟩ => ⟨S2x4096x512, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x512, .f32⟩
  | .hbm, ⟨48, _⟩ => ⟨S2x4096x512, .f32⟩
  | .hbm, ⟨49, _⟩ => ⟨S1x1x512, .f32⟩
  | .hbm, ⟨50, _⟩ => ⟨S2x4096x512, .f32⟩
  | .hbm, ⟨51, _⟩ => ⟨S2x4096x512, .f32⟩
  | .hbm, ⟨52, _⟩ => ⟨S512x4096, .f32⟩
  | .hbm, ⟨53, _⟩ => ⟨S2x4096x4096, .f32⟩
  | .hbm, ⟨54, _⟩ => ⟨S2x4096x16x256, .f32⟩
  | .hbm, ⟨55, _⟩ => ⟨S2x4096x16x64, .f32⟩
  | .hbm, ⟨56, _⟩ => ⟨S4096x1x32, .f32⟩
  | .hbm, ⟨57, _⟩ => ⟨S4096x1x32, .f32⟩
  | .hbm, ⟨58, _⟩ => ⟨S2x4096x16x32, .f32⟩
  | .hbm, ⟨59, _⟩ => ⟨S2x4096x16x32, .f32⟩
  | .hbm, ⟨60, _⟩ => ⟨S1x4096x1x32, .f32⟩
  | .hbm, ⟨61, _⟩ => ⟨S2x4096x16x32, .f32⟩
  | .hbm, ⟨62, _⟩ => ⟨S2x4096x16x32, .f32⟩
  | .hbm, ⟨63, _⟩ => ⟨S1x4096x1x32, .f32⟩
  | .hbm, ⟨64, _⟩ => ⟨S2x4096x16x32, .f32⟩
  | .hbm, ⟨65, _⟩ => ⟨S2x4096x16x32, .f32⟩
  | .hbm, ⟨66, _⟩ => ⟨S2x4096x16x32, .f32⟩
  | .hbm, ⟨67, _⟩ => ⟨S1x4096x1x32, .f32⟩
  | .hbm, ⟨68, _⟩ => ⟨S2x4096x16x32, .f32⟩
  | .hbm, ⟨69, _⟩ => ⟨S2x4096x16x32, .f32⟩
  | .hbm, ⟨70, _⟩ => ⟨S1x4096x1x32, .f32⟩
  | .hbm, ⟨71, _⟩ => ⟨S2x4096x16x32, .f32⟩
  | .hbm, ⟨72, _⟩ => ⟨S2x4096x16x32, .f32⟩
  | .hbm, ⟨73, _⟩ => ⟨S2x4096x16x32, .f32⟩
  | .hbm, ⟨74, _⟩ => ⟨S2x4096x16x64, .f32⟩
  | .hbm, ⟨75, _⟩ => ⟨S2x4096x32, .f32⟩
  | .hbm, ⟨76, _⟩ => ⟨S2x4096x32, .f32⟩
  | .hbm, ⟨77, _⟩ => ⟨S1x4096x32, .f32⟩
  | .hbm, ⟨78, _⟩ => ⟨S2x4096x32, .f32⟩
  | .hbm, ⟨79, _⟩ => ⟨S2x4096x32, .f32⟩
  | .hbm, ⟨80, _⟩ => ⟨S1x4096x32, .f32⟩
  | .hbm, ⟨81, _⟩ => ⟨S2x4096x32, .f32⟩
  | .hbm, ⟨82, _⟩ => ⟨S2x4096x32, .f32⟩
  | .hbm, ⟨83, _⟩ => ⟨S2x4096x32, .f32⟩
  | .hbm, ⟨84, _⟩ => ⟨S1x4096x32, .f32⟩
  | .hbm, ⟨85, _⟩ => ⟨S2x4096x32, .f32⟩
  | .hbm, ⟨86, _⟩ => ⟨S2x4096x32, .f32⟩
  | .hbm, ⟨87, _⟩ => ⟨S1x4096x32, .f32⟩
  | .hbm, ⟨88, _⟩ => ⟨S2x4096x32, .f32⟩
  | .hbm, ⟨89, _⟩ => ⟨S2x4096x32, .f32⟩
  | .hbm, ⟨90, _⟩ => ⟨S2x4096x32, .f32⟩
  | .hbm, ⟨91, _⟩ => ⟨S2x4096x64, .f32⟩
  | .hbm, ⟨92, _⟩ => ⟨S2x4096x1x64, .f32⟩
  | .hbm, ⟨93, _⟩ => ⟨S2x4096x16x64, .f32⟩
  | .hbm, ⟨94, _⟩ => ⟨S_, .f32⟩
  | .hbm, ⟨95, _⟩ => ⟨S2x4096x16x64, .f32⟩
  | .hbm, ⟨96, _⟩ => ⟨S_, .f32⟩
  | .hbm, ⟨97, _⟩ => ⟨S2x4096x16x1, .f32⟩
  | .hbm, ⟨98, _⟩ => ⟨S2x4096x16x128, .f32⟩
  | .hbm, ⟨99, _⟩ => ⟨S2x4096x16x256, .f32⟩
  | .hbm, ⟨100, _⟩ => ⟨S2x4096x16x128, .f32⟩
  | .hbm, ⟨101, _⟩ => ⟨S2x4096x16x256, .f32⟩
  | .hbm, ⟨102, _⟩ => ⟨S2x4096x16x128, .f32⟩
  | .hbm, ⟨103, _⟩ => ⟨S_, .f32⟩
  | .hbm, ⟨104, _⟩ => ⟨S2x4096x16x127, .f32⟩
  | .hbm, ⟨105, _⟩ => ⟨S2x4096x16x256, .f32⟩
  | .hbm, ⟨106, _⟩ => ⟨S8192x16x256, .f32⟩
  | .hbm, ⟨107, _⟩ => ⟨S16x8192x256, .f32⟩
  | .hbm, ⟨108, _⟩ => ⟨S8192x16x256, .f32⟩
  | .hbm, ⟨109, _⟩ => ⟨S16x256x8192, .f32⟩
  | .hbm, ⟨110, _⟩ => ⟨S8192x16x256, .f32⟩
  | .hbm, ⟨111, _⟩ => ⟨S16x8192x256, .f32⟩
  | .hbm, ⟨112, _⟩ => ⟨S16x8192x256, .bf16⟩
  | .hbm, ⟨113, _⟩ => ⟨S16x256x8192, .bf16⟩
  | .hbm, ⟨114, _⟩ => ⟨S16x8192x256, .bf16⟩
  | _, _ => ⟨S8192x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_6 : Ref sig .tc := ⟨.hbm, 94, rfl⟩
abbrev main_v80 : Ref sig .tc := ⟨.hbm, 95, rfl⟩
abbrev main_cst_7 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_8 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩

abbrev nD : Nat := 1
abbrev τ : Topo := Topo.v7x

variable {F : FTy → Type} [FloatOps F]
-- ==== Kernel7.lean ====
abbrev S16x2048 : Shape := ⟨2, ![16, 2048]⟩
abbrev S1x2048 : Shape := ⟨2, ![1, 2048]⟩
abbrev S1x2048x6208 : Shape := ⟨3, ![1, 2048, 6208]⟩
abbrev S_ : Shape := ⟨0, ![]⟩
abbrev S128x2048 : Shape := ⟨2, ![128, 2048]⟩
abbrev S2048x6208 : Shape := ⟨2, ![2048, 6208]⟩
abbrev S6208x2048 : Shape := ⟨2, ![6208, 2048]⟩
abbrev S2048 : Shape := ⟨1, ![2048]⟩
abbrev S128x1152 : Shape := ⟨2, ![128, 1152]⟩
abbrev S1152x2048 : Shape := ⟨2, ![1152, 2048]⟩
abbrev S128 : Shape := ⟨1, ![128]⟩
abbrev S128x1 : Shape := ⟨2, ![128, 1]⟩
abbrev S512x2048 : Shape := ⟨2, ![512, 2048]⟩
abbrev S128x512 : Shape := ⟨2, ![128, 512]⟩
abbrev S128x128 : Shape := ⟨2, ![128, 128]⟩

abbrev nBuf : Space → Nat
  | .hbm => 11
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x6208, .f32⟩
  | .hbm, ⟨3, _⟩ => ⟨S_, .i32⟩
  | .hbm, ⟨4, _⟩ => ⟨S_, .f32⟩
  | .hbm, ⟨5, _⟩ => ⟨S128x2048, .f32⟩
  | .hbm, ⟨6, _⟩ => ⟨S2048x6208, .f32⟩
  | .hbm, ⟨7, _⟩ => ⟨S6208x2048, .f32⟩
  | .hbm, ⟨8, _⟩ => ⟨S2048, .f32⟩
  | .hbm, ⟨9, _⟩ => ⟨S1x2048, .f32⟩
  | .hbm, ⟨10, _⟩ => ⟨S128x1152, .bf16⟩
  | .local _ .vmem, ⟨0, _⟩ => ⟨S128x2048, .f32⟩
  | .local _ .vmem, ⟨1, _⟩ => ⟨S1x2048, .f32⟩
  | .local _ .vmem, ⟨2, _⟩ => ⟨S1152x2048, .f32⟩
  | .local _ .vmem, ⟨3, _⟩ => ⟨S128x1152, .bf16⟩
  | .local _ .vmem, ⟨4, _⟩ => ⟨S128x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_mult1 (i : grid0.Coords) : BitVec 32 :=
  let c0_i32 : BitVec 32 := 0#32
  let arg1 : BitVec 32 := BitVec.ofNat 32 (i 1).val
  let c1152_i32 : BitVec 32 := 1152#32
  let v0 : BitVec 32 := Scalar.muli arg1 c1152_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1152_i32 : BitVec 32 := 1152#32
  let v0 : BitVec 32 := Scalar.muli arg1 c1152_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference7Ideal.lean ====
abbrev S16x2048 : Shape := ⟨2, ![16, 2048]⟩
abbrev S1x2048 : Shape := ⟨2, ![1, 2048]⟩
abbrev S1x2048x6208 : Shape := ⟨3, ![1, 2048, 6208]⟩
abbrev S_ : Shape := ⟨0, ![]⟩
abbrev S112x2048 : Shape := ⟨2, ![112, 2048]⟩
abbrev S128x2048 : Shape := ⟨2, ![128, 2048]⟩
abbrev S2048 : Shape := ⟨1, ![2048]⟩
abbrev S128 : Shape := ⟨1, ![128]⟩
abbrev S128x1 : Shape := ⟨2, ![128, 1]⟩
abbrev S2048x6208 : Shape := ⟨2, ![2048, 6208]⟩
abbrev S128x6208 : Shape := ⟨2, ![128, 6208]⟩
abbrev S128x1152 : Shape := ⟨2, ![128, 1152]⟩

abbrev nBuf : Space → Nat
  | .hbm => 27
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x6208, .f32⟩
  | .hbm, ⟨3, _⟩ => ⟨S_, .f32⟩
  | .hbm, ⟨4, _⟩ => ⟨S112x2048, .f32⟩
  | .hbm, ⟨5, _⟩ => ⟨S128x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S2048x6208, .f32⟩
  | .hbm, ⟨24, _⟩ => ⟨S128x6208, .f32⟩
  | .hbm, ⟨25, _⟩ => ⟨S128x1152, .f32⟩
  | .hbm, ⟨26, _⟩ => ⟨S128x1152, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S16x2048 : Shape := ⟨2, ![16, 2048]⟩
abbrev S1x2048 : Shape := ⟨2, ![1, 2048]⟩
abbrev S1x2048x6208 : Shape := ⟨3, ![1, 2048, 6208]⟩
abbrev S_ : Shape := ⟨0, ![]⟩
abbrev S128x2048 : Shape := ⟨2, ![128, 2048]⟩
abbrev S2048x6208 : Shape := ⟨2, ![2048, 6208]⟩
abbrev S6208x2048 : Shape := ⟨2, ![6208, 2048]⟩
abbrev S2048 : Shape := ⟨1, ![2048]⟩
abbrev S128x1024 : Shape := ⟨2, ![128, 1024]⟩
abbrev S1024x2048 : Shape := ⟨2, ![1024, 2048]⟩
abbrev S128 : Shape := ⟨1, ![128]⟩
abbrev S128x1 : Shape := ⟨2, ![128, 1]⟩
abbrev S512x2048 : Shape := ⟨2, ![512, 2048]⟩
abbrev S128x512 : Shape := ⟨2, ![128, 512]⟩

abbrev nBuf : Space → Nat
  | .hbm => 11
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x6208, .f32⟩
  | .hbm, ⟨3, _⟩ => ⟨S_, .i32⟩
  | .hbm, ⟨4, _⟩ => ⟨S_, .f32⟩
  | .hbm, ⟨5, _⟩ => ⟨S128x2048, .f32⟩
  | .hbm, ⟨6, _⟩ => ⟨S2048x6208, .f32⟩
  | .hbm, ⟨7, _⟩ => ⟨S6208x2048, .f32⟩
  | .hbm, ⟨8, _⟩ => ⟨S2048, .f32⟩
  | .hbm, ⟨9, _⟩ => ⟨S1x2048, .f32⟩
  | .hbm, ⟨10, _⟩ => ⟨S128x1024, .bf16⟩
  | .local _ .vmem, ⟨0, _⟩ => ⟨S128x2048, .f32⟩
  | .local _ .vmem, ⟨1, _⟩ => ⟨S1x2048, .f32⟩
  | .local _ .vmem, ⟨2, _⟩ => ⟨S1024x2048, .f32⟩
  | .local _ .vmem, ⟨3, _⟩ => ⟨S128x1024, .bf16⟩
  | .local _ .vmem, ⟨4, _⟩ => ⟨S128x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_mult1 (i : grid0.Coords) : BitVec 32 :=
  let c1088_i32 : BitVec 32 := 1088#32
  let arg1 : BitVec 32 := BitVec.ofNat 32 (i 1).val
  let c1024_i32 : BitVec 32 := 1024#32
  let v0 : BitVec 32 := Scalar.muli arg1 c1024_i32
  let v1 : BitVec 32 := Scalar.addi c1088_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1088_i32 : BitVec 32 := 1088#32
  let v1 : BitVec 32 := Scalar.addi c1088_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference8Ideal.lean ====
abbrev S16x2048 : Shape := ⟨2, ![16, 2048]⟩
abbrev S1x2048 : Shape := ⟨2, ![1, 2048]⟩
abbrev S1x2048x6208 : Shape := ⟨3, ![1, 2048, 6208]⟩
abbrev S_ : Shape := ⟨0, ![]⟩
abbrev S112x2048 : Shape := ⟨2, ![112, 2048]⟩
abbrev S128x2048 : Shape := ⟨2, ![128, 2048]⟩
abbrev S2048 : Shape := ⟨1, ![2048]⟩
abbrev S128 : Shape := ⟨1, ![128]⟩
abbrev S128x1 : Shape := ⟨2, ![128, 1]⟩
abbrev S2048x6208 : Shape := ⟨2, ![2048, 6208]⟩
abbrev S128x6208 : Shape := ⟨2, ![128, 6208]⟩
abbrev S128x1024 : Shape := ⟨2, ![128, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x2048x6208, .f32⟩
  | .hbm, ⟨3, _⟩ => ⟨S_, .f32⟩
  | .hbm, ⟨4, _⟩ => ⟨S112x2048, .f32⟩
  | .hbm, ⟨5, _⟩ => ⟨S128x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S2048x6208, .f32⟩
  | .hbm, ⟨24, _⟩ => ⟨S128x6208, .f32⟩
  | .hbm, ⟨25, _⟩ => ⟨S128x1024, .f32⟩
  | .hbm, ⟨26, _⟩ => ⟨S128x1024, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel9.lean ====
abbrev S128x1152 : Shape := ⟨2, ![128, 1152]⟩
abbrev S1x512 : Shape := ⟨2, ![1, 512]⟩
abbrev S1x512x3072 : Shape := ⟨3, ![1, 512, 3072]⟩
abbrev S1x512x4096 : Shape := ⟨3, ![1, 512, 4096]⟩
abbrev S128x32 : Shape := ⟨2, ![128, 32]⟩
abbrev S512x3072 : Shape := ⟨2, ![512, 3072]⟩
abbrev S_ : Shape := ⟨0, ![]⟩
abbrev S512x16x192 : Shape := ⟨3, ![512, 16, 192]⟩
abbrev S512x16x256 : Shape := ⟨3, ![512, 16, 256]⟩
abbrev S512x4096 : Shape := ⟨2, ![512, 4096]⟩
abbrev S512 : Shape := ⟨1, ![512]⟩
abbrev S128x128 : Shape := ⟨2, ![128, 128]⟩
abbrev S16x128x256 : Shape := ⟨3, ![16, 128, 256]⟩
abbrev S16x256x128 : Shape := ⟨3, ![16, 256, 128]⟩
abbrev S128x512 : Shape := ⟨2, ![128, 512]⟩
abbrev S128 : Shape := ⟨1, ![128]⟩
abbrev S128x1 : Shape := ⟨2, ![128, 1]⟩
abbrev S512x256 : Shape := ⟨2, ![512, 256]⟩
abbrev S128x256 : Shape := ⟨2, ![128, 256]⟩
abbrev S1x128x128 : Shape := ⟨3, ![1, 128, 128]⟩

abbrev nBuf : Space → Nat
  | .hbm => 32
  | .vmem => 13
  | .smem => 0
  | _ => 0

abbrev bufTy : (tb : Table) → Fin (tcTables nBuf tb) → BufTy
  | .hbm, ⟨0, _⟩ => ⟨S128x1152, .bf16⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S128x32, .f32⟩
  | .hbm, ⟨6, _⟩ => ⟨S128x32, .f32⟩
  | .hbm, ⟨7, _⟩ => ⟨S512x3072, .f32⟩
  | .hbm, ⟨8, _⟩ => ⟨S_, .f32⟩
  | .hbm, ⟨9, _⟩ => ⟨S512x3072, .f32⟩
  | .hbm, ⟨10, _⟩ => ⟨S512x3072, .f32⟩
  | .hbm, ⟨11, _⟩ => ⟨S512x16x192, .f32⟩
  | .hbm, ⟨12, _⟩ => ⟨S_, .i32⟩
  | .hbm, ⟨13, _⟩ => ⟨S_, .f32⟩
  | .hbm, ⟨14, _⟩ => ⟨S512x16x256, .f32⟩
  | .hbm, ⟨15, _⟩ => ⟨S512x4096, .f32⟩
  | .hbm, ⟨16, _⟩ => ⟨S512x4096, .bf16⟩
  | .hbm, ⟨17, _⟩ => ⟨S512x4096, .f32⟩
  | .hbm, ⟨18, _⟩ => ⟨S512x4096, .bf16⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S_, .f32⟩
  | .hbm, ⟨24, _⟩ => ⟨S128x32, .f32⟩
  | .hbm, ⟨25, _⟩ => ⟨S128x128, .f32⟩
  | .hbm, ⟨26, _⟩ => ⟨S128x32, .f32⟩
  | .hbm, ⟨27, _⟩ => ⟨S128x128, .f32⟩
  | .hbm, ⟨28, _⟩ => ⟨S128x128, .f32⟩
  | .hbm, ⟨29, _⟩ => ⟨S16x128x256, .bf16⟩
  | .hbm, ⟨30, _⟩ => ⟨S16x256x128, .bf16⟩
  | .hbm, ⟨31, _⟩ => ⟨S16x128x256, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S1x512, .f32⟩
  | .local _ .vmem, ⟨4, _⟩ => ⟨S1x512, .f32⟩
  | .local _ .vmem, ⟨5, _⟩ => ⟨S512x4096, .bf16⟩
  | .local _ .vmem, ⟨6, _⟩ => ⟨S512x4096, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S16x128x256, .bf16⟩
  | .local _ .vmem, ⟨11, _⟩ => ⟨S16x256x128, .bf16⟩
  | .local _ .vmem, ⟨12, _⟩ => ⟨S16x128x256, .bf16⟩
  | _, _ => ⟨S128x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S16x256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S16x128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference9Ideal.lean ====
abbrev S128x1152 : Shape := ⟨2, ![128, 1152]⟩
abbrev S1x512 : Shape := ⟨2, ![1, 512]⟩
abbrev S1x512x3072 : Shape := ⟨3, ![1, 512, 3072]⟩
abbrev S1x512x4096 : Shape := ⟨3, ![1, 512, 4096]⟩
abbrev S128x32 : Shape := ⟨2, ![128, 32]⟩
abbrev S1x128x1152 : Shape := ⟨3, ![1, 128, 1152]⟩
abbrev S1x128x512 : Shape := ⟨3, ![1, 128, 512]⟩
abbrev S1x128x64 : Shape := ⟨3, ![1, 128, 64]⟩
abbrev S512 : Shape := ⟨1, ![512]⟩
abbrev S_ : Shape := ⟨0, ![]⟩
abbrev S1x128 : Shape := ⟨2, ![1, 128]⟩
abbrev S1x128x1 : Shape := ⟨3, ![1, 128, 1]⟩
abbrev S1x1x512 : Shape := ⟨3, ![1, 1, 512]⟩
abbrev S512x3072 : Shape := ⟨2, ![512, 3072]⟩
abbrev S1x128x3072 : Shape := ⟨3, ![1, 128, 3072]⟩
abbrev S1x128x16x192 : Shape := ⟨4, ![1, 128, 16, 192]⟩
abbrev S512x4096 : Shape := ⟨2, ![512, 4096]⟩
abbrev S1x128x4096 : Shape := ⟨3, ![1, 128, 4096]⟩
abbrev S1x128x16x256 : Shape := ⟨4, ![1, 128, 16, 256]⟩
abbrev S1x128x16x64 : Shape := ⟨4, ![1, 128, 16, 64]⟩
abbrev S128x1x32 : Shape := ⟨3, ![128, 1, 32]⟩
abbrev S1x128x16x32 : Shape := ⟨4, ![1, 128, 16, 32]⟩
abbrev S1x128x1x32 : Shape := ⟨4, ![1, 128, 1, 32]⟩
abbrev S1x128x32 : Shape := ⟨3, ![1, 128, 32]⟩
abbrev S1x128x1x64 : Shape := ⟨4, ![1, 128, 1, 64]⟩
abbrev S1x128x16x1 : Shape := ⟨4, ![1, 128, 16, 1]⟩
abbrev S1x128x16x128 : Shape := ⟨4, ![1, 128, 16, 128]⟩
abbrev S1x128x16x127 : Shape := ⟨4, ![1, 128, 16, 127]⟩
abbrev S128x16x256 : Shape := ⟨3, ![128, 16, 256]⟩
abbrev S16x128x256 : Shape := ⟨3, ![16, 128, 256]⟩
abbrev S16x256x128 : Shape := ⟨3, ![16, 256, 128]⟩

abbrev nBuf : Space → Nat
  | .hbm => 111
  | .vmem => 0
  | .smem => 0
  | _ => 0

abbrev bufTy : (tb : Table) → Fin (tcTables nBuf tb) → BufTy
  | .hbm, ⟨0, _⟩ => ⟨S128x1152, .bf16⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S128x32, .f32⟩
  | .hbm, ⟨6, _⟩ => ⟨S128x32, .f32⟩
  | .hbm, ⟨7, _⟩ => ⟨S1x128x1152, .bf16⟩
  | .hbm, ⟨8, _⟩ => ⟨S1x128x1152, .f32⟩
  | .hbm, ⟨9, _⟩ => ⟨S1x128x512, .f32⟩
  | .hbm, ⟨10, _⟩ => ⟨S1x128x512, .f32⟩
  | .hbm, ⟨11, _⟩ => ⟨S1x128x64, .f32⟩
  | .hbm, ⟨12, _⟩ => ⟨S512, .f32⟩
  | .hbm, ⟨13, _⟩ => ⟨S1x128x512, .f32⟩
  | .hbm, ⟨14, _⟩ => ⟨S_, .f32⟩
  | .hbm, ⟨15, _⟩ => ⟨S1x128, .f32⟩
  | .hbm, ⟨16, _⟩ => ⟨S1x128x1, .f32⟩
  | .hbm, ⟨17, _⟩ => ⟨S_, .f32⟩
  | .hbm, ⟨18, _⟩ => ⟨S1x128x1, .f32⟩
  | .hbm, ⟨19, _⟩ => ⟨S1x128x1, .f32⟩
  | .hbm, ⟨20, _⟩ => ⟨S_, .f32⟩
  | .hbm, ⟨21, _⟩ => ⟨S1x128x1, .f32⟩
  | .hbm, ⟨22, _⟩ => ⟨S1x128x1, .f32⟩
  | .hbm, ⟨23, _⟩ => ⟨S1x128x1, .f32⟩
  | .hbm, ⟨24, _⟩ => ⟨S1x128x512, .f32⟩
  | .hbm, ⟨25, _⟩ => ⟨S1x128x512, .f32⟩
  | .hbm, ⟨26, _⟩ => ⟨S1x1x512, .f32⟩
  | .hbm, ⟨27, _⟩ => ⟨S1x128x512, .f32⟩
  | .hbm, ⟨28, _⟩ => ⟨S1x128x512, .f32⟩
  | .hbm, ⟨29, _⟩ => ⟨S512x3072, .f32⟩
  | .hbm, ⟨30, _⟩ => ⟨S_, .f32⟩
  | .hbm, ⟨31, _⟩ => ⟨S512x3072, .f32⟩
  | .hbm, ⟨32, _⟩ => ⟨S512x3072, .f32⟩
  | .hbm, ⟨33, _⟩ => ⟨S1x128x3072, .f32⟩
  | .hbm, ⟨34, _⟩ => ⟨S1x128x16x192, .f32⟩
  | .hbm, ⟨35, _⟩ => ⟨S512, .f32⟩
  | .hbm, ⟨36, _⟩ => ⟨S1x128x512, .f32⟩
  | .hbm, ⟨37, _⟩ => ⟨S_, .f32⟩
  | .hbm, ⟨38, _⟩ => ⟨S1x128, .f32⟩
  | .hbm, ⟨39, _⟩ => ⟨S1x128x1, .f32⟩
  | .hbm, ⟨40, _⟩ => ⟨S_, .f32⟩
  | .hbm, ⟨41, _⟩ => ⟨S1x128x1, .f32⟩
  | .hbm, ⟨42, _⟩ => ⟨S1x128x1, .f32⟩
  | .hbm, ⟨43, _⟩ => ⟨S_, .f32⟩
  | .hbm, ⟨44, _⟩ => ⟨S1x128x1, .f32⟩
  | .hbm, ⟨45, _⟩ => ⟨S1x128x1, .f32⟩
  | .hbm, ⟨46, _⟩ => ⟨S1x128x1, .f32⟩
  | .hbm, ⟨47, _⟩ => ⟨S1x128x512, .f32⟩
  | .hbm, ⟨48, _⟩ => ⟨S1x128x512, .f32⟩
  | .hbm, ⟨49, _⟩ => ⟨S1x1x512, .f32⟩
  | .hbm, ⟨50, _⟩ => ⟨S1x128x512, .f32⟩
  | .hbm, ⟨51, _⟩ => ⟨S1x128x512, .f32⟩
  | .hbm, ⟨52, _⟩ => ⟨S512x4096, .f32⟩
  | .hbm, ⟨53, _⟩ => ⟨S1x128x4096, .f32⟩
  | .hbm, ⟨54, _⟩ => ⟨S1x128x16x256, .f32⟩
  | .hbm, ⟨55, _⟩ => ⟨S1x128x16x64, .f32⟩
  | .hbm, ⟨56, _⟩ => ⟨S128x1x32, .f32⟩
  | .hbm, ⟨57, _⟩ => ⟨S128x1x32, .f32⟩
  | .hbm, ⟨58, _⟩ => ⟨S1x128x16x32, .f32⟩
  | .hbm, ⟨59, _⟩ => ⟨S1x128x16x32, .f32⟩
  | .hbm, ⟨60, _⟩ => ⟨S1x128x1x32, .f32⟩
  | .hbm, ⟨61, _⟩ => ⟨S1x128x16x32, .f32⟩
  | .hbm, ⟨62, _⟩ => ⟨S1x128x16x32, .f32⟩
  | .hbm, ⟨63, _⟩ => ⟨S1x128x1x32, .f32⟩
  | .hbm, ⟨64, _⟩ => ⟨S1x128x16x32, .f32⟩
  | .hbm, ⟨65, _⟩ => ⟨S1x128x16x32, .f32⟩
  | .hbm, ⟨66, _⟩ => ⟨S1x128x16x32, .f32⟩
  | .hbm, ⟨67, _⟩ => ⟨S1x128x1x32, .f32⟩
  | .hbm, ⟨68, _⟩ => ⟨S1x128x16x32, .f32⟩
  | .hbm, ⟨69, _⟩ => ⟨S1x128x16x32, .f32⟩
  | .hbm, ⟨70, _⟩ => ⟨S1x128x1x32, .f32⟩
  | .hbm, ⟨71, _⟩ => ⟨S1x128x16x32, .f32⟩
  | .hbm, ⟨72, _⟩ => ⟨S1x128x16x32, .f32⟩
  | .hbm, ⟨73, _⟩ => ⟨S1x128x16x32, .f32⟩
  | .hbm, ⟨74, _⟩ => ⟨S1x128x16x64, .f32⟩
  | .hbm, ⟨75, _⟩ => ⟨S1x128x32, .f32⟩
  | .hbm, ⟨76, _⟩ => ⟨S1x128x32, .f32⟩
  | .hbm, ⟨77, _⟩ => ⟨S1x128x32, .f32⟩
  | .hbm, ⟨78, _⟩ => ⟨S1x128x32, .f32⟩
  | .hbm, ⟨79, _⟩ => ⟨S1x128x32, .f32⟩
  | .hbm, ⟨80, _⟩ => ⟨S1x128x32, .f32⟩
  | .hbm, ⟨81, _⟩ => ⟨S1x128x32, .f32⟩
  | .hbm, ⟨82, _⟩ => ⟨S1x128x32, .f32⟩
  | .hbm, ⟨83, _⟩ => ⟨S1x128x32, .f32⟩
  | .hbm, ⟨84, _⟩ => ⟨S1x128x32, .f32⟩
  | .hbm, ⟨85, _⟩ => ⟨S1x128x32, .f32⟩
  | .hbm, ⟨86, _⟩ => ⟨S1x128x32, .f32⟩
  | .hbm, ⟨87, _⟩ => ⟨S1x128x64, .f32⟩
  | .hbm, ⟨88, _⟩ => ⟨S1x128x1x64, .f32⟩
  | .hbm, ⟨89, _⟩ => ⟨S1x128x16x64, .f32⟩
  | .hbm, ⟨90, _⟩ => ⟨S_, .f32⟩
  | .hbm, ⟨91, _⟩ => ⟨S1x128x16x64, .f32⟩
  | .hbm, ⟨92, _⟩ => ⟨S_, .f32⟩
  | .hbm, ⟨93, _⟩ => ⟨S1x128x16x1, .f32⟩
  | .hbm, ⟨94, _⟩ => ⟨S1x128x16x128, .f32⟩
  | .hbm, ⟨95, _⟩ => ⟨S1x128x16x256, .f32⟩
  | .hbm, ⟨96, _⟩ => ⟨S1x128x16x128, .f32⟩
  | .hbm, ⟨97, _⟩ => ⟨S1x128x16x256, .f32⟩
  | .hbm, ⟨98, _⟩ => ⟨S1x128x16x128, .f32⟩
  | .hbm, ⟨99, _⟩ => ⟨S_, .f32⟩
  | .hbm, ⟨100, _⟩ => ⟨S1x128x16x127, .f32⟩
  | .hbm, ⟨101, _⟩ => ⟨S1x128x16x256, .f32⟩
  | .hbm, ⟨102, _⟩ => ⟨S128x16x256, .f32⟩
  | .hbm, ⟨103, _⟩ => ⟨S16x128x256, .f32⟩
  | .hbm, ⟨104, _⟩ => ⟨S128x16x256, .f32⟩
  | .hbm, ⟨105, _⟩ => ⟨S16x256x128, .f32⟩
  | .hbm, ⟨106, _⟩ => ⟨S128x16x256, .f32⟩
  | .hbm, ⟨107, _⟩ => ⟨S16x128x256, .f32⟩
  | .hbm, ⟨108, _⟩ => ⟨S16x128x256, .bf16⟩
  | .hbm, ⟨109, _⟩ => ⟨S16x256x128, .bf16⟩
  | .hbm, ⟨110, _⟩ => ⟨S16x128x256, .bf16⟩
  | _, _ => ⟨S128x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_8 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩

abbrev nD : Nat := 1
abbrev τ : Topo := Topo.v7x

variable {F : FTy → Type} [FloatOps F]
-- ==== Proof.LatentValue.lean ====
/- The input projection's latent part and its normalised input, read at the extended reals: what the
   kernel leaves in its two results is what the reference computes from the same arguments. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.LatentValue

open Cert.KernelIdeal Cert.KernelIdeal.Gen
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- Every window's block index at every grid point. -/
theorem idx : ∀ t : Fin cfg0.N, win0_0.index t = ![t.val, 0] ∧ win0_1.index t = ![0, 0] ∧
    win0_2.index t = ![0, 0] ∧ win0_3.index t = ![t.val, 0] ∧ win0_4.index t = ![t.val, 0] :=
  (by decide +kernel : ∀ t : Fin grid0.N, _)

/-- A block of the input is its rows of the input. -/
theorem block0 (c : Dev nD) (t : Fin cfg0.N) (a : Fin 512) (k : Fin 2048) (r : Fin 8192) (hr : r.val = t.val * 512 + a.val) :
    iblk m c 0 t (ix2 a k) = m ((c : Thread nD τ).loc main_arg0) (ix3 ⟨r.val / 4096, by omega⟩ ⟨r.val % 4096, by omega⟩ k) := by
  have he : (win0_0.blk t).view.emb (ix2 a k) = ix2 r k := by
    blk_ext [(idx t).1]
  unfold iblk
  blk_simp
  rw [he]
  entry_read
  pointwise

/-- The scale's one block is the scale. -/
theorem block1 (c : Dev nD) (t : Fin cfg0.N) (k : Fin 2048) :
    iblk m c 1 t (ix2 0 k) = m ((c : Thread nD τ).loc main_arg1) (ix2 0 k) := by
  have he : (win0_1.blk t).view.emb (ix2 0 k) = ix2 0 k := by
    blk_ext [(idx t).2.1]
  unfold iblk
  blk_simp
  rw [he]
  entry_read
  pointwise

/-- The weights' one block is the first rows of the transposed weights. -/
theorem block2 (c : Dev nD) (t : Fin cfg0.N) (a : Fin 1152) (k : Fin 2048) :
    iblk m c 2 t (ix2 a k) = m ((c : Thread nD τ).loc main_arg2) (ix3 0 k ⟨a.val, by omega⟩) := by
  have he : (win0_2.blk t).view.emb (ix2 a k) = ix2 ⟨a.val, by omega⟩ k := by
    have h0 : win0_2.index t 0 = 0 := by rw [(idx t).2.2.1]; rfl
    have h1 : win0_2.index t 1 = 0 := by rw [(idx t).2.2.1]; rfl
    blk_ext
    · exact Pipeline.Window.rect_emb_val_of_index_zero win0_2 t 0 h0 _
    · exact Pipeline.Window.rect_emb_val_of_index_zero win0_2 t 1 h1 _
  unfold iblk
  blk_simp
  rw [he]
  entry_read
  pointwise

/-- The normalised rows of a block are the reference's normalised rows. -/
theorem norm_point (c : Dev nD) (t : Fin cfg0.N) (a : Fin 512) (k : Fin 2048) (r : Fin 8192) (hr : r.val = t.val * 512 + a.val) :
    k0_pay1 (F := Ideal) (iblk m c 0 t) (iblk m c 1 t) (ix2 a k)
      = val_main_v14 (F := Ideal) (m ((c : Thread nD τ).loc main_arg0)) (m ((c : Thread nD τ).loc main_arg1)) (ix2 r k) := by
  pointwise [k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [block0 m c t a _ r hr, block1]

/-- A column of the projection: a row of the block against a row of the transposed weights. -/
theorem lat_point (c : Dev nD) (t : Fin cfg0.N) (a : Fin 512) (r : Fin 8192) (hr : r.val = t.val * 512 + a.val)
    (j : Fin 1152) :
    (∑ k : Fin 2048, (k0_pay1 (F := Ideal) (iblk m c 0 t) (iblk m c 1 t) (ix2 a k) : EReal) * (iblk m c 2 t (ix2 j k) : EReal))
      = val_main_v18 (F := Ideal) (m ((c : Thread nD τ).loc main_arg0)) (m ((c : Thread nD τ).loc main_arg1))
        (m ((c : Thread nD τ).loc main_arg2)) (ix2 r j) := by
  pointwise [val_main_v18, val_main_v17, val_main_v16, val_main_v15]
  refine Finset.sum_congr rfl fun k _ => ?_
  rw [norm_point m c t a k r hr, block2]

/-- The normalised input as the reference has it. -/
theorem final4 (c : Dev nD) : (dats m 0 c).arrAt 4 (cfgs 0).N
    = val_main_v19 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  dsimp only [outsAt0]
  frame_out
  have ht : t.val < 16 := t.isLt
  have hy : (y 0).val < 512 := (y 0).isLt
  have he : ((cfg0.win 4).blk t).view.emb y = ix2 (⟨t.val * 512 + (y 0).val, by omega⟩ : Fin 8192) (y 1) := by
    blk_ext [(idx t).2.2.2.2]
  refine ((congrArg _ (eq_ix2 y)).trans (norm_point m c t (y 0) (y 1) ⟨t.val * 512 + (y 0).val, by omega⟩ rfl)).trans ?_
  exact (congrArg (val_main_v14 (F := Ideal) (m ((c : Thread nD τ).loc main_arg0)) (m ((c : Thread nD τ).loc main_arg1))) he).symm

/-- The latent columns of the projection as the reference has them. -/
theorem final3 (c : Dev nD) : (dats m 0 c).arrAt 3 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  dsimp only [outsAt0]
  frame_out
  have ht : t.val < 16 := t.isLt
  have hy : (y 0).val < 512 := (y 0).isLt
  have he : ((View.whole main_v5_0).slice (win0_3.rect t)).emb y = ix2 (⟨t.val * 512 + (y 0).val, by omega⟩ : Fin 8192) (y 1) := by
    blk_ext [(idx t).2.2.2.1]
  refine Eq.trans ?_ ((lat_point m c t (y 0) ⟨t.val * 512 + (y 0).val, by omega⟩ rfl (y 1)).trans (congrArg _ he.symm))
  canon_tiles x h using (View.cover_of_tiledBy _ ![512, 128] (by sl_kernel_rfl) y)
  all_goals (generalize k0_pay1 (F := Ideal) (iblk m c 0 t) (iblk m c 1 t) = n)
  all_goals (generalize iblk m c 2 t = w)
  all_goals pointwise [k0_pay2, k0_pay3, k0_pay4, h0, h1]
  all_goals refine Finset.sum_congr rfl fun k _ => ?_
  all_goals refine Ideal.mul_congr (congrArg n ?_) (congrArg w ?_)
  all_goals blk_ext

end Cert.LatentValue

end
-- ==== Proof.LatentClaims.lean ====
/- The claims about the input projection's latent part: its frames, and its values at the extended reals. -/
module

public import proofs.«01_k».proof.Defs
public import proofs.«01_k».proof.Proof.Gen.Kernel.Frame
public import proofs.«01_k».proof.Proof.LatentValue
public import Idealize.ShloMosaic.Lib.Quiescent

@[expose] public section

noncomputable section

namespace Cert.LatentClaims

open Idealize.ShloMosaic Idealize.ShloMosaic.TcCoe Idealize.SL.Sem

/-- The kernel ends, its arguments and counters as they were. -/
theorem frame_kernel : Cert.quiescent_Kernel := fun m g _ => Cert.Kernel.Gen.frame m g

/-- So does the idealized kernel. -/
theorem frame_ideal : Cert.quiescent_KernelIdeal := fun m g _ => Cert.KernelIdeal.Gen.frame m g

/-- So does the reference, which has no semaphore. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run m g)

/-- The kernel's two results are the reference's. -/
theorem values : Cert.algebraic_KernelIdeal_ReferenceIdeal := by
  pair_intro
  · run_from Cert.KernelIdeal.Value.run_blocks m g
  · run_from Cert.ReferenceIdeal.Value.run m' g'
    · exact (Cert.ReferenceIdeal.Read.val_main_v18_eq _ _ _).trans (LatentValue.final3 m c).symm
    · exact (Cert.ReferenceIdeal.Read.val_main_v19_eq _ _).trans (LatentValue.final4 m c).symm

end Cert.LatentClaims

end
-- ==== Proof.FeedRuns.lean ====
/-
  The feed-forward kernel's body, run once for each of its three kinds of point: the first point of a row block (the
  residual's rows are sent for and the accumulator cleared), a point in between, and the last (the rows are waited
  for, the sum is normalised).
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Ring
public import Idealize.ShloMosaic.Lib.Transfers
public import Idealize.ShloMosaic.Lib.Tactic

@[expose] public section

set_option maxRecDepth 16384

noncomputable section

namespace Cert.FeedRuns

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

/-- The residual, in the memory it is copied from; the buffer it is copied into; the cell that counts the copy. -/
abbrev hM : Memref sig .tc .hbm S8192x2048 .f32 := Memref.whole main_arg1
abbrev bufM : Memref sig .tc .vmem S1024x2048 .f32 := Memref.whole cc0_scratch0
abbrev sem0 : DmaSem sig := (cc0_scratch1).sem

/-- The 1024 rows of the residual the copy started at the first point of a row block takes. -/
abbrev rowsM (i : grid0.Coords) (h : k0_cond1 i = 1#1) : Memref sig .tc .hbm S1024x2048 .f32 :=
  hM.slice (Rect.unit (s := S8192x2048) (k0_off1 i) S1024x2048.size (k0_off1_inb i h)) (fun _ => rfl)

/-- The buffer after the copy has arrived, over whatever it held. -/
abbrev landed (c : Dev nD) (i : grid0.Coords) (h : k0_cond1 i = 1#1) (x : Buf (Elt F) (hM.view.loc (c : Thread nD τ)))
    (f : Buf (Elt F) (bufM.view.loc (c : Thread nD τ))) : Buf (Elt F) (bufM.view.loc (c : Thread nD τ)) :=
  bufM.view.writes (Elt F) f [⟨Rect.whole S1024x2048, ReadAs.same.apply ((rowsM i h).view.read (Elt F) x)⟩]

/-- The copy under way: at its arrival the buffer holds the rows, and the rows' elements come back. -/
abbrev flying (c : Dev nD) (i : grid0.Coords) (h : k0_cond1 i = 1#1) (x : Buf (Elt F) (hM.view.loc (c : Thread nD τ)))
    (f : Buf (Elt F) (bufM.view.loc (c : Thread nD τ))) : sProp 𝕄 :=
  Transfers.Flight (countersEmb (U := UD sig nD τ)) (c : Thread nD τ) (SemLoc.dma sem0) () (bufM.view.amount (SemLoc.dma (sig := sig) sem0))
    iprop((bufM.view.loc (c : Thread nD τ) ↦[bufM.view.set]{fullShare} landed c i h x f)
      ∗ ((rowsM i h).view.loc (c : Thread nD τ) ↦[(rowsM i h).view.set]{fullShare} x))

set_option maxHeartbeats 2000000 in
/-- The first point of a row block. -/
noncomputable def runA (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : k0_cond1 i = 1#1) (hc1 : ¬ k0_cond2 i = 1#1)
    (x0 : Vec F S1024x2048 .bf16) (x1 x2 : Vec F S2048x512 .bf16) (x3 : Vec F S512x2048 .bf16) (x4 : Vec F S1x2048 .f32)
    (x : Buf (Elt F) (hM.view.loc (c : Thread nD τ))) :
    { L : List (View.Piece (Elt F) S1024x2048 .f32) //
      ∀ (K : PUnit → sProp 𝕄) (f : Buf (Elt F) (bufM.view.loc (c : Thread nD τ))),
        iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (bufM.view.loc (c : Thread nD τ) ↦[bufM.view.set]{fullShare} f)
            ∗ ((rowsM i hc0).view.loc (c : Thread nD τ) ↦[(rowsM i hc0).view.set]{fullShare} x)
            ∗ semVal ((c : Thread nD τ), SemLoc.dma sem0) 0
            ∗ (iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ f, arg8.view.loc (c : Thread nD τ) ↦[arg8.view.set]{fullShare} arg8.view.writes (Elt F) f L)
            ∗ flying c i hc0 x f) -∗ K ⟨⟩))
          ⊢ wp frame (wpE (defs₀ (F := F)) Variants.none c none) Set.univ
              (cc0_ffn i arg2 harg2 hM (Memref.isWhole_whole _) arg4 harg4 arg5 harg5 arg6 harg6 arg7 harg7 arg8 harg8 bufM (Memref.isWhole_whole _) cc0_scratch1) K } := by
  refine ⟨?_, fun K f => ?run⟩
  case run =>
    rw [cc0_ffn_eq_skeleton]; unfold cc0_ffn_skel
    simp -proj only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HB, HX, HS, Hk⟩
    obtain rfl := harg2.eq_unread hf0; obtain rfl := harg4.eq_unread hf1; obtain rfl := harg5.eq_unread hf2
    obtain rfl := harg6.eq_unread hf3; obtain rfl := harg7.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexact HS

set_option maxHeartbeats 2000000 in
/-- A point in between: the accumulator `x5` takes the block's product. -/
noncomputable def runB (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : ¬ k0_cond1 i = 1#1) (hc1 : ¬ k0_cond2 i = 1#1)
    (x0 : Vec F S1024x2048 .bf16) (x1 x2 : Vec F S2048x512 .bf16) (x3 : Vec F S512x2048 .bf16) (x4 : Vec F S1x2048 .f32)
    (x5 : Vec F S1024x2048 .f32) :
    { L : List (View.Piece (Elt F) S1024x2048 .f32) //
      ∀ (K : PUnit → sProp 𝕄),
        iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare x5
            ∗ (iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ f, arg8.view.loc (c : Thread nD τ) ↦[arg8.view.set]{fullShare} arg8.view.writes (Elt F) f L)) -∗ K ⟨⟩))
          ⊢ wp frame (wpE (defs₀ (F := F)) Variants.none c none) Set.univ
              (cc0_ffn i arg2 harg2 hM (Memref.isWhole_whole _) arg4 harg4 arg5 harg5 arg6 harg6 arg7 harg7 arg8 harg8 bufM (Memref.isWhole_whole _) cc0_scratch1) K } := by
  refine ⟨?_, fun K => ?run⟩
  case run =>
    rw [cc0_ffn_eq_skeleton]; unfold cc0_ffn_skel
    simp -proj only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg4.eq_unread hf1; obtain rfl := harg5.eq_unread hf2
    obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

set_option maxHeartbeats 2000000 in
/-- The last point of a row block: the rows asked for at its first point `i₀` have arrived before they are read. -/
noncomputable def runC (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : ¬ k0_cond1 i = 1#1) (hc1 : k0_cond2 i = 1#1) (i₀ : grid0.Coords) (hi₀ : k0_cond1 i₀ = 1#1)
    (x0 : Vec F S1024x2048 .bf16) (x1 x2 : Vec F S2048x512 .bf16) (x3 : Vec F S512x2048 .bf16) (x4 : Vec F S1x2048 .f32)
    (x5 : Vec F S1024x2048 .f32) (x : Buf (Elt F) (hM.view.loc (c : Thread nD τ))) :
    { L : List (View.Piece (Elt F) S1024x2048 .f32) //
      ∀ (K : PUnit → sProp 𝕄) (f : Buf (Elt F) (bufM.view.loc (c : Thread nD τ))) (W : Waits sig Unit),
        iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare x5 ∗ flying c i₀ hi₀ x f ∗ owes (c : Thread nD τ) 0 W
            ∗ (iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ f, arg8.view.loc (c : Thread nD τ) ↦[arg8.view.set]{fullShare} arg8.view.writes (Elt F) f L)
            ∗ (∃ f, bufM.view.loc (c : Thread nD τ) ↦[bufM.view.set]{fullShare} f)
            ∗ ((rowsM i₀ hi₀).view.loc (c : Thread nD τ) ↦[(rowsM i₀ hi₀).view.set]{fullShare} x)
            ∗ semVal ((c : Thread nD τ), SemLoc.dma sem0) 0 ∗ (∃ W, owes (c : Thread nD τ) 0 W)) -∗ K ⟨⟩))
          ⊢ wp frame (wpE (defs₀ (F := F)) Variants.none c none) Set.univ
              (cc0_ffn i arg2 harg2 hM (Memref.isWhole_whole _) arg4 harg4 arg5 harg5 arg6 harg6 arg7 harg7 arg8 harg8 bufM (Memref.isWhole_whole _) cc0_scratch1) K } := by
  refine ⟨?_, fun K f W => ?run⟩
  case run =>
    rw [cc0_ffn_eq_skeleton]; unfold cc0_ffn_skel
    simp -proj only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HF, HO, Hk⟩
    obtain rfl := harg2.eq_unread hf0; obtain rfl := harg4.eq_unread hf1; obtain rfl := harg5.eq_unread hf2
    obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HF_dst]; · iexists _; iexact HF_dst
    isplitl [HF_src]; · iexact HF_src
    isplitl [HF]; · iexact HF
    iexists _; iexact HO

end Cert.FeedRuns

end
-- ==== Proof.FeedBody.lean ====
/-
  The feed-forward kernel run over its grid of 8 row blocks by 11 column blocks: what the accumulator holds after each
  point, where the residual's rows are between points, and the launch that follows.
-/
module

public import proofs.«01_k».proof.Proof.FeedRuns
public import Idealize.ShloMosaic.Lib.Pipeline.FrameBody
public import Idealize.ShloMosaic.Lib.Ring
public import Idealize.ShloMosaic.Lib.Pipeline.Frame
public import Idealize.ShloMosaic.Lib.Quiescent
public import Idealize.ShloMosaic.Lib.Transfers
public import Idealize.ShloMosaic.Lib.Tactic

@[expose] public section

set_option maxRecDepth 16384

noncomputable section

namespace Cert.FeedBody

open Cert.Kernel2Ideal Cert.Kernel2Ideal.Gen Cert.FeedRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## A point writes all of the accumulator -/

theorem coverA (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : k0_cond1 i = 1#1) (hc1 : ¬ k0_cond2 i = 1#1)
    (x0 : Vec F S1024x2048 .bf16) (x1 x2 : Vec F S2048x512 .bf16) (x3 : Vec F S512x2048 .bf16) (x4 : Vec F S1x2048 .f32)
    (x : Buf (Elt F) (hM.view.loc (c : Thread nD τ))) (y : S1024x2048.Idx) :
    ∃ pc ∈ (runA c i arg2 harg2 arg4 harg4 arg5 harg5 arg6 harg6 arg7 harg7 arg8 harg8 hc0 hc1 x0 x1 x2 x3 x4 x).1, y ∈ pc.1.set :=
  View.cover_of_tiledL (runA c i arg2 harg2 arg4 harg4 arg5 harg5 arg6 harg6 arg7 harg7 arg8 harg8 hc0 hc1 x0 x1 x2 x3 x4 x).1 S1024x512.size (by sl_kernel_rfl) y

theorem coverB (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : ¬ k0_cond1 i = 1#1) (hc1 : ¬ k0_cond2 i = 1#1)
    (x0 : Vec F S1024x2048 .bf16) (x1 x2 : Vec F S2048x512 .bf16) (x3 : Vec F S512x2048 .bf16) (x4 : Vec F S1x2048 .f32)
    (x5 : Vec F S1024x2048 .f32) (y : S1024x2048.Idx) :
    ∃ pc ∈ (runB c i arg2 harg2 arg4 harg4 arg5 harg5 arg6 harg6 arg7 harg7 arg8 harg8 hc0 hc1 x0 x1 x2 x3 x4 x5).1, y ∈ pc.1.set :=
  View.cover_of_tiledL (runB c i arg2 harg2 arg4 harg4 arg5 harg5 arg6 harg6 arg7 harg7 arg8 harg8 hc0 hc1 x0 x1 x2 x3 x4 x5).1 S1024x512.size (by sl_kernel_rfl) y

theorem coverC (c : Dev nD) (i : grid0.Coords) (arg2 : Memref sig .tc .vmem S1024x2048 .bf16) (harg2 : arg2.IsWhole)
    (arg4 : Memref sig .tc .vmem S2048x512 .bf16) (harg4 : arg4.IsWhole) (arg5 : Memref sig .tc .vmem S2048x512 .bf16) (harg5 : arg5.IsWhole)
    (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole)
    (hc0 : ¬ k0_cond1 i = 1#1) (hc1 : k0_cond2 i = 1#1) (i₀ : grid0.Coords) (hi₀ : k0_cond1 i₀ = 1#1)
    (x0 : Vec F S1024x2048 .bf16) (x1 x2 : Vec F S2048x512 .bf16) (x3 : Vec F S512x2048 .bf16) (x4 : Vec F S1x2048 .f32)
    (x5 : Vec F S1024x2048 .f32) (x : Buf (Elt F) (hM.view.loc (c : Thread nD τ))) (y : S1024x2048.Idx) :
    ∃ pc ∈ (runC c i arg2 harg2 arg4 harg4 arg5 harg5 arg6 harg6 arg7 harg7 arg8 harg8 hc0 hc1 i₀ hi₀ x0 x1 x2 x3 x4 x5 x).1, y ∈ pc.1.set :=
  View.cover_of_tiledL (runC c i arg2 harg2 arg4 harg4 arg5 harg5 arg6 harg6 arg7 harg7 arg8 harg8 hc0 hc1 i₀ hi₀ x0 x1 x2 x3 x4 x5 x).1 S1024x512.size (by sl_kernel_rfl) y

/-! ## Which kind of point -/

theorem cond1_iff (t : Fin cfg0.N) : k0_cond1 (grid0.coords t) = 1#1 ↔ t.val % 11 = 0 := by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond1, e0, e1]
  word_cmp

theorem cond2_iff (t : Fin cfg0.N) : k0_cond2 (grid0.coords t) = 1#1 ↔ t.val % 11 = 10 := by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond2, e0, e1]
  word_cmp

/-- The first point of the row block that point `n` is in. -/
def first (n : ℕ) : Fin cfg0.N := ⟨n / 11 % 8 * 11, by rw [show cfg0.N = 88 from N_0]; omega⟩
theorem first_cond (n : ℕ) : k0_cond1 (grid0.coords (first n)) = 1#1 := (cond1_iff _).mpr (by show n / 11 % 8 * 11 % 11 = 0; omega)
theorem first_self (t : Fin cfg0.N) (h : t.val % 11 = 0) : first t.val = t :=
  Fin.ext (by have ht : t.val < 88 := Nat.lt_of_lt_of_eq t.isLt N_0
              show t.val / 11 % 8 * 11 = t.val; omega)
theorem first_succ (n : ℕ) (h : (n + 1) % 11 ≠ 0) : first (n + 1) = first n :=
  Fin.ext (by show (n + 1) / 11 % 8 * 11 = n / 11 % 8 * 11; omega)

/-! ## The operands a point is handed -/

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)

/-- The view the accumulator's contents are read through: any whole buffer of its shape does. -/
abbrev VO : View sig .tc .vmem S1024x2048 .f32 := (Memref.whole cc0_stg5_0 : Memref sig .tc .vmem S1024x2048 .f32).view

/-! ## What a point leaves in the accumulator -/

def outA (c : Dev nD) (t : Fin cfg0.N) (h : t.val % 11 = 0) : Vec F S1024x2048 .f32 :=
  VO.read (Elt F) (VO.writes (Elt F) VO.junk (runA c (grid0.coords t) (ms0 t) (hs0 t) (ms1 t) (hs1 t) (ms2 t) (hs2 t) (ms3 t) (hs3 t) (ms4 t) (hs4 t) (ms5 t) (hs5 t) ((cond1_iff t).mpr h) (fun e => by have := (cond2_iff t).mp e; omega)
    (iblk m c 0 t) (iblk m c 1 t) (iblk m c 2 t) (iblk m c 3 t) (iblk m c 4 t) (V m c main_arg1)).1)

def outB (c : Dev nD) (t : Fin cfg0.N) (h : t.val % 11 ≠ 0) (h' : t.val % 11 ≠ 10) (acc : Vec F S1024x2048 .f32) : Vec F S1024x2048 .f32 :=
  VO.read (Elt F) (VO.writes (Elt F) VO.junk (runB c (grid0.coords t) (ms0 t) (hs0 t) (ms1 t) (hs1 t) (ms2 t) (hs2 t) (ms3 t) (hs3 t) (ms4 t) (hs4 t) (ms5 t) (hs5 t) (fun e => h ((cond1_iff t).mp e)) (fun e => h' ((cond2_iff t).mp e))
    (iblk m c 0 t) (iblk m c 1 t) (iblk m c 2 t) (iblk m c 3 t) (iblk m c 4 t) acc).1)

def outC (c : Dev nD) (t : Fin cfg0.N) (h : t.val % 11 = 10) (acc : Vec F S1024x2048 .f32) : Vec F S1024x2048 .f32 :=
  VO.read (Elt F) (VO.writes (Elt F) VO.junk (runC c (grid0.coords t) (ms0 t) (hs0 t) (ms1 t) (hs1 t) (ms2 t) (hs2 t) (ms3 t) (hs3 t) (ms4 t) (hs4 t) (ms5 t) (hs5 t) (fun e => by have := (cond1_iff t).mp e; omega) ((cond2_iff t).mpr h)
    (grid0.coords (first t.val)) (first_cond t.val) (iblk m c 0 t) (iblk m c 1 t) (iblk m c 2 t) (iblk m c 3 t) (iblk m c 4 t) acc (V m c main_arg1)).1)

/-- The accumulator after point `n`: begun afresh at the first point of a row block, else from the point before. -/
def outs (c : Dev nD) : (n : ℕ) → n < cfg0.N → Vec F S1024x2048 .f32
  | 0, hn => outA m c ⟨0, hn⟩ rfl
  | n + 1, hn =>
    if h : (n + 1) % 11 = 0 then outA m c ⟨n + 1, hn⟩ h
    else if h' : (n + 1) % 11 = 10 then outC m c ⟨n + 1, hn⟩ h' (outs c n (Nat.lt_of_succ_lt hn))
    else outB m c ⟨n + 1, hn⟩ h h' (outs c n (Nat.lt_of_succ_lt hn))

/-- The point before one that is not the first of all. -/
abbrev before (t : Fin cfg0.N) : Fin cfg0.N := ⟨t.val - 1, Nat.lt_of_le_of_lt (Nat.sub_le _ _) t.isLt⟩

theorem outs_A (c : Dev nD) (t : Fin cfg0.N) (h : t.val % 11 = 0) : outs m c t.val t.isLt = outA m c t h := by
  obtain ⟨n, hn⟩ := t
  cases n with
  | zero => rfl
  | succ n => unfold outs; rw [dif_pos h]

theorem outs_B (c : Dev nD) (t : Fin cfg0.N) (h : t.val % 11 ≠ 0) (h' : t.val % 11 ≠ 10) :
    outs m c t.val t.isLt = outB m c t h h' (outs m c (before t).val (before t).isLt) := by
  obtain ⟨n, hn⟩ := t
  cases n with
  | zero => exact absurd rfl h
  | succ n => rw [outs, dif_neg h, dif_neg h']; rfl

theorem outs_C (c : Dev nD) (t : Fin cfg0.N) (h : t.val % 11 = 10) :
    outs m c t.val t.isLt = outC m c t h (outs m c (before t).val (before t).isLt) := by
  obtain ⟨n, hn⟩ := t
  cases n with
  | zero => exact absurd h (by show ¬ 0 % 11 = 10; decide)
  | succ n => rw [outs, dif_neg (by simp only at h; omega), dif_pos h]; rfl

/-! ## Where the residual's rows are -/

/-- Nothing under way: the buffer at some contents, the counter at zero, the residual whole. -/
def atRest (c : Dev nD) : sProp 𝕄 :=
  iprop((∃ f, bufM.view.loc (c : Thread nD τ) ↦[bufM.view.set]{fullShare} f) ∗ semVal ((c : Thread nD τ), SemLoc.dma sem0) 0
    ∗ (((c : Thread nD τ).loc main_arg1) ↦{fullShare} V m c main_arg1) ∗ (∃ r, prngReg c r))

/-- The rows of the row block begun at point `t₀` under way, the rest of the residual held. -/
def underWay (c : Dev nD) (t₀ : Fin cfg0.N) (h : k0_cond1 (grid0.coords t₀) = 1#1) : sProp 𝕄 :=
  iprop((∃ f, flying c (grid0.coords t₀) h (V m c main_arg1) f)
    ∗ (((c : Thread nD τ).loc main_arg1) ↦[Finset.univ \ (rowsM (grid0.coords t₀) h).view.set]{fullShare} V m c main_arg1)
    ∗ (∃ r, prngReg c r))

def between (c : Dev nD) (n : ℕ) : sProp 𝕄 :=
  if n % 11 = 0 then atRest m c else underWay m c (first n) (first_cond n)

theorem underWay_congr (c : Dev nD) {t t' : Fin cfg0.N} (e : t = t') (h h') : underWay m c t h = underWay m c t' h' := by
  subst e; rfl

theorem rows_split (c : Dev nD) (i : grid0.Coords) (h : k0_cond1 i = 1#1) (x : Buf (Elt F) (hM.view.loc (c : Thread nD τ))) :
    (((c : Thread nD τ).loc main_arg1) ↦{fullShare} x : sProp 𝕄)
      ⊣⊢ iprop(((rowsM i h).view.loc (c : Thread nD τ) ↦[(rowsM i h).view.set]{fullShare} x)
        ∗ (((c : Thread nD τ).loc main_arg1) ↦[Finset.univ \ (rowsM i h).view.set]{fullShare} x)) :=
  pointsTo_split_subset (Finset.subset_univ _)

/-! ## The pipeline's data -/

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t.val t.isLt
  Φ p := between m c p.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outs m c t.val t.isLt := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- At a point that does not begin a row block the accumulator is as the point before left it. -/
theorem before_5 (c : Dev nD) (t : Fin cfg0.N) (h : t.val % 11 ≠ 0) (d) :
    (dats m 0 c).before 5 t d = outs m c (before t).val (before t).isLt :=
  ((dats m 0 c).before_out_kept 5 rfl t (fun e => h (by rw [e]))
    (by
      rw [← Bool.not_eq_true]; intro e
      have := (flush0_5 _).mp e
      simp only at this; omega) (fun _ => rfl) (fun _ _ => rfl) d).trans (after_5 m c _)

/-! ## One point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.castSucc = between m c t.val from rfl, show (dats m 0 c).Φ t.succ = between m c (t.val + 1) from rfl,
    after_0, after_1, after_2, after_3, after_4, after_5]
  by_cases h0 : t.val % 11 = 0
  · have hb : between m c t.val = atRest m c := if_pos h0
    have ha : between m c (t.val + 1) = underWay m c t ((cond1_iff t).mpr h0) :=
      (if_neg (by omega)).trans (underWay_congr m c ((first_succ _ (by omega)).trans (first_self t h0)) _ _)
    rw [hb, ha, outs_A m c t h0,
      show (dats m 0 c).owesAt () t.succ = (dats m 0 c).owesAt () t.castSucc from rfl]
    unfold atRest underWay outA
    iintro ⟨⟨⟨%f, HB⟩, HS, HX, Hg⟩, Ho, ⟨%d0, H0⟩, ⟨%d1, H1⟩, ⟨%d2, H2⟩, ⟨%d3, H3⟩, ⟨%d4, H4⟩, ⟨%d5, H5⟩⟩
    ihave HX := (rows_split c (grid0.coords t) ((cond1_iff t).mpr h0) (V m c main_arg1)).1 $$ HX
    icases HX with ⟨HX, HR⟩
    iapply ((runA c (grid0.coords t) _ _ _ _ _ _ _ _ _ _ _ _ ((cond1_iff t).mpr h0) (fun e => by have := (cond2_iff t).mp e; omega)
      (iblk m c 0 t) (iblk m c 1 t) (iblk m c 2 t) (iblk m c 3 t) (iblk m c 4 t) (V m c main_arg1)).2 _ f)
    isplitl [H0]; · iexact H0
    isplitl [H1]; · iexact H1
    isplitl [H2]; · iexact H2
    isplitl [H3]; · iexact H3
    isplitl [H4]; · iexact H4
    isplitl [H5]; · iexists _; iexact H5
    isplitl [HB]; · iexact HB
    isplitl [HX]; · iexact HX
    isplitl [HS]; · iexact HS
    iintro ⟨H0, H1, H2, H3, H4, ⟨%e5, H5⟩, HF⟩
    isplitl [HF HR Hg]
    · isplitl [HF]; · iexists _; iexact HF
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _ _)
  · by_cases h1 : t.val % 11 = 10
    · have hb : between m c t.val = underWay m c (first t.val) (first_cond t.val) := if_neg h0
      have ha : between m c (t.val + 1) = atRest m c := if_pos (by omega)
      rw [hb, ha, outs_C m c t h1]
      simp only [before_5 m c t h0]
      unfold atRest underWay outC Dat.owesAt Pipeline.owesWithin
      rw [show (dats m 0 c).owed t.castSucc = 0 from rfl, show (dats m 0 c).owed t.succ = 0 from rfl]
      iintro ⟨⟨⟨%f, HF⟩, HR, Hg⟩, ⟨%W, -, Ho⟩, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ (fun e => by have := (cond1_iff t).mp e; omega) ((cond2_iff t).mpr h1)
        (grid0.coords (first t.val)) (first_cond t.val) (iblk m c 0 t) (iblk m c 1 t) (iblk m c 2 t) (iblk m c 3 t) (iblk m c 4 t) (outs m c (before t).val (before t).isLt) (V m c main_arg1)).2 _ f W)
      isplitl [H0]; · iexact H0
      isplitl [H1]; · iexact H1
      isplitl [H2]; · iexact H2
      isplitl [H3]; · iexact H3
      isplitl [H4]; · iexact H4
      isplitl [H5]; · iexact H5
      isplitl [HF]; · iexact HF
      isplitl [Ho]; · iexact Ho
      iintro ⟨H0, H1, H2, H3, H4, ⟨%e5, H5⟩, HB, HX, HS, ⟨%W', Ho⟩⟩
      isplitl [HB HX HR HS Hg]
      · isplitl [HB]; · iexact HB
        isplitl [HS]; · iexact HS
        isplitl [HX HR]
        · iapply (rows_split c (grid0.coords (first t.val)) (first_cond t.val) (V m c main_arg1)).2
          isplitl [HX]; · iexact HX
          iexact HR
        iexact Hg
      isplitl [Ho]
      · iexists W'; isplitr; · ipureintro; exact fun _ _ => Or.inl trivial
        iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC c _ _ _ _ _ _ _ _ _ _ _ _ _ _ _ _ _ _ _ _ _ _ _ _)
    · have hb : between m c t.val = underWay m c (first t.val) (first_cond t.val) := if_neg h0
      have ha : between m c (t.val + 1) = underWay m c (first t.val) (first_cond t.val) :=
        (if_neg (by omega)).trans (underWay_congr m c (first_succ _ (by omega)) _ _)
      rw [hb, ha, outs_B m c t h0 h1,
        show (dats m 0 c).owesAt () t.succ = (dats m 0 c).owesAt () t.castSucc from rfl]
      simp only [before_5 m c t h0]
      unfold outB
      iintro ⟨HΦ, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ (fun e => h0 ((cond1_iff t).mp e)) (fun e => h1 ((cond2_iff t).mp e))
        (iblk m c 0 t) (iblk m c 1 t) (iblk m c 2 t) (iblk m c 3 t) (iblk m c 4 t) (outs m c (before t).val (before t).isLt)).2 _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The one semaphore the kernel keeps for its copy, and the operand it copies from. -/
abbrev osem : Fin 1 → SemLoc sig := fun _ => SemLoc.dma 11
theorem osem_facts : Pipeline.OwnSemFacts spec0 osem := by decide
theorem osem_eq (c : Dev nD) :
    (Pipeline.ownSems0 (Ix := Unit) (Name := ℕ) (U := UD sig nD τ) (Lvl := ℕ) (Val := Elt F) (τ := τ) osem c : sProp 𝕄)
      = semVal ((c : Thread nD τ), SemLoc.dma sem0) 0 := by
  rw [Pipeline.ownSems0_eq_of_list c osem [0] (by decide) (by decide)]; rfl
abbrev kept : Finset (Ref sig .tc) := {main_arg1}
theorem kept_sub : kept ⊆ Pipeline.restRefs sig spec0 := by decide

theorem rest_eq (c : Dev nD) : (Pipeline.ΦD osem spec0 kept (V m) c : sProp 𝕄)
    = iprop((∃ f : Buf (Elt F) ((c : Thread nD τ).loc cc0_scratch0), ((c : Thread nD τ).loc cc0_scratch0) ↦{fullShare} f) ∗ (∃ r, prngReg c r)
      ∗ semVal ((c : Thread nD τ), SemLoc.dma sem0) 0 ∗ (((c : Thread nD τ).loc main_arg1) ↦{fullShare} V m c main_arg1)) := by
  rw [Pipeline.ΦD_eq, scopedRest0_eq, osem_eq, BI.bigSep_singleton]

theorem rest_in (c : Dev nD) : (Pipeline.ΦD osem spec0 kept (V m) c : sProp 𝕄) ⊢ atRest m c := by
  rw [rest_eq]; unfold atRest
  iintro ⟨⟨%f, HB⟩, Hg, HS, HX⟩
  isplitl [HB]
  · iexists f; rw [View.set_whole]; iexact HB
  isplitl [HS]; · iexact HS
  isplitl [HX]; · iexact HX
  iexact Hg

theorem rest_out (c : Dev nD) : (atRest m c : sProp 𝕄) ⊢ Pipeline.ΦD osem spec0 kept (V m) c := by
  rw [rest_eq]; unfold atRest
  rw [View.set_whole]
  iintro ⟨⟨%f, HB⟩, HS, HX, Hg⟩
  isplitl [HB]
  · iexists f; iexact HB
  isplitl [Hg]; · iexact Hg
  isplitl [HS]; · iexact HS
  iexact HX

theorem hmain (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: every array of the pipeline at what the points wrote back, every other buffer as it was, the counters at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts kept kept_sub m ρ main
    (hbody := fun c => (body_obligation m c).loose) (hshare := fun c => (dats m 0 c).share_full fun _ => rfl)
    (howed := fun _ _ => rfl) (V := V m) (hmain := hmain m Variants.none) (hA := A_eq m)
    (hin := fun c => rest_in m c)
    (hout := fun c => (Entails.of_eq (show between m c (Fin.last cfg0.N).val = atRest m c from
      if_pos (by rw [Fin.val_last, show cfg0.N = 88 from N_0]))).trans (rest_out m c))

/-- Every argument ends as it began, and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c)⟩, h.2⟩) (run_main m ρ)

end Cert.FeedBody

end
-- ==== Proof.Sigmoid.lean ====
/- The sigmoid a kernel writes with a hyperbolic tangent is the one the reference writes with an exponential, at every
   extended real. -/
module

public import Idealize.ShloMosaic.Lib.Pointwise
public import Idealize.ShloMosaic.Lib.Claim

@[expose] public section

noncomputable section

namespace Cert.Sigmoid

open Idealize.ShloMosaic

/-- One half, as the program spells it. -/
theorem half_bits : Ideal.ofBits .f32 1056964608#32 = ((1 / 2 : ℝ) : EReal) := by
  simp [Ideal.ofBits, Ideal.ieee, -EReal.coe_mul]; norm_num

/-- `½ + ½ tanh(x/2) = 1/(1 + e^(-x))` for a real `x`. -/
theorem half_tanh_real (r : ℝ) : 1 / 2 + 1 / 2 * Real.tanh (1 / 2 * r) = (1 + Real.exp (-r))⁻¹ := by
  have hp := Real.exp_pos (1 / 2 * r)
  have hn := Real.exp_pos (-(1 / 2 * r))
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  rw [Real.tanh_eq_sinh_div_cosh, Real.sinh_eq, Real.cosh_eq, e1]
  generalize Real.exp (1 / 2 * r) = a at *
  generalize Real.exp (-(1 / 2 * r)) = b at *
  have h1 : a + b ≠ 0 := by positivity
  have h2 : 1 + b * b ≠ 0 := by positivity
  field_simp
  linear_combination 2 * b * e2

/-- The same at every extended real. -/
theorem half_tanh (x : EReal) : ((1 / 2 : ℝ) : EReal) + ((1 / 2 : ℝ) : EReal) * Ideal.tanh (((1 / 2 : ℝ) : EReal) * x)
    = Ideal.logistic x := by
  have hpos : (0 : ℝ) < 1 / 2 := by norm_num
  induction x with
  | bot =>
    rw [EReal.coe_mul_bot_of_pos hpos, Ideal.tanh_bot, Ideal.logistic_bot, ← EReal.coe_one, ← EReal.coe_neg, ← EReal.coe_mul,
      ← EReal.coe_add]
    norm_num
  | top =>
    rw [EReal.coe_mul_top_of_pos hpos, Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, half_tanh_real]

/-- The kernel's spelling of it is `1/(1 + e^(-x))`. -/
theorem half_tanh_bits (x : EReal) :
    Ideal.ofBits .f32 1056964608#32 + Ideal.ofBits .f32 1056964608#32 * Ideal.tanh (Ideal.ofBits .f32 1056964608#32 * x)
      = Ideal.div 1 (1 + Ideal.exp (-x)) := by
  rw [half_bits]; exact half_tanh x

end Cert.Sigmoid

end
-- ==== Proof.FeedValue.lean ====
/- The feed-forward kernel read at the extended reals: its result is the reference's. -/
module

public import proofs.«01_k».proof.Proof.FeedBody
public import proofs.«01_k».proof.Proof.Sigmoid
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FeedValue

open Cert.Kernel2Ideal Cert.Kernel2Ideal.Gen Cert.FeedRuns Cert.FeedBody
open Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-! ## The blocks a point is handed -/

/-- Every window's block index at every grid point. -/
theorem idx : ∀ t : Fin cfg0.N, win0_0.index t = ![t.val / 11, 0] ∧ win0_1.index t = ![0, t.val % 11] ∧
    win0_2.index t = ![0, t.val % 11] ∧ win0_3.index t = ![t.val % 11, 0] ∧ win0_4.index t = ![0, 0] ∧
    win0_5.index t = ![t.val / 11, 0] :=
  (by decide +kernel : ∀ t : Fin grid0.N, _)

/-- A block of the normalised input is its rows. -/
theorem block0 (c : Dev nD) (t : Fin cfg0.N) (a : Fin 1024) (k : Fin 2048) (r : Fin 8192) (hr : r.val = t.val / 11 * 1024 + a.val) :
    iblk m c 0 t (ix2 a k) = m ((c : Thread nD τ).loc main_arg0) (ix2 r k) := by
  have he : (win0_0.blk t).view.emb (ix2 a k) = ix2 r k := by
    blk_ext [(idx t).1]
  unfold iblk
  blk_simp
  rw [he]
  entry_read
  rfl

/-- A block of the gate weights is its columns. -/
theorem block1 (c : Dev nD) (t : Fin cfg0.N) (k : Fin 2048) (j : Fin 512) (q : Fin 5632) (hq : q.val = t.val % 11 * 512 + j.val) :
    iblk m c 1 t (ix2 k j) = m ((c : Thread nD τ).loc main_arg2) (ix2 k q) := by
  have he : (win0_1.blk t).view.emb (ix2 k j) = ix2 k q := by
    blk_ext [(idx t).2.1]
  unfold iblk
  blk_simp
  rw [he]
  entry_read
  rfl

/-- A block of the up weights is its columns. -/
theorem block2 (c : Dev nD) (t : Fin cfg0.N) (k : Fin 2048) (j : Fin 512) (q : Fin 5632) (hq : q.val = t.val % 11 * 512 + j.val) :
    iblk m c 2 t (ix2 k j) = m ((c : Thread nD τ).loc main_arg3) (ix2 k q) := by
  have he : (win0_2.blk t).view.emb (ix2 k j) = ix2 k q := by
    blk_ext [(idx t).2.2.1]
  unfold iblk
  blk_simp
  rw [he]
  entry_read
  rfl

/-- A block of the down weights is its rows. -/
theorem block3 (c : Dev nD) (t : Fin cfg0.N) (j : Fin 512) (k : Fin 2048) (q : Fin 5632) (hq : q.val = t.val % 11 * 512 + j.val) :
    iblk m c 3 t (ix2 j k) = m ((c : Thread nD τ).loc main_arg4) (ix2 q k) := by
  have he : (win0_3.blk t).view.emb (ix2 j k) = ix2 q k := by
    blk_ext [(idx t).2.2.2.1]
  unfold iblk
  blk_simp
  rw [he]
  entry_read
  rfl

/-- The scale's one block is the scale. -/
theorem block4 (c : Dev nD) (t : Fin cfg0.N) (k : Fin 2048) :
    iblk m c 4 t (ix2 0 k) = m ((c : Thread nD τ).loc main_arg5) (ix1 k) := by
  have he : (win0_4.blk t).view.emb (ix2 0 k) = ix2 0 k := by
    blk_ext [(idx t).2.2.2.2.1]
  unfold iblk
  blk_simp
  rw [he]
  entry_read
  pointwise

/-! ## The hidden columns -/

/-- The reference's hidden value at row `r`, column `q`. -/
def hidden (c : Dev nD) (r : Fin 8192) (q : Fin 5632) : EReal :=
  val_main_v6 (F := Ideal) (m ((c : Thread nD τ).loc main_arg0)) (m ((c : Thread nD τ).loc main_arg2)) (m ((c : Thread nD τ).loc main_arg3)) (ix2 r q)

/-- The first half of a point's hidden columns. -/
def low (c : Dev nD) (t : Fin cfg0.N) : FVec Ideal S1024x256 .bf16 :=
  k0_pay4 (F := Ideal) (iblk m c 0 t)
    (View.ld (iblk m c 1 t) (Rect.unit (s := S2048x512) ![0, 0] ![2048, 256] inb_S2048x512_S2048x256_0_0))
    (View.ld (iblk m c 2 t) (Rect.unit (s := S2048x512) ![0, 0] ![2048, 256] inb_S2048x512_S2048x256_0_0))

/-- The second half. -/
def high (c : Dev nD) (t : Fin cfg0.N) : FVec Ideal S1024x256 .bf16 :=
  k0_pay5 (F := Ideal) (iblk m c 0 t)
    (View.ld (iblk m c 1 t) (Rect.unit (s := S2048x512) ![0, 256] ![2048, 256] inb_S2048x512_S2048x256_0_256))
    (View.ld (iblk m c 2 t) (Rect.unit (s := S2048x512) ![0, 256] ![2048, 256] inb_S2048x512_S2048x256_0_256))

theorem low_point (c : Dev nD) (t : Fin cfg0.N) (a : Fin 1024) (j : Fin 256) (r : Fin 8192) (hr : r.val = t.val / 11 * 1024 + a.val)
    (q : Fin 5632) (hq : q.val = t.val % 11 * 512 + j.val) : low m c t (ix2 a j) = hidden m c r q := by
  unfold low hidden
  have h0 : ∀ k, iblk m c 0 t (ix2 a k) = m ((c : Thread nD τ).loc main_arg0) (ix2 r k) := fun k => block0 m c t a k r hr
  have h1 : ∀ k, iblk m c 1 t (ix2 k (⟨j.val, by omega⟩ : Fin 512)) = m ((c : Thread nD τ).loc main_arg2) (ix2 k q) := fun k => block1 m c t k _ q hq
  have h2 : ∀ k, iblk m c 2 t (ix2 k (⟨j.val, by omega⟩ : Fin 512)) = m ((c : Thread nD τ).loc main_arg3) (ix2 k q) := fun k => block2 m c t k _ q hq
  generalize iblk m c 0 t = n at *
  generalize iblk m c 1 t = g at *
  generalize iblk m c 2 t = u at *
  pointwise [k0_pay4, val_main_v6, val_main_v5, val_main_call0_v5, val_main_call0_v4, val_main_call0_v3, val_main_call0_v2, val_main_call0_v1, val_main_call0_v0, val_main_call0_cst, val_main_call0_cst_0, val_main_v4, val_main_v3, val_main_v2, val_main_v1, val_main_v0]
  simp only [Sigmoid.half_tanh_bits, h0, h1, h2]

theorem high_point (c : Dev nD) (t : Fin cfg0.N) (a : Fin 1024) (j : Fin 256) (r : Fin 8192) (hr : r.val = t.val / 11 * 1024 + a.val)
    (q : Fin 5632) (hq : q.val = t.val % 11 * 512 + (256 + j.val)) : high m c t (ix2 a j) = hidden m c r q := by
  unfold high hidden
  have h0 : ∀ k, iblk m c 0 t (ix2 a k) = m ((c : Thread nD τ).loc main_arg0) (ix2 r k) := fun k => block0 m c t a k r hr
  have h1 : ∀ k, iblk m c 1 t (ix2 k (⟨256 + j.val, by omega⟩ : Fin 512)) = m ((c : Thread nD τ).loc main_arg2) (ix2 k q) := fun k => block1 m c t k _ q hq
  have h2 : ∀ k, iblk m c 2 t (ix2 k (⟨256 + j.val, by omega⟩ : Fin 512)) = m ((c : Thread nD τ).loc main_arg3) (ix2 k q) := fun k => block2 m c t k _ q hq
  generalize iblk m c 0 t = n at *
  generalize iblk m c 1 t = g at *
  generalize iblk m c 2 t = u at *
  pointwise [k0_pay5, val_main_v6, val_main_v5, val_main_call0_v5, val_main_call0_v4, val_main_call0_v3, val_main_call0_v2, val_main_call0_v1, val_main_call0_v0, val_main_call0_cst, val_main_call0_cst_0, val_main_v4, val_main_v3, val_main_v2, val_main_v1, val_main_v0]
  simp only [Sigmoid.half_tanh_bits, h0, h1, h2]

/-! ## What a point adds -/

/-- The product of a point's hidden columns with its rows of the down weights. -/
def part (A B : FVec Ideal S1024x256 .bf16) (w : Vec Ideal S512x2048 .bf16) (y : S1024x2048.Idx) : EReal :=
  (∑ k : Fin 256, (A (ix2 (y 0) k) : EReal) * (w (ix2 (⟨k.val, by omega⟩ : Fin 512) (y 1)) : EReal))
    + ∑ k : Fin 256, (B (ix2 (y 0) k) : EReal) * (w (ix2 (⟨256 + k.val, by omega⟩ : Fin 512) (y 1)) : EReal)

/-- The accumulator with a point's product added. -/
def added (A B : FVec Ideal S1024x256 .bf16) (w : Vec Ideal S512x2048 .bf16) (acc : Vec Ideal S1024x2048 .f32) : Vec Ideal S1024x2048 .f32 :=
  fun y => (acc y : EReal) + part A B w y

theorem tile0 (A B : FVec Ideal S1024x256 .bf16) (w : Vec Ideal S512x2048 .bf16) (a : Vec Ideal S1024x512 .f32) (acc : Vec Ideal S1024x2048 .f32) (y : S1024x2048.Idx)
    (x : S1024x512.Idx) (h0 : (y 0).val = (x 0).val) (h1 : (y 1).val = (x 1).val) (ha : a x = acc y) :
    k0_pay6 (F := Ideal) A B (View.ld w (Rect.unit (s := S512x2048) ![0, 0] ![256, 512] inb_S512x2048_S256x512_0_0))
      (View.ld w (Rect.unit (s := S512x2048) ![256, 0] ![256, 512] inb_S512x2048_S256x512_256_0)) a x = added A B w acc y := by
  unfold added part
  pointwise [k0_pay6]
  refine Ideal.add_congr ha (Ideal.add_congr (Finset.sum_congr rfl fun k _ => Ideal.mul_congr (congrArg A ?_) (congrArg w ?_))
    (Finset.sum_congr rfl fun k _ => Ideal.mul_congr (congrArg B ?_) (congrArg w ?_))) <;> blk_ext

theorem tile1 (A B : FVec Ideal S1024x256 .bf16) (w : Vec Ideal S512x2048 .bf16) (a : Vec Ideal S1024x512 .f32) (acc : Vec Ideal S1024x2048 .f32) (y : S1024x2048.Idx)
    (x : S1024x512.Idx) (h0 : (y 0).val = (x 0).val) (h1 : (y 1).val = 512 + (x 1).val) (ha : a x = acc y) :
    k0_pay7 (F := Ideal) A B (View.ld w (Rect.unit (s := S512x2048) ![0, 512] ![256, 512] inb_S512x2048_S256x512_0_512))
      (View.ld w (Rect.unit (s := S512x2048) ![256, 512] ![256, 512] inb_S512x2048_S256x512_256_512)) a x = added A B w acc y := by
  unfold added part
  pointwise [k0_pay7]
  refine Ideal.add_congr ha (Ideal.add_congr (Finset.sum_congr rfl fun k _ => Ideal.mul_congr (congrArg A ?_) (congrArg w ?_))
    (Finset.sum_congr rfl fun k _ => Ideal.mul_congr (congrArg B ?_) (congrArg w ?_))) <;> blk_ext

theorem tile2 (A B : FVec Ideal S1024x256 .bf16) (w : Vec Ideal S512x2048 .bf16) (a : Vec Ideal S1024x512 .f32) (acc : Vec Ideal S1024x2048 .f32) (y : S1024x2048.Idx)
    (x : S1024x512.Idx) (h0 : (y 0).val = (x 0).val) (h1 : (y 1).val = 1024 + (x 1).val) (ha : a x = acc y) :
    k0_pay8 (F := Ideal) A B (View.ld w (Rect.unit (s := S512x2048) ![0, 1024] ![256, 512] inb_S512x2048_S256x512_0_1024))
      (View.ld w (Rect.unit (s := S512x2048) ![256, 1024] ![256, 512] inb_S512x2048_S256x512_256_1024)) a x = added A B w acc y := by
  unfold added part
  pointwise [k0_pay8]
  refine Ideal.add_congr ha (Ideal.add_congr (Finset.sum_congr rfl fun k _ => Ideal.mul_congr (congrArg A ?_) (congrArg w ?_))
    (Finset.sum_congr rfl fun k _ => Ideal.mul_congr (congrArg B ?_) (congrArg w ?_))) <;> blk_ext

theorem tile3 (A B : FVec Ideal S1024x256 .bf16) (w : Vec Ideal S512x2048 .bf16) (a : Vec Ideal S1024x512 .f32) (acc : Vec Ideal S1024x2048 .f32) (y : S1024x2048.Idx)
    (x : S1024x512.Idx) (h0 : (y 0).val = (x 0).val) (h1 : (y 1).val = 1536 + (x 1).val) (ha : a x = acc y) :
    k0_pay1 (F := Ideal) A B (View.ld w (Rect.unit (s := S512x2048) ![0, 1536] ![256, 512] inb_S512x2048_S256x512_0_1536))
      (View.ld w (Rect.unit (s := S512x2048) ![256, 1536] ![256, 512] inb_S512x2048_S256x512_256_1536)) a x = added A B w acc y := by
  unfold added part
  pointwise [k0_pay1]
  refine Ideal.add_congr ha (Ideal.add_congr (Finset.sum_congr rfl fun k _ => Ideal.mul_congr (congrArg A ?_) (congrArg w ?_))
    (Finset.sum_congr rfl fun k _ => Ideal.mul_congr (congrArg B ?_) (congrArg w ?_))) <;> blk_ext

/-- Columns of the accumulator, loaded. -/
theorem load_at (acc : Vec Ideal S1024x2048 .f32) (o : ℕ) (inb) (y : S1024x2048.Idx) (x : S1024x512.Idx) (h0 : (y 0).val = (x 0).val)
    (h1 : (y 1).val = o + (x 1).val) : View.ld acc (Rect.unit (s := S1024x2048) ![0, o] ![1024, 512] inb) x = acc y :=
  View.ld_unit_apply_of acc _ _ inb x y (Fin.forall_fin_two.mpr ⟨h0.trans (Nat.zero_add _).symm, h1⟩)
theorem at_row (o : ℕ) (inb) (x : S1024x512.Idx) : ((Rect.unit (s := S1024x2048) ![0, o] ![1024, 512] inb).emb x 0).val = (x 0).val :=
  (ValueKit.rect_emb_unit_val _ _ inb x 0).trans (Nat.zero_add _)
theorem at_col (o : ℕ) (inb) (x : S1024x512.Idx) : ((Rect.unit (s := S1024x2048) ![0, o] ![1024, 512] inb).emb x 1).val = o + (x 1).val :=
  ValueKit.rect_emb_unit_val _ _ inb x 1

theorem stepB (c : Dev nD) (t : Fin cfg0.N) (h h') (acc) :
    outB m c t h h' acc = added (low m c t) (high m c t) (iblk m c 3 t) acc := by
  funext y
  unfold outB
  frame_out
  canon_tiles x h
  · exact tile3 _ _ _ _ _ y x h0 h1 (load_at acc _ _ y x h0 h1)
  · exact tile2 _ _ _ _ _ y x h0 h1 (load_at acc _ _ y x h0 h1)
  · exact tile1 _ _ _ _ _ y x h0 h1 (load_at acc _ _ y x h0 h1)
  · exact tile0 _ _ _ _ _ y x h0 h1 (load_at acc _ _ y x h0 (h1.trans (Nat.zero_add _).symm))

theorem zero_point (y : S1024x2048.Idx) : k0_pay3 (F := Ideal) y = (0 : EReal) := by
  pointwise [k0_pay3]

theorem stepA (c : Dev nD) (t : Fin cfg0.N) (h) :
    outA m c t h = added (low m c t) (high m c t) (iblk m c 3 t) (k0_pay3 (F := Ideal)) := by
  funext y
  unfold outA
  frame_out
  refine View.canon_append_of_piecesOf (added (low m c t) (high m c t) (iblk m c 3 t) (k0_pay3 (F := Ideal))) [_] [_, _, _, _] ?_ y (View.cover_of_tiledBy _ ![1024, 512] (by sl_kernel_rfl) y)
  refine ⟨fun x => ?_, fun x => ?_, fun x => ?_, fun x => ?_, trivial⟩
  · refine tile3 _ _ _ _ _ _ x (at_row _ (by decide) x) (at_col _ (by decide) x) ?_
    rw [View.readCov_skip _ _ _ _ _ (by decide), View.readCov_skip _ _ _ _ _ (by decide), View.readCov_skip _ _ _ _ _ (by decide), View.readCov_fill _ _ _ _ _ (by decide)]
    exact (zero_point _).trans (zero_point _).symm
  · refine tile2 _ _ _ _ _ _ x (at_row _ (by decide) x) (at_col _ (by decide) x) ?_
    rw [View.readCov_skip _ _ _ _ _ (by decide), View.readCov_skip _ _ _ _ _ (by decide), View.readCov_fill _ _ _ _ _ (by decide)]
    exact (zero_point _).trans (zero_point _).symm
  · refine tile1 _ _ _ _ _ _ x (at_row _ (by decide) x) (at_col _ (by decide) x) ?_
    rw [View.readCov_skip _ _ _ _ _ (by decide), View.readCov_fill _ _ _ _ _ (by decide)]
    exact (zero_point _).trans (zero_point _).symm
  · refine tile0 _ _ _ _ _ _ x (at_row _ (by decide) x) ((at_col _ (by decide) x).trans (Nat.zero_add _)) ?_
    rw [View.readCov_fill _ _ _ _ _ (by decide)]
    exact (zero_point _).trans (zero_point _).symm

/-- A row of a point's row block. -/
def row (t : Fin cfg0.N) (a : Fin 1024) : Fin 8192 :=
  ⟨t.val / 11 * 1024 + a.val, by have ht : t.val < 88 := Nat.lt_of_lt_of_eq t.isLt N_0; omega⟩

/-- Where the copy of a row block's residual begins. -/
theorem off_eq : ∀ t : Fin cfg0.N, k0_off1 (grid0.coords t) = ![t.val / 11 * 1024, 0] :=
  (by decide +kernel : ∀ t : Fin grid0.N, _)

/-- The residual's rows of a point's row block. -/
def rows (c : Dev nD) (t : Fin cfg0.N) : Vec Ideal S1024x2048 .f32 := fun y =>
  m ((c : Thread nD τ).loc main_arg1) (ix2 (row t (y 0)) (y 1))

theorem stepC (c : Dev nD) (t : Fin cfg0.N) (h) (acc) :
    outC m c t h acc = k0_pay2 (F := Ideal) (rows m c t) (added (low m c t) (high m c t) (iblk m c 3 t) acc) (iblk m c 4 t) := by
  funext y
  unfold outC
  frame_out
  refine congrFun (congrArg₂ (fun a b => k0_pay2 a b (iblk m c 4 t)) ?_ ?_) y
  · refine (View.readCov_cons_unit_lit' _ _ _ _ _ (by decide) (by decide)).trans ?_
    funext x
    show V m c main_arg1 _ = _
    rw [V_main_arg1]
    unfold rows
    refine congrArg _ ?_
    have ho := off_eq (first t.val)
    have hd : (first t.val).val / 11 = t.val / 11 := by
      have ht : t.val < 88 := Nat.lt_of_lt_of_eq t.isLt N_0
      show t.val / 11 % 8 * 11 / 11 = t.val / 11
      omega
    funext d
    apply Fin.ext
    refine (ValueKit.view_emb_slice_whole_unit_val main_arg1 _ _ _ x d).trans ?_
    rw [hd] at ho
    match d with
    | ⟨0, _⟩ => exact congrArg (· + (x 0).val) (congrFun ho 0)
    | ⟨1, _⟩ => exact (congrArg (· + (x 1).val) (congrFun ho 1)).trans (Nat.zero_add _)
  · funext x
    refine (congrFun ((View.readCov_eq_canon_ld _ _ _ fun z => View.cover_of_tiledBy _ ![1024, 512] (by sl_kernel_rfl) z).trans
      (View.ld_unit_lit' _ _ (by decide))) x).trans ?_
    canon_tiles z h
    · exact tile3 _ _ _ _ _ x z h0 h1 (load_at acc _ _ x z h0 h1)
    · exact tile2 _ _ _ _ _ x z h0 h1 (load_at acc _ _ x z h0 h1)
    · exact tile1 _ _ _ _ _ x z h0 h1 (load_at acc _ _ x z h0 h1)
    · exact tile0 _ _ _ _ _ x z h0 h1 (load_at acc _ _ x z h0 (h1.trans (Nat.zero_add _).symm))

/-! ## A row block's points together -/

/-- A hidden column of a point's column block. -/
def col (g : ℕ) (j : Fin 512) : Fin 5632 := ⟨g % 11 * 512 + j.val, by have := Nat.mod_lt g (show 0 < 11 by decide); omega⟩

/-- What column block `g` adds at row `r`, column `k`. -/
def block (c : Dev nD) (r : Fin 8192) (k : Fin 2048) (g : ℕ) : EReal :=
  ∑ j : Fin 512, hidden m c r (col g j) * (m ((c : Thread nD τ).loc main_arg4) (ix2 (col g j) k) : EReal)

theorem block_mod (c : Dev nD) (r : Fin 8192) (k : Fin 2048) (g : ℕ) : block m c r k (g % 11) = block m c r k g := by
  unfold block col
  simp only [Nat.mod_mod]

theorem part_eq (c : Dev nD) (t : Fin cfg0.N) (a : Fin 1024) (k : Fin 2048) :
    part (low m c t) (high m c t) (iblk m c 3 t) (ix2 a k) = block m c (row t a) k t.val := by
  unfold part block
  refine Eq.trans ?_ (Fin.sum_univ_add (a := 256) (b := 256) fun j : Fin 512 =>
    hidden m c (row t a) (col t.val j) * (m ((c : Thread nD τ).loc main_arg4) (ix2 (col t.val j) k) : EReal)).symm
  refine Ideal.add_congr (Finset.sum_congr rfl fun j _ => ?_) (Finset.sum_congr rfl fun j _ => ?_)
  · exact Ideal.mul_congr (low_point m c t a j (row t a) rfl (col t.val (Fin.castAdd 256 j)) rfl)
      (block3 m c t ⟨j.val, by omega⟩ k (col t.val (Fin.castAdd 256 j)) rfl)
  · exact Ideal.mul_congr (high_point m c t a j (row t a) rfl (col t.val (Fin.natAdd 256 j)) rfl)
      (block3 m c t ⟨256 + j.val, by omega⟩ k (col t.val (Fin.natAdd 256 j)) rfl)

theorem begun (c : Dev nD) (t : Fin cfg0.N) (h : t.val % 11 = 0) (a : Fin 1024) (k : Fin 2048) :
    (outs m c t.val t.isLt (ix2 a k) : EReal) = ∑ g ∈ Finset.range (t.val % 11 + 1), block m c (row t a) k g := by
  rw [outs_A m c t h, stepA, h, Finset.sum_range_one]
  refine (Ideal.add_congr (zero_point _) (part_eq m c t a k)).trans ((zero_add _).trans ?_)
  rw [← block_mod, h]

/-- Before its last point, a row block's accumulator is the sum of the column blocks so far. -/
theorem partly (c : Dev nD) : ∀ (n : ℕ) (hn : n < cfg0.N), n % 11 ≠ 10 → ∀ (a : Fin 1024) (k : Fin 2048),
    (outs m c n hn (ix2 a k) : EReal) = ∑ g ∈ Finset.range (n % 11 + 1), block m c (row ⟨n, hn⟩ a) k g := by
  intro n
  induction n with
  | zero => exact fun hn _ a k => begun m c ⟨0, hn⟩ rfl a k
  | succ n ih =>
    intro hn h' a k
    by_cases h : (n + 1) % 11 = 0
    · exact begun m c ⟨n + 1, hn⟩ h a k
    · have hr : row ⟨n, Nat.lt_of_succ_lt hn⟩ a = row ⟨n + 1, hn⟩ a :=
        Fin.ext (by show n / 11 * 1024 + _ = (n + 1) / 11 * 1024 + _; rw [show n / 11 = (n + 1) / 11 by omega])
      rw [outs_B m c ⟨n + 1, hn⟩ h h', stepB]
      refine (Ideal.add_congr (ih (Nat.lt_of_succ_lt hn) (by omega) a k) (part_eq m c ⟨n + 1, hn⟩ a k)).trans ?_
      rw [hr, show (n + 1) % 11 = n % 11 + 1 by omega, Finset.sum_range_succ (n := n % 11 + 1)]
      exact congrArg _ ((block_mod m c _ _ (n + 1)).symm.trans (congrArg _ (show (n + 1) % 11 = n % 11 + 1 by omega)))

/-- The column blocks together are the reference's product. -/
theorem whole (c : Dev nD) (r : Fin 8192) (k : Fin 2048) : ∑ g ∈ Finset.range 11, block m c r k g
    = val_main_v8 (F := Ideal) (m ((c : Thread nD τ).loc main_arg0)) (m ((c : Thread nD τ).loc main_arg2))
      (m ((c : Thread nD τ).loc main_arg3)) (m ((c : Thread nD τ).loc main_arg4)) (ix2 r k) := by
  have hv : val_main_v8 (F := Ideal) (m ((c : Thread nD τ).loc main_arg0)) (m ((c : Thread nD τ).loc main_arg2))
      (m ((c : Thread nD τ).loc main_arg3)) (m ((c : Thread nD τ).loc main_arg4)) (ix2 r k)
      = ∑ q : Fin 5632, hidden m c r q * (m ((c : Thread nD τ).loc main_arg4) (ix2 q k) : EReal) := by
    unfold hidden
    pointwise [val_main_v8, val_main_v7]
  rw [hv, Finset.sum_range, Fin.sum_univ_tiles 11 512 rfl]
  refine Finset.sum_congr rfl fun g _ => Finset.sum_congr rfl fun j _ => ?_
  have he : ∀ h, (⟨g.val * 512 + j.val, h⟩ : Fin 5632) = col g.val j := fun h =>
    Fin.ext (by show _ = g.val % 11 * 512 + j.val; rw [Nat.mod_eq_of_lt g.isLt])
  rw [he]

/-- What a row block's last point leaves. -/
theorem last_point (c : Dev nD) (t : Fin cfg0.N) (h : t.val % 11 = 10) (a : Fin 1024) (n : Fin 2048) :
    outs m c t.val t.isLt (ix2 a n) = val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix2 (row t a) n) := by
  rw [outs_C m c t h, stepC]
  have ht : t.val < 88 := Nat.lt_of_lt_of_eq t.isLt N_0
  have hb : (before t).val % 11 = 9 := by show (t.val - 1) % 11 = 9; omega
  have hr : ∀ a, row (before t) a = row t a := fun a =>
    Fin.ext (by show (t.val - 1) / 11 * 1024 + _ = t.val / 11 * 1024 + _; rw [show (t.val - 1) / 11 = t.val / 11 by omega])
  have hS : ∀ k : Fin 2048, added (low m c t) (high m c t) (iblk m c 3 t) (outs m c (before t).val (before t).isLt) (ix2 a k)
      = val_main_v8 (F := Ideal) (m ((c : Thread nD τ).loc main_arg0)) (m ((c : Thread nD τ).loc main_arg2))
        (m ((c : Thread nD τ).loc main_arg3)) (m ((c : Thread nD τ).loc main_arg4)) (ix2 (row t a) k) := by
    intro k
    refine (Ideal.add_congr (partly m c (before t).val (before t).isLt (by omega) a k) (part_eq m c t a k)).trans ?_
    refine Eq.trans ?_ (whole m c (row t a) k)
    rw [hb, Finset.sum_range_succ (n := 10)]
    refine Ideal.add_congr (Finset.sum_congr rfl fun g _ => ?_) ?_
    · exact congrArg (fun r => block m c r k g) (hr a)
    · exact (block_mod m c _ _ t.val).symm.trans (congrArg _ h)
  have h4 : ∀ k, iblk m c 4 t (ix2 0 k) = m ((c : Thread nD τ).loc main_arg5) (ix1 k) := block4 m c t
  have hR : ∀ k : Fin 2048, rows m c t (ix2 a k) = m ((c : Thread nD τ).loc main_arg1) (ix2 (row t a) k) := fun _ => rfl
  generalize added (low m c t) (high m c t) (iblk m c 3 t) (outs m c (before t).val (before t).isLt) = S at *
  generalize rows m c t = R at *
  generalize iblk m c 4 t = g at *
  pointwise [k0_pay2, val_main_v22, val_main_v21, val_main_v20, val_main_v19, val_main_v18, val_main_v17, val_main_v16, val_main_v15, val_main_v14, val_main_v13, val_main_v12, val_main_v11, val_main_v10, val_main_v9, val_main_cst, val_main_cst_0, val_main_cst_1]
  simp only [hS, hR, h4]

/-- The result as the reference has it. -/
theorem final5 (c : Dev nD) : (dats m 0 c).arrAt 5 (cfgs 0).N
    = val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 5 _ (by decide +kernel) fun t hf y => ?_
  blk_simp
  rw [after_5]
  have ht : t.val < 88 := t.isLt
  have hy : (y 0).val < 1024 := (y 0).isLt
  have he : ((cfg0.win 5).blk t).view.emb y = ix2 (row t (y 0)) (y 1) := by
    unfold row
    blk_ext [(idx t).2.2.2.2.2]
  refine ((congrArg _ (eq_ix2 y)).trans (last_point m c t ((flush0_5 t).mp hf) (y 0) (y 1))).trans ?_
  exact (congrArg _ he).symm

variable (ρ : Dev nD → PrngReg)

/-- The launch, its result named. -/
theorem run_blocks : θ_run defs (onTc (τ := τ) (main (F := Ideal))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 5,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c)⟩) (run_main m ρ)

end Cert.FeedValue

end
-- ==== Proof.FeedClaims.lean ====
/- The claims about the feed-forward kernel: its frames, and its value at the extended reals. -/
module

public import proofs.«01_k».proof.Defs
public import proofs.«01_k».proof.Proof.Gen.Kernel2.Frame
public import proofs.«01_k».proof.Proof.FeedValue
public import Idealize.ShloMosaic.Lib.Quiescent

@[expose] public section

noncomputable section

namespace Cert.FeedClaims

open Idealize.ShloMosaic Idealize.ShloMosaic.TcCoe Idealize.SL.Sem

/-- The two programs run the same body. -/
theorem body_eq : Cert.Kernel2.defs₀ (F := Bits) = Cert.Kernel2Ideal.defs₀ (F := Bits) := by
  unfold Cert.Kernel2.defs₀ Cert.Kernel2Ideal.defs₀
  refine congrArg Defs.onTc ?_
  funext l x
  match l with
  | 0 => rfl

theorem defs_eq : Cert.Kernel2.defs (F := Bits) = Cert.Kernel2Ideal.defs (F := Bits) := by
  unfold Cert.Kernel2.defs Cert.Kernel2Ideal.defs
  exact congrArg (Pipeline.defs Cert.Kernel2.pcfgs) body_eq

/-- The kernel ends, its arguments and counters as they were: the idealized kernel's run, taken at the bits. -/
theorem frame_kernel : Cert.quiescent_Kernel2 := fun m g _ => by
  rw [defs_eq]
  exact FeedBody.frame (F := Bits) m g

/-- So does the idealized kernel. -/
theorem frame_ideal : Cert.quiescent_Kernel2Ideal := fun m g _ => FeedBody.frame (F := Ideal) m g

/-- So does the reference, which has no semaphore. -/
theorem frame_reference : Cert.quiescent_Reference2Ideal := fun m g _ =>
  (θ_run Cert.Reference2Ideal.defs _ _).mono
    (fun r h => ⟨fun c => (h c).2, sem_eq_zero_of_no_sems (by decide) r.2⟩)
    (Cert.Reference2Ideal.Value.run m g)

/-- The kernel's result is the reference's. -/
theorem values : Cert.algebraic_Kernel2Ideal_Reference2Ideal := by
  pair_intro
  · run_from FeedValue.run_blocks m g
  · run_from Cert.Reference2Ideal.Value.run m' g'
    exact (Cert.Reference2Ideal.Read.val_main_v22_eq _ _ _ _ _ _).trans (FeedValue.final5 m c).symm

end Cert.FeedClaims

end
-- ==== Proof.MergeValue.lean ====
module
public import proofs.«01_k».proof.Proof.Gen.Kernel3Ideal.Value
public import proofs.«01_k».proof.Proof.Gen.Reference3Ideal.Read
public import proofs.«01_k».proof.Proof.Sigmoid
public import Idealize.ShloMosaic.Lib.Pipeline.ValueKit
public import Idealize.ShloMosaic.Lib.Pointwise
public import Idealize.ShloMosaic.Lib.Claim

/-! The gated merge of the two mixers: the array the launch leaves is the reference's. A point takes 1024 rows and 1024
    columns of the result and writes them in four groups of 256 columns. -/

@[expose] public section

set_option maxRecDepth 16384

noncomputable section

namespace Cert.MergeValue

open Idealize.ShloMosaic Idealize.ShloMosaic.TcCoe Idealize.SL.Sem
open Cert.Kernel3Ideal Cert.Kernel3Ideal.Gen
open Cert.Reference3Ideal.Read
open Idealize.ShloMosaic.Pipeline (Dat)

/-! ## One block, written plainly -/

/-- The logistic function. -/
def logistic (x : EReal) : EReal := Ideal.div 1 (1 + Ideal.exp (-x))

/-- The merge of a block of rows with a block of columns. -/
def merged (A : Vec Ideal S1024x2048 .bf16) (Y : Vec Ideal S1024x1024 .f32) (P : Vec Ideal S2048x1024 .bf16)
    (V G L R : Vec Ideal S1024x1024 .bf16) (a k : Fin 1024) : EReal :=
  logistic (L (ix2 a k)) * (∑ q : Fin 2048, (A (ix2 a q) : EReal) * (P (ix2 q k) : EReal))
    + logistic (R (ix2 a k)) * ((∑ q : Fin 1024, (Y (ix2 a q) : EReal) * (V (ix2 q k) : EReal))
      * logistic (∑ q : Fin 1024, (Y (ix2 a q) : EReal) * (G (ix2 q k) : EReal)))

theorem whole (A : Vec Ideal S1024x2048 .bf16) (Y : Vec Ideal S1024x1024 .f32) (P : Vec Ideal S2048x1024 .bf16)
    (V G L R : Vec Ideal S1024x1024 .bf16) (y : S1024x1024.Idx) :
    out0_7 (F := Ideal) A Y P V G L R y = merged A Y P V G L R (y 0) (y 1) := by
  unfold_out out0_7
  canon_tiles x h
  · pointwise [k0_pay1, k0_pay2, k0_pay17, k0_pay18, k0_pay19, k0_pay20]
    simp only [Sigmoid.half_tanh_bits]
    have e0 : y 0 = x 0 := Fin.ext h0
    have e1 : y 1 = (⟨768 + (x 1).val, by omega⟩ : Fin 1024) := Fin.ext h1
    rw [e0, e1]
    rfl
  · pointwise [k0_pay2, k0_pay12, k0_pay13, k0_pay14, k0_pay15, k0_pay16, k0_pay20]
    simp only [Sigmoid.half_tanh_bits]
    have e0 : y 0 = x 0 := Fin.ext h0
    have e1 : y 1 = (⟨512 + (x 1).val, by omega⟩ : Fin 1024) := Fin.ext h1
    rw [e0, e1]
    rfl
  · pointwise [k0_pay2, k0_pay8, k0_pay9, k0_pay10, k0_pay11, k0_pay20]
    simp only [Sigmoid.half_tanh_bits]
    have e0 : y 0 = x 0 := Fin.ext h0
    have e1 : y 1 = (⟨256 + (x 1).val, by omega⟩ : Fin 1024) := Fin.ext h1
    rw [e0, e1]
    rfl
  · pointwise [k0_pay2, k0_pay3, k0_pay4, k0_pay5, k0_pay6, k0_pay7]
    simp only [Sigmoid.half_tanh_bits]
    have e0 : y 0 = x 0 := Fin.ext h0
    have e1 : y 1 = (⟨(x 1).val, by omega⟩ : Fin 1024) := Fin.ext h1
    rw [e0, e1]
    rfl

/-! ## The blocks of a point -/

/-- Which block of its array each operand's buffer holds. -/
theorem idx : ∀ t : Fin cfg0.N, win0_0.index t = ![t.val / 2, 0] ∧ win0_1.index t = ![t.val / 2, 0] ∧
    win0_2.index t = ![0, t.val % 2] ∧ win0_3.index t = ![0, t.val % 2] ∧ win0_4.index t = ![0, t.val % 2] ∧
    win0_5.index t = ![t.val / 2, t.val % 2] ∧ win0_6.index t = ![t.val / 2, 2 + t.val % 2] ∧
    win0_7.index t = ![t.val / 2, t.val % 2] :=
  (by decide +kernel : ∀ t : Fin grid0.N, _)

variable (m : (ℓ : Loc nD τ sig) → Buf (Elt Ideal) ℓ)

theorem block0 (c : Dev nD) (t : Fin cfg0.N) (a : Fin 1024) (k : Fin 2048) (r : Fin 8192) (hr : r.val = t.val / 2 * 1024 + a.val) :
    iblk m c 0 t (ix2 a k) = m ((c : Thread nD τ).loc main_arg0) (ix2 r k) := by
  have he : (win0_0.blk t).view.emb (ix2 a k) = ix2 r k := by
    blk_ext [(idx t).1]
  unfold iblk
  blk_simp
  rw [he]

theorem block1 (c : Dev nD) (t : Fin cfg0.N) (a : Fin 1024) (k : Fin 1024) (r : Fin 8192) (hr : r.val = t.val / 2 * 1024 + a.val) :
    iblk m c 1 t (ix2 a k) = m ((c : Thread nD τ).loc main_arg1) (ix2 r k) := by
  have he : (win0_1.blk t).view.emb (ix2 a k) = ix2 r k := by
    blk_ext [(idx t).2.1]
  unfold iblk
  blk_simp
  rw [he]

theorem block2 (c : Dev nD) (t : Fin cfg0.N) (a : Fin 2048) (k : Fin 1024) (j : Fin 2048) (hj : j.val = t.val % 2 * 1024 + k.val) :
    iblk m c 2 t (ix2 a k) = m ((c : Thread nD τ).loc main_arg2) (ix2 a j) := by
  have he : (win0_2.blk t).view.emb (ix2 a k) = ix2 a j := by
    blk_ext [(idx t).2.2.1]
  unfold iblk
  blk_simp
  rw [he]

theorem block3 (c : Dev nD) (t : Fin cfg0.N) (a : Fin 1024) (k : Fin 1024) (j : Fin 2048) (hj : j.val = t.val % 2 * 1024 + k.val) :
    iblk m c 3 t (ix2 a k) = m ((c : Thread nD τ).loc main_arg3) (ix2 a j) := by
  have he : (win0_3.blk t).view.emb (ix2 a k) = ix2 a j := by
    blk_ext [(idx t).2.2.2.1]
  unfold iblk
  blk_simp
  rw [he]

theorem block4 (c : Dev nD) (t : Fin cfg0.N) (a : Fin 1024) (k : Fin 1024) (j : Fin 2048) (hj : j.val = t.val % 2 * 1024 + k.val) :
    iblk m c 4 t (ix2 a k) = m ((c : Thread nD τ).loc main_arg4) (ix2 a j) := by
  have he : (win0_4.blk t).view.emb (ix2 a k) = ix2 a j := by
    blk_ext [(idx t).2.2.2.2.1]
  unfold iblk
  blk_simp
  rw [he]

theorem block5 (c : Dev nD) (t : Fin cfg0.N) (a : Fin 1024) (k : Fin 1024) (r : Fin 8192) (hr : r.val = t.val / 2 * 1024 + a.val)
    (j : Fin 4096) (hj : j.val = t.val % 2 * 1024 + k.val) :
    iblk m c 5 t (ix2 a k) = m ((c : Thread nD τ).loc main_arg5) (ix2 r j) := by
  have he : (win0_5.blk t).view.emb (ix2 a k) = ix2 r j := by
    blk_ext [(idx t).2.2.2.2.2.1]
  unfold iblk
  blk_simp
  rw [he]

theorem block6 (c : Dev nD) (t : Fin cfg0.N) (a : Fin 1024) (k : Fin 1024) (r : Fin 8192) (hr : r.val = t.val / 2 * 1024 + a.val)
    (j : Fin 4096) (hj : j.val = (2 + t.val % 2) * 1024 + k.val) :
    iblk m c 6 t (ix2 a k) = m ((c : Thread nD τ).loc main_arg5) (ix2 r j) := by
  have he : (win0_6.blk t).view.emb (ix2 a k) = ix2 r j := by
    blk_ext [(idx t).2.2.2.2.2.2.1]
  unfold iblk
  blk_simp
  rw [he]

/-- A block's merge is the reference's entry. -/
theorem point (c : Dev nD) (t : Fin cfg0.N) (a k : Fin 1024) (r : Fin 8192) (hr : r.val = t.val / 2 * 1024 + a.val)
    (j : Fin 2048) (hj : j.val = t.val % 2 * 1024 + k.val) :
    merged (iblk m c 0 t) (iblk m c 1 t) (iblk m c 2 t) (iblk m c 3 t) (iblk m c 4 t) (iblk m c 5 t) (iblk m c 6 t) a k
      = val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 r j) := by
  have h5 := block5 m c t a k r hr ⟨j.val, by omega⟩ hj
  have h6 := block6 m c t a k r hr ⟨2048 + j.val, by omega⟩ (by show 2048 + j.val = _; omega)
  unfold merged logistic
  simp only [block0 m c t a _ r hr, block1 m c t a _ r hr, block2 m c t _ k j hj, block3 m c t _ k j hj, block4 m c t _ k j hj, h5, h6]
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

/-- The result as the reference has it. -/
theorem final7 (c : Dev nD) : (dats m 0 c).arrAt 7 (cfgs 0).N
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  blk_simp
  rw [after0_7]
  have ht : t.val < 16 := t.isLt
  have h0 : (y 0).val < 1024 := (y 0).isLt
  have h1 : (y 1).val < 1024 := (y 1).isLt
  have he : ((cfg0.win 7).blk t).view.emb y
      = ix2 (⟨t.val / 2 * 1024 + (y 0).val, by omega⟩ : Fin 8192) (⟨t.val % 2 * 1024 + (y 1).val, by omega⟩ : Fin 2048) := by
    blk_ext [(idx t).2.2.2.2.2.2.2]
  refine (whole _ _ _ _ _ _ _ y).trans ((point m c t (y 0) (y 1) ⟨_, by omega⟩ rfl ⟨t.val % 2 * 1024 + (y 1).val, by omega⟩ rfl).trans ?_)
  exact (congrArg _ he).symm

end Cert.MergeValue

end
-- ==== Proof.MergeClaims.lean ====
/- The claims about the gated merge: its frames, and its values at the extended reals. -/
module

public import proofs.«01_k».proof.Defs
public import proofs.«01_k».proof.Proof.Gen.Kernel3.Frame
public import proofs.«01_k».proof.Proof.MergeValue
public import Idealize.ShloMosaic.Lib.Quiescent

@[expose] public section

noncomputable section

namespace Cert.MergeClaims

open Idealize.ShloMosaic Idealize.ShloMosaic.TcCoe Idealize.SL.Sem

/-- The kernel ends, its arguments and counters as they were. -/
theorem frame_kernel : Cert.quiescent_Kernel3 := fun m g _ => Cert.Kernel3.Gen.frame m g

/-- So does the idealized kernel. -/
theorem frame_ideal : Cert.quiescent_Kernel3Ideal := fun m g _ => Cert.Kernel3Ideal.Gen.frame m g

/-- So does the reference, which has no semaphore. -/
theorem frame_reference : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

/-- The kernel's result is the reference's. -/
theorem values : Cert.algebraic_Kernel3Ideal_Reference3Ideal := by
  pair_intro
  · run_from Cert.Kernel3Ideal.Value.run_blocks m g
  · run_from Cert.Reference3Ideal.Value.run m' g'
    exact (Cert.Reference3Ideal.Read.val_main_v32_eq _ _ _ _ _ _).trans (MergeValue.final7 m c).symm

end Cert.MergeClaims

end
-- ==== Proof.OutValue.lean ====
module
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.Claim

/-! The output projection: the two arrays the launch leaves are the reference's. A point takes 512 rows, adds the product
    to the residual in eight groups of 256 columns, and normalises the rows it has just written. -/

@[expose] public section

set_option maxRecDepth 16384

noncomputable section

namespace Cert.OutValue

open Idealize.ShloMosaic Idealize.ShloMosaic.TcCoe Idealize.SL.Sem
open Cert.Kernel4Ideal Cert.Kernel4Ideal.Gen
open Cert.Reference4Ideal.Read
open Idealize.ShloMosaic.Pipeline (Dat)

/-! ## One block, written plainly -/

/-- The residual with the product added. -/
def added (X : Vec Ideal S512x2048 .f32) (M : Vec Ideal S512x2048 .bf16) (W : Vec Ideal S2048x2048 .bf16)
    (a : Fin 512) (k : Fin 2048) : EReal :=
  (X (ix2 a k) : EReal) + ∑ q : Fin 2048, (M (ix2 a q) : EReal) * (W (ix2 q k) : EReal)

/-- A row's sum in eight pieces. -/
theorem eight (f : Fin 2048 → EReal) :
    ((((((((∑ x : Fin 256, f ⟨x.val, by omega⟩)
      + ∑ x : Fin 256, f ⟨256 + x.val, by omega⟩)
      + ∑ x : Fin 256, f ⟨512 + x.val, by omega⟩)
      + ∑ x : Fin 256, f ⟨768 + x.val, by omega⟩)
      + ∑ x : Fin 256, f ⟨1024 + x.val, by omega⟩)
      + ∑ x : Fin 256, f ⟨1280 + x.val, by omega⟩)
      + ∑ x : Fin 256, f ⟨1536 + x.val, by omega⟩)
      + ∑ x : Fin 256, f ⟨1792 + x.val, by omega⟩)
      = ∑ q : Fin 2048, f q := by
  rw [Fin.sum_univ_tiles 8 256 rfl, Fin.sum_univ_eight]
  have h : ∀ (p q : EReal) (s : EReal), p = q → p + s = q + s := fun _ _ _ e => congrArg (· + _) e
  iterate 7 refine h _ _ _ ?_
  exact Finset.sum_congr rfl fun x _ => congrArg f (Fin.ext (Nat.zero_add _).symm)

/-- Multiplying by the 2048th part is dividing by 2048. -/
theorem mean_bits (x : EReal) : Ideal.div x (Ideal.ofBits .f32 1157627904#32) = x * Ideal.ofBits .f32 973078528#32 := by
  have h1 : Ideal.ofBits .f32 1157627904#32 = ((2048 : ℝ) : EReal) := by
    simp [Ideal.ofBits, Ideal.ieee, -EReal.coe_mul]; norm_num
  have h2 : Ideal.ofBits .f32 973078528#32 = ((1 / 2048 : ℝ) : EReal) := by
    simp [Ideal.ofBits, Ideal.ieee, -EReal.coe_mul]; norm_num
  rw [h1, h2, Ideal.div_coe (by norm_num)]

variable (m : (ℓ : Loc nD τ sig) → Buf (Elt Ideal) ℓ)

theorem first (c : Dev nD) (t : Fin cfg0.N) (y : S512x2048.Idx) :
    (outsAt0 m c t).1 y = added (iblk m c 0 t) (iblk m c 1 t) (iblk m c 2 t) (y 0) (y 1) := by
  dsimp only [outsAt0]
  unfold out0_A_4
  frame_out
  generalize iblk m c 0 t = X
  generalize iblk m c 1 t = M
  generalize iblk m c 2 t = W
  canon_tiles x h
  all_goals pointwise [k0_pay1, k0_pay2, k0_pay3, k0_pay5, k0_pay6, k0_pay7, k0_pay9, k0_pay10]
  all_goals
    have e0 : y 0 = x 0 := Fin.ext h0
    have e1 : y 1 = (⟨_, h1 ▸ (y 1).isLt⟩ : Fin 2048) := Fin.ext h1
    rw [e0, e1]
    rfl

theorem second (c : Dev nD) (t : Fin cfg0.N) (a : Fin 512) (k : Fin 2048) :
    (outsAt0 m c t).2 (ix2 a k) = added (iblk m c 0 t) (iblk m c 1 t) (iblk m c 2 t) a k
      * Ideal.rsqrt ((∑ q : Fin 2048, added (iblk m c 0 t) (iblk m c 1 t) (iblk m c 2 t) a q * added (iblk m c 0 t) (iblk m c 1 t) (iblk m c 2 t) a q)
        * Ideal.ofBits .f32 973078528#32 + Ideal.ofBits .f32 897988541#32)
      * (iblk m c 3 t (ix2 0 k) : EReal) := by
  have h1 := first m c t
  dsimp only [outsAt0] at h1 ⊢
  unfold out0_A_4 at h1
  unfold out0_A_5
  frame_out at h1
  frame_out
  refine (congrFun (congrArg (fun r => k0_pay11 _ _ _ _ _ _ r _)
    ((View.readCov_eq_canon_ld _ _ _ fun z => View.cover_of_tiledBy _ ![512, 256] (by sl_kernel_rfl) z).trans
      ((View.ld_unit_lit' _ _ (by decide)).trans (funext h1)))) _).trans ?_
  generalize iblk m c 0 t = X
  generalize iblk m c 1 t = M
  generalize iblk m c 2 t = W
  generalize iblk m c 3 t = g
  pointwise [k0_pay1, k0_pay2, k0_pay3, k0_pay4, k0_pay5, k0_pay6, k0_pay7, k0_pay8, k0_pay9, k0_pay10, k0_pay11]
  exact congrArg (fun s => added X M W a k * Ideal.rsqrt (s * Ideal.ofBits .f32 973078528#32 + Ideal.ofBits .f32 897988541#32) * (g (ix2 0 k) : EReal))
    (eight fun q => added X M W a q * added X M W a q)

/-! ## The blocks of a point -/

/-- Which block of its array each operand's buffer holds. -/
theorem idx : ∀ t : Fin cfg0.N, win0_0.index t = ![t.val, 0] ∧ win0_1.index t = ![t.val, 0] ∧
    win0_2.index t = ![0, 0] ∧ win0_3.index t = ![0, 0] ∧ win0_4.index t = ![t.val, 0] ∧ win0_5.index t = ![t.val, 0] :=
  (by decide +kernel : ∀ t : Fin grid0.N, _)

theorem block0 (c : Dev nD) (t : Fin cfg0.N) (a : Fin 512) (k : Fin 2048) (r : Fin 8192) (hr : r.val = t.val * 512 + a.val) :
    iblk m c 0 t (ix2 a k) = m ((c : Thread nD τ).loc main_arg0) (ix3 ⟨r.val / 4096, by omega⟩ ⟨r.val % 4096, by omega⟩ k) := by
  have he : (win0_0.blk t).view.emb (ix2 a k) = ix2 r k := by
    blk_ext [(idx t).1]
  unfold iblk
  blk_simp
  rw [he]
  entry_read
  pointwise

theorem block1 (c : Dev nD) (t : Fin cfg0.N) (a : Fin 512) (k : Fin 2048) (r : Fin 8192) (hr : r.val = t.val * 512 + a.val) :
    iblk m c 1 t (ix2 a k) = m ((c : Thread nD τ).loc main_arg1) (ix2 r k) := by
  have he : (win0_1.blk t).view.emb (ix2 a k) = ix2 r k := by
    blk_ext [(idx t).2.1]
  unfold iblk
  blk_simp
  rw [he]
  entry_read
  rfl

theorem block2 (c : Dev nD) (t : Fin cfg0.N) (a : Fin 2048) (k : Fin 2048) :
    iblk m c 2 t (ix2 a k) = m ((c : Thread nD τ).loc main_arg2) (ix2 a k) := by
  have he : (win0_2.blk t).view.emb (ix2 a k) = ix2 a k := by
    blk_ext [(idx t).2.2.1]
  unfold iblk
  blk_simp
  rw [he]
  entry_read
  rfl

theorem block3 (c : Dev nD) (t : Fin cfg0.N) (k : Fin 2048) :
    iblk m c 3 t (ix2 0 k) = m ((c : Thread nD τ).loc main_arg3) (ix2 0 k) := by
  have he : (win0_3.blk t).view.emb (ix2 0 k) = ix2 0 k := by
    blk_ext [(idx t).2.2.2.1]
  unfold iblk
  blk_simp
  rw [he]
  entry_read
  pointwise

/-! ## The results -/

theorem point (c : Dev nD) (t : Fin cfg0.N) (a : Fin 512) (k : Fin 2048) (r : Fin 8192) (hr : r.val = t.val * 512 + a.val) :
    added (iblk m c 0 t) (iblk m c 1 t) (iblk m c 2 t) a k
      = val_main_v4 (F := Ideal) (m ((c : Thread nD τ).loc main_arg0)) (m ((c : Thread nD τ).loc main_arg1))
        (m ((c : Thread nD τ).loc main_arg2)) (ix2 r k) := by
  unfold added
  simp only [block0 m c t a _ r hr, block1 m c t a _ r hr, block2 m c t]
  pointwise [val_main_v4, val_main_v3, val_main_v2, val_main_v1, val_main_v0]

theorem norm_point (c : Dev nD) (t : Fin cfg0.N) (a : Fin 512) (k : Fin 2048) (r : Fin 8192) (hr : r.val = t.val * 512 + a.val) :
    (outsAt0 m c t).2 (ix2 a k)
      = val_main_v19 (F := Ideal) (m ((c : Thread nD τ).loc main_arg0)) (m ((c : Thread nD τ).loc main_arg1))
        (m ((c : Thread nD τ).loc main_arg2)) (m ((c : Thread nD τ).loc main_arg3)) (ix2 r k) := by
  rw [second]
  simp only [point m c t a _ r hr, block3]
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  rw [mean_bits]

/-- The residual as the reference has it. -/
theorem final4 (c : Dev nD) : (dats m 0 c).arrAt 4 (cfgs 0).N
    = val_main_v4 (F := Ideal) (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  have ht : t.val < 16 := t.isLt
  have h0 : (y 0).val < 512 := (y 0).isLt
  have he : ((cfg0.win 4).blk t).view.emb y = ix2 (⟨t.val * 512 + (y 0).val, by omega⟩ : Fin 8192) (y 1) := by
    blk_ext [(idx t).2.2.2.2.1]
  exact (first m c t y).trans ((point m c t (y 0) (y 1) _ rfl).trans (congrArg _ he).symm)

/-- The normalised rows as the reference has them. -/
theorem final5 (c : Dev nD) : (dats m 0 c).arrAt 5 (cfgs 0).N
    = val_main_v19 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  have ht : t.val < 16 := t.isLt
  have h0 : (y 0).val < 512 := (y 0).isLt
  have he : ((cfg0.win 5).blk t).view.emb y = ix2 (⟨t.val * 512 + (y 0).val, by omega⟩ : Fin 8192) (y 1) := by
    blk_ext [(idx t).2.2.2.2.2]
  exact ((congrArg _ (eq_ix2 y)).trans (norm_point m c t (y 0) (y 1) _ rfl)).trans (congrArg _ he).symm

end Cert.OutValue

end
-- ==== Proof.OutClaims.lean ====
/- The claims about the output projection: its frames, and its values at the extended reals. -/
module

public import proofs.«01_k».proof.Defs
public import proofs.«01_k».proof.Proof.Gen.Kernel4.Frame
public import proofs.«01_k».proof.Proof.OutValue
public import Idealize.ShloMosaic.Lib.Quiescent

@[expose] public section

noncomputable section

namespace Cert.OutClaims

open Idealize.ShloMosaic Idealize.ShloMosaic.TcCoe Idealize.SL.Sem

/-- The kernel ends, its arguments and counters as they were. -/
theorem frame_kernel : Cert.quiescent_Kernel4 := fun m g _ => Cert.Kernel4.Gen.frame m g

/-- So does the idealized kernel. -/
theorem frame_ideal : Cert.quiescent_Kernel4Ideal := fun m g _ => Cert.Kernel4Ideal.Gen.frame m g

/-- So does the reference, which has no semaphore. -/
theorem frame_reference : Cert.quiescent_Reference4Ideal := fun m g _ =>
  (θ_run Cert.Reference4Ideal.defs _ _).mono
    (fun r h => ⟨fun c => (h c).2.2, sem_eq_zero_of_no_sems (by decide) r.2⟩)
    (Cert.Reference4Ideal.Value.run m g)

/-- The kernel's two results are the reference's. -/
theorem values : Cert.algebraic_Kernel4Ideal_Reference4Ideal := by
  pair_intro
  · run_from Cert.Kernel4Ideal.Value.run_blocks m g
  · run_from Cert.Reference4Ideal.Value.run m' g'
    · exact (Cert.Reference4Ideal.Read.val_main_v4_eq _ _ _).trans (OutValue.final4 m c).symm
    · exact (Cert.Reference4Ideal.Read.val_main_v19_eq _ _ _ _).trans (OutValue.final5 m c).symm

end Cert.OutClaims

end
-- ==== Proof.GateRuns.lean ====
/-
  The u-and-gates projection kernel's body, run once for each of its two kinds of point: the first column step of a
  row block, which computes u and lays its rows out sixteen to a line through the scratch buffer, and the steps after
  it, which compute 1024 gate columns each.
-/
module

public import proofs.«01_k».proof.Proof.Gen.Kernel5Ideal.Frame
public import proofs.«01_k».proof.Proof.Gen.Kernel5Ideal.Skeleton
public import Idealize.ShloMosaic.Lib.Pipeline.FrameBody
public import Idealize.ShloMosaic.Lib.Ring
public import Idealize.ShloMosaic.Lib.Tactic

@[expose] public section

set_option maxRecDepth 16384

noncomputable section

namespace Cert.GateRuns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffer. -/
abbrev scM : Memref sig .tc .vmem S8x1024x128 .f32 := Memref.whole cc0_scratch0

set_option maxHeartbeats 8000000 in
/-- The first column step: the u block is written, the gate block is not touched. -/
noncomputable def runA (c : Dev nD) (i : grid0.Coords) (arg2 : Memref sig .tc .vmem S1024x2048 .bf16) (harg2 : arg2.IsWhole)
    (arg3 : Memref sig .tc .vmem S1024x2048 .f32) (harg3 : arg3.IsWhole) (arg4 : Memref sig .tc .vmem S8x64x2048 .bf16) (harg4 : arg4.IsWhole)
    (arg5 : Memref sig .tc .vmem S1024x1024 .bf16) (harg5 : arg5.IsWhole)
    (hc0 : k0_cond1 i = 1#1) (hc1 : ¬ k0_cond2 i = 1#1)
    (x0 : Vec F S1024x2048 .bf16) (x1 : Vec F S1024x2048 .f32) :
    { L : List (View.Piece (Elt F) S8x64x2048 .bf16) //
      ∀ (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) scM fullShare d)
            ∗ (iprop(owns (c : Thread nD τ) arg2 fullShare x0 ∗ owns (c : Thread nD τ) arg3 fullShare x1
            ∗ (∃ f, arg4.view.loc (c : Thread nD τ) ↦[arg4.view.set]{fullShare} arg4.view.writes (Elt F) f L)
            ∗ (∃ f, scM.view.loc (c : Thread nD τ) ↦[scM.view.set]{fullShare} f)) -∗ K ⟨⟩))
          ⊢ wp frame (wpE (defs₀ (F := F)) Variants.none c none) Set.univ
              (cc0_ug_proj i arg2 harg2 arg3 harg3 arg4 harg4 arg5 harg5 scM (Memref.isWhole_whole _)) K } := by
  refine ⟨?_, fun K => ?run⟩
  case run =>
    rw [cc0_ug_proj_eq_skeleton]; unfold cc0_ug_proj_skel
    simp -proj only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton]
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 2000000 in
/-- A later column step: the gate block is written, the u block is not touched. -/
noncomputable def runB (c : Dev nD) (i : grid0.Coords) (arg2 : Memref sig .tc .vmem S1024x2048 .bf16) (harg2 : arg2.IsWhole)
    (arg3 : Memref sig .tc .vmem S1024x2048 .f32) (harg3 : arg3.IsWhole) (arg4 : Memref sig .tc .vmem S8x64x2048 .bf16) (harg4 : arg4.IsWhole)
    (arg5 : Memref sig .tc .vmem S1024x1024 .bf16) (harg5 : arg5.IsWhole)
    (hc0 : ¬ k0_cond1 i = 1#1) (hc1 : k0_cond2 i = 1#1)
    (x0 : Vec F S1024x2048 .bf16) (x1 : Vec F S1024x2048 .f32) :
    { L : List (View.Piece (Elt F) S1024x1024 .bf16) //
      ∀ (K : PUnit → sProp 𝕄),
        iprop(owns (c : Thread nD τ) arg2 fullShare x0 ∗ owns (c : Thread nD τ) arg3 fullShare x1
            ∗ (∃ d, owns (c : Thread nD τ) arg5 fullShare d)
            ∗ (iprop(owns (c : Thread nD τ) arg2 fullShare x0 ∗ owns (c : Thread nD τ) arg3 fullShare x1
            ∗ (∃ f, arg5.view.loc (c : Thread nD τ) ↦[arg5.view.set]{fullShare} arg5.view.writes (Elt F) f L)) -∗ K ⟨⟩))
          ⊢ wp frame (wpE (defs₀ (F := F)) Variants.none c none) Set.univ
              (cc0_ug_proj i arg2 harg2 arg3 harg3 arg4 harg4 arg5 harg5 scM (Memref.isWhole_whole _)) K } := by
  refine ⟨?_, fun K => ?run⟩
  case run =>
    rw [cc0_ug_proj_eq_skeleton]; unfold cc0_ug_proj_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.GateRuns

end
-- ==== Proof.GateBody.lean ====
/-
  The u-and-gates projection kernel run over its grid of 8 row blocks by 5 column steps: what its two results' blocks
  hold after each point, and the launch that follows. The u block is written at the first step of a row block and kept
  through the other four, after which it is written back.
-/
module

public import proofs.«01_k».proof.Proof.GateRuns
public import Idealize.ShloMosaic.Lib.Pipeline.FrameBody
public import Idealize.ShloMosaic.Lib.Ring
public import Idealize.ShloMosaic.Lib.Pipeline.Frame
public import Idealize.ShloMosaic.Lib.Quiescent
public import Idealize.ShloMosaic.Lib.Claim
public import Idealize.ShloMosaic.Lib.Tactic

@[expose] public section

set_option maxRecDepth 16384

noncomputable section

namespace Cert.GateBody

open Cert.Kernel5Ideal Cert.Kernel5Ideal.Gen Cert.GateRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each kind of point writes all of its block -/

theorem coverA (c : Dev nD) (i : grid0.Coords) (arg2 : Memref sig .tc .vmem S1024x2048 .bf16) (harg2 : arg2.IsWhole)
    (arg3 : Memref sig .tc .vmem S1024x2048 .f32) (harg3 : arg3.IsWhole) (arg4 : Memref sig .tc .vmem S8x64x2048 .bf16) (harg4 : arg4.IsWhole)
    (arg5 : Memref sig .tc .vmem S1024x1024 .bf16) (harg5 : arg5.IsWhole) (hc0 : k0_cond1 i = 1#1) (hc1 : ¬ k0_cond2 i = 1#1)
    (x0 : Vec F S1024x2048 .bf16) (x1 : Vec F S1024x2048 .f32) (y : S8x64x2048.Idx) :
    ∃ pc ∈ (runA c i arg2 harg2 arg3 harg3 arg4 harg4 arg5 harg5 hc0 hc1 x0 x1).1, y ∈ pc.1.set :=
  View.cover_of_tiledL (runA c i arg2 harg2 arg3 harg3 arg4 harg4 arg5 harg5 hc0 hc1 x0 x1).1 S1x64x128.size (by sl_kernel_rfl) y

theorem coverB (c : Dev nD) (i : grid0.Coords) (arg2 : Memref sig .tc .vmem S1024x2048 .bf16) (harg2 : arg2.IsWhole)
    (arg3 : Memref sig .tc .vmem S1024x2048 .f32) (harg3 : arg3.IsWhole) (arg4 : Memref sig .tc .vmem S8x64x2048 .bf16) (harg4 : arg4.IsWhole)
    (arg5 : Memref sig .tc .vmem S1024x1024 .bf16) (harg5 : arg5.IsWhole) (hc0 : ¬ k0_cond1 i = 1#1) (hc1 : k0_cond2 i = 1#1)
    (x0 : Vec F S1024x2048 .bf16) (x1 : Vec F S1024x2048 .f32) (y : S1024x1024.Idx) :
    ∃ pc ∈ (runB c i arg2 harg2 arg3 harg3 arg4 harg4 arg5 harg5 hc0 hc1 x0 x1).1, y ∈ pc.1.set :=
  View.cover_of_tiledL (runB c i arg2 harg2 arg3 harg3 arg4 harg4 arg5 harg5 hc0 hc1 x0 x1).1 S1024x512.size (by sl_kernel_rfl) y

/-! ## Which kind of point -/

theorem cond1_iff (t : Fin cfg0.N) : k0_cond1 (grid0.coords t) = 1#1 ↔ t.val % 5 = 0 := by
  have ht : t.val < 40 := Nat.lt_of_lt_of_eq t.isLt N_0
  have e1 : (grid0.coords t 1).val = t.val / 1 % 5 := Pipeline.Grid.coords_val t 1 (by decide) rfl
  simp only [k0_cond1, e1]
  word_cmp

theorem cond2_iff (t : Fin cfg0.N) : k0_cond2 (grid0.coords t) = 1#1 ↔ t.val % 5 ≠ 0 := by
  have : ∀ t : Fin grid0.N, k0_cond2 (grid0.coords t) = 1#1 ↔ t.val % 5 ≠ 0 := by decide +kernel
  exact this t

theorem flush_3 (t : Fin cfg0.N) : (cfg0.win 3).flush t = true ↔ t.val % 5 ≠ 0 := by
  have : ∀ t : Fin grid0.N, win0_3.flush t = true ↔ t.val % 5 ≠ 0 := by decide +kernel
  exact this t

theorem idle_2 (t : Fin cfg0.N) : cfg0.idle 2 (grid0.coords t) = true ↔ t.val % 5 ≠ 0 := by
  have : ∀ t : Fin grid0.N, cfg0.idle 2 (grid0.coords t) = true ↔ t.val % 5 ≠ 0 := by decide +kernel
  exact this t

theorem idle_3 (t : Fin cfg0.N) : cfg0.idle 3 (grid0.coords t) = true ↔ t.val % 5 = 0 := by
  have : ∀ t : Fin grid0.N, cfg0.idle 3 (grid0.coords t) = true ↔ t.val % 5 = 0 := by decide +kernel
  exact this t

/-- The first point of the row block that point `t` is in. -/
def first (t : Fin cfg0.N) : Fin cfg0.N := ⟨t.val / 5 * 5, Nat.lt_of_le_of_lt (Nat.div_mul_le_self _ _) t.isLt⟩
theorem first_mod (t : Fin cfg0.N) : (first t).val % 5 = 0 := Nat.mul_mod_left _ _
theorem first_self (t : Fin cfg0.N) (h : t.val % 5 = 0) : first t = t :=
  Fin.ext (by show t.val / 5 * 5 = t.val; omega)

/-- The point before one that is not the first of all. -/
abbrev prev (t : Fin cfg0.N) : Fin cfg0.N := ⟨t.val - 1, Nat.lt_of_le_of_lt (Nat.sub_le _ _) t.isLt⟩
theorem first_prev (t : Fin cfg0.N) (h : t.val % 5 ≠ 0) : first (prev t) = first t :=
  Fin.ext (by show (t.val - 1) / 5 * 5 = t.val / 5 * 5; omega)

/-! ## The operands a point is handed -/

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x64x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)

/-- The views the results' blocks are read through: any whole buffer of the shape does. -/
abbrev VU : View sig .tc .vmem S8x64x2048 .bf16 := (Memref.whole cc0_stg2_0 : Memref sig .tc .vmem S8x64x2048 .bf16).view
abbrev VG : View sig .tc .vmem S1024x1024 .bf16 := (Memref.whole cc0_stg3_0 : Memref sig .tc .vmem S1024x1024 .bf16).view

/-! ## What a point leaves in the results' blocks -/

def outU (c : Dev nD) (t : Fin cfg0.N) (h : t.val % 5 = 0) : Vec F S8x64x2048 .bf16 :=
  VU.read (Elt F) (VU.writes (Elt F) VU.junk (runA c (grid0.coords t) (ms0 t) (hs0 t) (ms1 t) (hs1 t) (ms2 t) (hs2 t) (ms3 t) (hs3 t)
    ((cond1_iff t).mpr h) (fun e => (cond2_iff t).mp e h) (iblk m c 0 t) (iblk m c 1 t)).1)

def outG (c : Dev nD) (t : Fin cfg0.N) (h : t.val % 5 ≠ 0) : Vec F S1024x1024 .bf16 :=
  VG.read (Elt F) (VG.writes (Elt F) VG.junk (runB c (grid0.coords t) (ms0 t) (hs0 t) (ms1 t) (hs1 t) (ms2 t) (hs2 t) (ms3 t) (hs3 t)
    (fun e => h ((cond1_iff t).mp e)) ((cond2_iff t).mpr h) (iblk m c 0 t) (iblk m c 1 t)).1)

/-- The gate block after point `t`; at a first step nothing is said of it. -/
def gates (c : Dev nD) (t : Fin cfg0.N) : Vec F S1024x1024 .bf16 :=
  if h : t.val % 5 ≠ 0 then outG m c t h else VG.read (Elt F) VG.junk

theorem outU_congr (c : Dev nD) {t t' : Fin cfg0.N} (e : t = t') (h h') : outU m c t h = outU m c t' h' := by
  subst e; rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outU m c (first t) (first_mod t)
    | ⟨3, _⟩ => gates m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outU m c (first t) (first_mod t) := by dsimp only [dats]
theorem after_3 (c : Dev nD) (t : Fin cfg0.N) : (dats m 0 c).after 3 t = gates m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Within a row block, past its first step, the u block is found as the first step left it. -/
theorem before_2 (c : Dev nD) (n : ℕ) : ∀ (t : Fin cfg0.N) (_ : t.val % 5 = n) (_ : n ≠ 0) (d),
    (dats m 0 c).before 2 t d = outU m c (first t) (first_mod t) := by
  induction n with
  | zero => intro t _ h; exact absurd rfl h
  | succ n ih =>
    intro t h _ d
    have hfl : (cfg0.win 2).flush (prev t) = false := by
      rw [← Bool.not_eq_true]; intro e
      have := (flush0_2 _).mp e
      simp only at this; omega
    rw [(dats m 0 c).before_of_pos 2 t (by omega) rfl d, if_neg (by rw [hfl]; exact Bool.false_ne_true)]
    unfold Dat.left
    by_cases hn : n = 0
    · have hi : cfg0.idle 2 (grid0.coords (prev t)) = false := by
        rw [← Bool.not_eq_true]; intro e
        exact (idle_2 _).mp e (by show (t.val - 1) % 5 = 0; omega)
      rw [hi]
      show (dats m 0 c).kept 2 (prev t) d = _
      rw [show (dats m 0 c).kept 2 (prev t) d = (dats m 0 c).after 2 (prev t) from rfl, after_2]
      exact outU_congr m c (first_prev t (by omega)) _ _
    · have hi : cfg0.idle 2 (grid0.coords (prev t)) = true := (idle_2 _).mpr (by show (t.val - 1) % 5 ≠ 0; omega)
      rw [hi]
      show (dats m 0 c).before 2 (prev t) d = _
      rw [ih (prev t) (by show (t.val - 1) % 5 = n; omega) hn d]
      exact outU_congr m c (first_prev t (by omega)) _ _

/-! ## One point -/

theorem scratch_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A window that a point stores into is left at the data's contents. -/
theorem leaves_live (c : Dev nD) (w : Fin cfg0.W) (t : Fin cfg0.N) (h : cfg0.idle w (grid0.coords t) = false) :
    ((dats m 0 c).leavesExact w t : sProp 𝕄) = owns (c : Thread nD τ) ((cfg0.win w).stage (cfg0.slots t w)) fullShare ((dats m 0 c).after w t) := by
  unfold Dat.leavesExact; rw [h]

/-- A window that a point does not store into, and that is written back after it, is at the data's contents too. -/
theorem leaves_flushed (c : Dev nD) (w : Fin cfg0.W) (t : Fin cfg0.N) (h : cfg0.idle w (grid0.coords t) = true) (hf : (cfg0.win w).flush t = true) :
    ((dats m 0 c).leavesExact w t : sProp 𝕄) = owns (c : Thread nD τ) ((cfg0.win w).stage (cfg0.slots t w)) fullShare ((dats m 0 c).after w t) := by
  unfold Dat.leavesExact; rw [h, hf]

/-- Past the first step of a row block the u block as it was found is the u block as it must be left. -/
theorem keep_2 (c : Dev nD) (t : Fin cfg0.N) (h : t.val % 5 ≠ 0) :
    iprop(∃ d, owns (c : Thread nD τ) (ms2 t) fullShare ((dats m 0 c).before 2 t d)) ⊢ ((dats m 0 c).leavesExact 2 t : sProp 𝕄) := by
  by_cases hf : t.val % 5 = 4
  · rw [leaves_flushed m c 2 t ((idle_2 t).mpr h) ((flush0_2 t).mpr hf), after_2]
    simp only [before_2 m c _ t rfl h]
    iintro ⟨%d, H⟩; iexact H
  · rw [(dats m 0 c).leavesExact_idle 2 t ((idle_2 t).mpr h) (by rw [← Bool.not_eq_true]; exact fun e => hf ((flush0_2 t).mp e))]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq,
    leaves_live m c 0 t rfl, leaves_live m c 1 t rfl, after_0, after_1]
  by_cases h0 : t.val % 5 = 0
  · rw [leaves_live m c 2 t (by rw [← Bool.not_eq_true]; exact fun e => (idle_2 t).mp e h0), after_2,
      (dats m 0 c).leavesExact_idle 3 t ((idle_3 t).mpr h0) (by rw [← Bool.not_eq_true]; exact fun e => (flush_3 t).mp e h0),
      outU_congr m c (first_self t h0) _ h0]
    unfold outU
    iintro ⟨⟨HS, Hg⟩, Ho, ⟨%d0, H0⟩, ⟨%d1, H1⟩, ⟨%d2, H2⟩, H3⟩
    iapply ((runA c (grid0.coords t) _ _ _ _ _ _ _ (hs3 t) ((cond1_iff t).mpr h0) (fun e => (cond2_iff t).mp e h0) (iblk m c 0 t) (iblk m c 1 t)).2 _)
    isplitl [H0]; · iexact H0
    isplitl [H1]; · iexact H1
    isplitl [H2]; · iexists _; iexact H2
    isplitl [HS]; · iexact HS
    iintro ⟨H0, H1, ⟨%e2, H2⟩, ⟨%fs, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA c _ _ _ _ _ _ _ _ _ _ _ _ _)
    iexact H3
  · rw [leaves_live m c 3 t (by rw [← Bool.not_eq_true]; exact fun e => h0 ((idle_3 t).mp e)), after_3,
      show gates m c t = outG m c t h0 from dif_pos h0]
    unfold outG
    iintro ⟨HΦ, Ho, ⟨%d0, H0⟩, ⟨%d1, H1⟩, H2, ⟨%d3, H3⟩⟩
    iapply ((runB c (grid0.coords t) _ _ _ _ _ (hs2 t) _ _ (fun e => h0 ((cond1_iff t).mp e)) ((cond2_iff t).mpr h0) (iblk m c 0 t) (iblk m c 1 t)).2 _)
    isplitl [H0]; · iexact H0
    isplitl [H1]; · iexact H1
    isplitl [H3]; · iexists _; iexact H3
    iintro ⟨H0, H1, ⟨%e3, H3⟩⟩
    isplitl [HΦ]; · iexact HΦ
    isplitl [Ho]; · iexact Ho
    isplitl [H0]; · iexact H0
    isplitl [H1]; · iexact H1
    isplitl [H2]; · iapply (keep_2 m c t h0); iexact H2
    unfold owns; iexists _; isplitr
    swap; · iexact H3
    ipureintro; exact View.read_writes_of_cover _ _ _ _ _ (coverB c _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- The launch: every array of the pipeline at what the points wrote back, every other buffer as it was, the counters at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Both arguments end as they began, and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateBody

end
-- ==== Proof.GateValue.lean ====
/- The u-and-gates projection read at the extended reals: what the kernel leaves in its two results is what the
   reference computes from the same arguments. -/
module

public import proofs.«01_k».proof.Proof.GateBody
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GateValue

open Cert.Kernel5Ideal Cert.Kernel5Ideal.Gen Cert.GateRuns Cert.GateBody
open Idealize.ShloMosaic Idealize.ShloMosaic.TcCoe Idealize.SL.Sem
open Idealize.ShloMosaic.Pipeline (Dat)
open Cert.Reference5Ideal.Read

/-! ## What the two kinds of point write, as functions of the two blocks they read -/

/-- A row of the input block against a row of the transposed weights' block. -/
def prod (N : Vec Ideal S1024x2048 .bf16) (W : Vec Ideal S1024x2048 .f32) (a j : Fin 1024) : EReal :=
  ∑ k : Fin 2048, (N (ix2 a k) : EReal) * (W (ix2 j k) : EReal)

/-- The scratch buffer's value: slab `q` holds columns `128 q …` of the product. -/
def slabs (N : Vec Ideal S1024x2048 .bf16) (W : Vec Ideal S1024x2048 .f32) : Vec Ideal S8x1024x128 .f32 :=
  fun y => prod N W (y 1) ⟨(y 0).val * 128 + (y 2).val, by have h0 : (y 0).val < 8 := (y 0).isLt; have h2 : (y 2).val < 128 := (y 2).isLt; omega⟩

/-- The u block: lane chunk `s` of a line of slab `q` is row `s` of the sixteen rows the line holds. -/
def lines (N : Vec Ideal S1024x2048 .bf16) (W : Vec Ideal S1024x2048 .f32) : Vec Ideal S8x64x2048 .bf16 :=
  fun y => prod N W
    ⟨(y 2).val / 128 + 16 * (y 1).val, by have h1 : (y 1).val < 64 := (y 1).isLt; have h2 : (y 2).val < 2048 := (y 2).isLt; omega⟩
    ⟨(y 0).val * 128 + (y 2).val % 128, by have h0 : (y 0).val < 8 := (y 0).isLt; have h2 : (y 2).val < 2048 := (y 2).isLt; omega⟩

/-- Sixty-four rows of the scratch buffer as they are stored. -/
def narrow (v : Vec Ideal S1x64x128 .f32) : Vec Ideal S1x64x128 .bf16 :=
  shapeCast S1x64x128 (truncf (F := Ideal) .bf16 (shapeCast S64x128 v shapeCasts_S1x64x128_S64x128 : FVec Ideal S64x128 .f32) bitsLt_bf16_f32 : FVec Ideal S64x128 .bf16) shapeCasts_S64x128_S1x64x128

theorem narrow_apply (v : Vec Ideal S1x64x128 .f32) (x : S1x64x128.Idx) : (narrow v x : EReal) = v x := by
  pointwise [narrow]

/-- Loading from the scratch buffer what lies under the last store gives that store's value. -/
theorem read_back (v : View sig .tc .vmem S8x1024x128 .f32) (r : Rect S8x1024x128) (w : r.shape.Idx → Elt Ideal .f32)
    (L : List (View.Piece (Elt Ideal) S8x1024x128 .f32)) (B : LoadRect S8x1024x128) (x : B.shape.Idx) (z : r.shape.Idx)
    (he : B.idx x = r.emb z) : v.readCov (⟨r, w⟩ :: L) B x = w z := by
  rw [View.readCov_eq_canon']
  show View.canon (⟨r, w⟩ :: L) (B.idx x) = w z
  rw [he, View.canon_cons_emb]

variable (N : Vec Ideal S1024x2048 .bf16) (W : Vec Ideal S1024x2048 .f32)

/-- One more store is a block of the same value. -/
theorem one_more (G : Vec Ideal S8x64x2048 .bf16) (r : Rect S8x64x2048) (w : r.shape.Idx → Elt Ideal .bf16)
    (L : List (View.Piece (Elt Ideal) S8x64x2048 .bf16)) (h : ∀ x, w x = G (r.emb x)) (hL : View.PiecesOf G L) :
    View.PiecesOf G (⟨r, w⟩ :: L) := ⟨h, hL⟩

/-- A column step of the scratch buffer read back after its slab was stored, and stored into the u block. -/
theorem piece (q s z : ℕ) (hq : q < 8) (hs : s < 16) (hz : z = s * 128)
    (v : View sig .tc .vmem S8x1024x128 .f32)
    (inb : ∀ a, (![q, 0, 0] : Fin 3 → ℕ) a + (![1, 1024, 128] : Fin 3 → ℕ) a ≤ S8x1024x128.size a)
    (inb' : ∀ a, (![1, 64, 128] : Fin 3 → ℕ) a = 0 ∨ (![q, s, 0] : Fin 3 → ℕ) a + (![1, 16, 1] : Fin 3 → ℕ) a * ((![1, 64, 128] : Fin 3 → ℕ) a - 1) < S8x1024x128.size a)
    (inb'' : ∀ a, (![q, 0, z] : Fin 3 → ℕ) a + (![1, 64, 128] : Fin 3 → ℕ) a ≤ S8x64x2048.size a)
    (w : (Rect.unit (s := S8x1024x128) ![q, 0, 0] ![1, 1024, 128] inb).shape.Idx → Elt Ideal .f32)
    (hw : ∀ x, w x = slabs N W ((Rect.unit (s := S8x1024x128) ![q, 0, 0] ![1, 1024, 128] inb).emb x))
    (L : List (View.Piece (Elt Ideal) S8x1024x128 .f32)) (x : S1x64x128.Idx) :
    shapeCast S1x64x128 (truncf (F := Ideal) .bf16 (shapeCast S64x128
        (v.readCov (⟨Rect.unit (s := S8x1024x128) ![q, 0, 0] ![1, 1024, 128] inb, w⟩ :: L) ⟨![q, s, 0], ![1, 64, 128], ![1, 16, 1], inb'⟩)
        shapeCasts_S1x64x128_S64x128 : FVec Ideal S64x128 .f32) bitsLt_bf16_f32 : FVec Ideal S64x128 .bf16) shapeCasts_S64x128_S1x64x128 x
      = lines N W ((Rect.unit (s := S8x64x2048) ![q, 0, z] ![1, 64, 128] inb'').emb x) := by
  have h0 : (x 0).val < 1 := (x 0).isLt
  have h1 : (x 1).val < 64 := (x 1).isLt
  have h2 : (x 2).val < 128 := (x 2).isLt
  have he : (⟨![q, s, 0], ![1, 64, 128], ![1, 16, 1], inb'⟩ : LoadRect S8x1024x128).idx x
      = (Rect.unit (s := S8x1024x128) ![q, 0, 0] ![1, 1024, 128] inb).emb (ix3 0 (⟨s + 16 * (x 1).val, by omega⟩ : Fin 1024) (x 2)) := by
    funext a
    refine Fin.ext ?_
    match a with
    | ⟨0, _⟩ => show q + 1 * (x 0).val = q + 1 * 0; omega
    | ⟨1, _⟩ => show s + 16 * (x 1).val = 0 + 1 * (s + 16 * (x 1).val); omega
    | ⟨2, _⟩ => show 0 + 1 * (x 2).val = 0 + 1 * (x 2).val; rfl
  refine (narrow_apply _ x).trans ((read_back v (Rect.unit (s := S8x1024x128) ![q, 0, 0] ![1, 1024, 128] inb) w L
    ⟨![q, s, 0], ![1, 64, 128], ![1, 16, 1], inb'⟩ x (ix3 0 (⟨s + 16 * (x 1).val, by omega⟩ : Fin 1024) (x 2)) he).trans ((hw _).trans ?_))
  unfold slabs lines
  refine congrArg₂ (prod N W) (Fin.ext ?_) (Fin.ext ?_)
  · show 0 + 1 * (s + 16 * (x 1).val) = (z + 1 * (x 2).val) / 128 + 16 * (0 + 1 * (x 1).val); omega
  · show (q + 1 * 0) * 128 + (0 + 1 * (x 2).val) = (q + 1 * (x 0).val) * 128 + (z + 1 * (x 2).val) % 128; omega

/-! ## The eight slabs stored are those of the product -/

theorem slab0 (inb' : ∀ a, (![0, 0] : Fin 2 → ℕ) a + (![256, 2048] : Fin 2 → ℕ) a ≤ S1024x2048.size a)
    (inb : ∀ a, (![0, 0, 0] : Fin 3 → ℕ) a + (![1, 1024, 128] : Fin 3 → ℕ) a ≤ S8x1024x128.size a) (x : S1x1024x128.Idx) :
    k0_pay6 (F := Ideal) N (View.ld W (Rect.unit (s := S1024x2048) ![0, 0] ![256, 2048] inb')) x
      = slabs N W ((Rect.unit (s := S8x1024x128) ![0, 0, 0] ![1, 1024, 128] inb).emb x) := by
  pointwise [k0_pay6, k0_pay5, slabs, prod]
  refine Finset.sum_congr rfl fun k _ => ?_
  refine Ideal.mul_congr (congrArg N ?_) (congrArg W ?_)
  all_goals blk_ext

theorem slab1 (inb' : ∀ a, (![0, 0] : Fin 2 → ℕ) a + (![256, 2048] : Fin 2 → ℕ) a ≤ S1024x2048.size a)
    (inb : ∀ a, (![1, 0, 0] : Fin 3 → ℕ) a + (![1, 1024, 128] : Fin 3 → ℕ) a ≤ S8x1024x128.size a) (x : S1x1024x128.Idx) :
    k0_pay25 (F := Ideal) (k0_pay5 N (View.ld W (Rect.unit (s := S1024x2048) ![0, 0] ![256, 2048] inb'))) x
      = slabs N W ((Rect.unit (s := S8x1024x128) ![1, 0, 0] ![1, 1024, 128] inb).emb x) := by
  pointwise [k0_pay25, k0_pay5, slabs, prod]
  refine Finset.sum_congr rfl fun k _ => ?_
  refine Ideal.mul_congr (congrArg N ?_) (congrArg W ?_)
  all_goals blk_ext

theorem slab2 (inb' : ∀ a, (![256, 0] : Fin 2 → ℕ) a + (![256, 2048] : Fin 2 → ℕ) a ≤ S1024x2048.size a)
    (inb : ∀ a, (![2, 0, 0] : Fin 3 → ℕ) a + (![1, 1024, 128] : Fin 3 → ℕ) a ≤ S8x1024x128.size a) (x : S1x1024x128.Idx) :
    k0_pay45 (F := Ideal) N (View.ld W (Rect.unit (s := S1024x2048) ![256, 0] ![256, 2048] inb')) x
      = slabs N W ((Rect.unit (s := S8x1024x128) ![2, 0, 0] ![1, 1024, 128] inb).emb x) := by
  pointwise [k0_pay45, k0_pay44, slabs, prod]
  refine Finset.sum_congr rfl fun k _ => ?_
  refine Ideal.mul_congr (congrArg N ?_) (congrArg W ?_)
  all_goals blk_ext

theorem slab3 (inb' : ∀ a, (![256, 0] : Fin 2 → ℕ) a + (![256, 2048] : Fin 2 → ℕ) a ≤ S1024x2048.size a)
    (inb : ∀ a, (![3, 0, 0] : Fin 3 → ℕ) a + (![1, 1024, 128] : Fin 3 → ℕ) a ≤ S8x1024x128.size a) (x : S1x1024x128.Idx) :
    k0_pay65 (F := Ideal) (k0_pay44 N (View.ld W (Rect.unit (s := S1024x2048) ![256, 0] ![256, 2048] inb'))) x
      = slabs N W ((Rect.unit (s := S8x1024x128) ![3, 0, 0] ![1, 1024, 128] inb).emb x) := by
  pointwise [k0_pay65, k0_pay44, slabs, prod]
  refine Finset.sum_congr rfl fun k _ => ?_
  refine Ideal.mul_congr (congrArg N ?_) (congrArg W ?_)
  all_goals blk_ext

theorem slab4 (inb' : ∀ a, (![512, 0] : Fin 2 → ℕ) a + (![256, 2048] : Fin 2 → ℕ) a ≤ S1024x2048.size a)
    (inb : ∀ a, (![4, 0, 0] : Fin 3 → ℕ) a + (![1, 1024, 128] : Fin 3 → ℕ) a ≤ S8x1024x128.size a) (x : S1x1024x128.Idx) :
    k0_pay85 (F := Ideal) N (View.ld W (Rect.unit (s := S1024x2048) ![512, 0] ![256, 2048] inb')) x
      = slabs N W ((Rect.unit (s := S8x1024x128) ![4, 0, 0] ![1, 1024, 128] inb).emb x) := by
  pointwise [k0_pay85, k0_pay84, slabs, prod]
  refine Finset.sum_congr rfl fun k _ => ?_
  refine Ideal.mul_congr (congrArg N ?_) (congrArg W ?_)
  all_goals blk_ext

theorem slab5 (inb' : ∀ a, (![512, 0] : Fin 2 → ℕ) a + (![256, 2048] : Fin 2 → ℕ) a ≤ S1024x2048.size a)
    (inb : ∀ a, (![5, 0, 0] : Fin 3 → ℕ) a + (![1, 1024, 128] : Fin 3 → ℕ) a ≤ S8x1024x128.size a) (x : S1x1024x128.Idx) :
    k0_pay103 (F := Ideal) (k0_pay84 N (View.ld W (Rect.unit (s := S1024x2048) ![512, 0] ![256, 2048] inb'))) x
      = slabs N W ((Rect.unit (s := S8x1024x128) ![5, 0, 0] ![1, 1024, 128] inb).emb x) := by
  pointwise [k0_pay103, k0_pay84, slabs, prod]
  refine Finset.sum_congr rfl fun k _ => ?_
  refine Ideal.mul_congr (congrArg N ?_) (congrArg W ?_)
  all_goals blk_ext

theorem slab6 (inb' : ∀ a, (![768, 0] : Fin 2 → ℕ) a + (![256, 2048] : Fin 2 → ℕ) a ≤ S1024x2048.size a)
    (inb : ∀ a, (![6, 0, 0] : Fin 3 → ℕ) a + (![1, 1024, 128] : Fin 3 → ℕ) a ≤ S8x1024x128.size a) (x : S1x1024x128.Idx) :
    k0_pay123 (F := Ideal) N (View.ld W (Rect.unit (s := S1024x2048) ![768, 0] ![256, 2048] inb')) x
      = slabs N W ((Rect.unit (s := S8x1024x128) ![6, 0, 0] ![1, 1024, 128] inb).emb x) := by
  pointwise [k0_pay123, k0_pay122, slabs, prod]
  refine Finset.sum_congr rfl fun k _ => ?_
  refine Ideal.mul_congr (congrArg N ?_) (congrArg W ?_)
  all_goals blk_ext

theorem slab7 (inb' : ∀ a, (![768, 0] : Fin 2 → ℕ) a + (![256, 2048] : Fin 2 → ℕ) a ≤ S1024x2048.size a)
    (inb : ∀ a, (![7, 0, 0] : Fin 3 → ℕ) a + (![1, 1024, 128] : Fin 3 → ℕ) a ≤ S8x1024x128.size a) (x : S1x1024x128.Idx) :
    k0_pay142 (F := Ideal) (k0_pay122 N (View.ld W (Rect.unit (s := S1024x2048) ![768, 0] ![256, 2048] inb'))) x
      = slabs N W ((Rect.unit (s := S8x1024x128) ![7, 0, 0] ![1, 1024, 128] inb).emb x) := by
  pointwise [k0_pay142, k0_pay122, slabs, prod]
  refine Finset.sum_congr rfl fun k _ => ?_
  refine Ideal.mul_congr (congrArg N ?_) (congrArg W ?_)
  all_goals blk_ext

/-! ## The two results block by block -/

variable (m : (ℓ : Loc nD τ sig) → Buf (Elt Ideal) ℓ)

theorem u_block (c : Dev nD) (t : Fin cfg0.N) (h : t.val % 5 = 0) (y : S8x64x2048.Idx) :
    outU m c t h y = lines (iblk m c 0 t) (iblk m c 1 t) y := by
  unfold outU
  frame_out
  generalize iblk m c 0 t = N
  generalize iblk m c 1 t = W
  dsimp only [k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay143, k0_pay144, k0_pay145, k0_pay146, k0_pay147, k0_pay148, k0_pay149, k0_pay150, k0_pay151, k0_pay152, k0_pay153, k0_pay154, k0_pay155, k0_pay156, k0_pay157, k0_pay158]
  refine View.canon_apply_of_pieces (lines N W) _ (fun p hp => View.PiecesOf.mem (G := lines N W) ?_ p hp) y ?_
  · show View.PiecesOf _ _
    refine one_more _ _ _ _ (piece N W 7 15 1920 (by decide) (by decide) rfl _ _ _ _ _ (slab7 N W _ _) _) ?_
    refine one_more _ _ _ _ (piece N W 7 14 1792 (by decide) (by decide) rfl _ _ _ _ _ (slab7 N W _ _) _) ?_
    refine one_more _ _ _ _ (piece N W 7 13 1664 (by decide) (by decide) rfl _ _ _ _ _ (slab7 N W _ _) _) ?_
    refine one_more _ _ _ _ (piece N W 7 12 1536 (by decide) (by decide) rfl _ _ _ _ _ (slab7 N W _ _) _) ?_
    refine one_more _ _ _ _ (piece N W 7 11 1408 (by decide) (by decide) rfl _ _ _ _ _ (slab7 N W _ _) _) ?_
    refine one_more _ _ _ _ (piece N W 7 10 1280 (by decide) (by decide) rfl _ _ _ _ _ (slab7 N W _ _) _) ?_
    refine one_more _ _ _ _ (piece N W 7 9 1152 (by decide) (by decide) rfl _ _ _ _ _ (slab7 N W _ _) _) ?_
    refine one_more _ _ _ _ (piece N W 7 8 1024 (by decide) (by decide) rfl _ _ _ _ _ (slab7 N W _ _) _) ?_
    refine one_more _ _ _ _ (piece N W 7 7 896 (by decide) (by decide) rfl _ _ _ _ _ (slab7 N W _ _) _) ?_
    refine one_more _ _ _ _ (piece N W 7 6 768 (by decide) (by decide) rfl _ _ _ _ _ (slab7 N W _ _) _) ?_
    refine one_more _ _ _ _ (piece N W 7 5 640 (by decide) (by decide) rfl _ _ _ _ _ (slab7 N W _ _) _) ?_
    refine one_more _ _ _ _ (piece N W 7 4 512 (by decide) (by decide) rfl _ _ _ _ _ (slab7 N W _ _) _) ?_
    refine one_more _ _ _ _ (piece N W 7 3 384 (by decide) (by decide) rfl _ _ _ _ _ (slab7 N W _ _) _) ?_
    refine one_more _ _ _ _ (piece N W 7 2 256 (by decide) (by decide) rfl _ _ _ _ _ (slab7 N W _ _) _) ?_
    refine one_more _ _ _ _ (piece N W 7 1 128 (by decide) (by decide) rfl _ _ _ _ _ (slab7 N W _ _) _) ?_
    refine one_more _ _ _ _ (piece N W 7 0 0 (by decide) (by decide) rfl _ _ _ _ _ (slab7 N W _ _) _) ?_
    refine one_more _ _ _ _ (piece N W 6 15 1920 (by decide) (by decide) rfl _ _ _ _ _ (slab6 N W _ _) _) ?_
    refine one_more _ _ _ _ (piece N W 6 14 1792 (by decide) (by decide) rfl _ _ _ _ _ (slab6 N W _ _) _) ?_
    refine one_more _ _ _ _ (piece N W 6 13 1664 (by decide) (by decide) rfl _ _ _ _ _ (slab6 N W _ _) _) ?_
    refine one_more _ _ _ _ (piece N W 6 12 1536 (by decide) (by decide) rfl _ _ _ _ _ (slab6 N W _ _) _) ?_
    refine one_more _ _ _ _ (piece N W 6 11 1408 (by decide) (by decide) rfl _ _ _ _ _ (slab6 N W _ _) _) ?_
    refine one_more _ _ _ _ (piece N W 6 10 1280 (by decide) (by decide) rfl _ _ _ _ _ (slab6 N W _ _) _) ?_
    refine one_more _ _ _ _ (piece N W 6 9 1152 (by decide) (by decide) rfl _ _ _ _ _ (slab6 N W _ _) _) ?_
    refine one_more _ _ _ _ (piece N W 6 8 1024 (by decide) (by decide) rfl _ _ _ _ _ (slab6 N W _ _) _) ?_
    refine one_more _ _ _ _ (piece N W 6 7 896 (by decide) (by decide) rfl _ _ _ _ _ (slab6 N W _ _) _) ?_
    refine one_more _ _ _ _ (piece N W 6 6 768 (by decide) (by decide) rfl _ _ _ _ _ (slab6 N W _ _) _) ?_
    refine one_more _ _ _ _ (piece N W 6 5 640 (by decide) (by decide) rfl _ _ _ _ _ (slab6 N W _ _) _) ?_
    refine one_more _ _ _ _ (piece N W 6 4 512 (by decide) (by decide) rfl _ _ _ _ _ (slab6 N W _ _) _) ?_
    refine one_more _ _ _ _ (piece N W 6 3 384 (by decide) (by decide) rfl _ _ _ _ _ (slab6 N W _ _) _) ?_
    refine one_more _ _ _ _ (piece N W 6 2 256 (by decide) (by decide) rfl _ _ _ _ _ (slab6 N W _ _) _) ?_
    refine one_more _ _ _ _ (piece N W 6 1 128 (by decide) (by decide) rfl _ _ _ _ _ (slab6 N W _ _) _) ?_
    refine one_more _ _ _ _ (piece N W 6 0 0 (by decide) (by decide) rfl _ _ _ _ _ (slab6 N W _ _) _) ?_
    refine one_more _ _ _ _ (piece N W 5 15 1920 (by decide) (by decide) rfl _ _ _ _ _ (slab5 N W _ _) _) ?_
    refine one_more _ _ _ _ (piece N W 5 14 1792 (by decide) (by decide) rfl _ _ _ _ _ (slab5 N W _ _) _) ?_
    refine one_more _ _ _ _ (piece N W 5 13 1664 (by decide) (by decide) rfl _ _ _ _ _ (slab5 N W _ _) _) ?_
    refine one_more _ _ _ _ (piece N W 5 12 1536 (by decide) (by decide) rfl _ _ _ _ _ (slab5 N W _ _) _) ?_
    refine one_more _ _ _ _ (piece N W 5 11 1408 (by decide) (by decide) rfl _ _ _ _ _ (slab5 N W _ _) _) ?_
    refine one_more _ _ _ _ (piece N W 5 10 1280 (by decide) (by decide) rfl _ _ _ _ _ (slab5 N W _ _) _) ?_
    refine one_more _ _ _ _ (piece N W 5 9 1152 (by decide) (by decide) rfl _ _ _ _ _ (slab5 N W _ _) _) ?_
    refine one_more _ _ _ _ (piece N W 5 8 1024 (by decide) (by decide) rfl _ _ _ _ _ (slab5 N W _ _) _) ?_
    refine one_more _ _ _ _ (piece N W 5 7 896 (by decide) (by decide) rfl _ _ _ _ _ (slab5 N W _ _) _) ?_
    refine one_more _ _ _ _ (piece N W 5 6 768 (by decide) (by decide) rfl _ _ _ _ _ (slab5 N W _ _) _) ?_
    refine one_more _ _ _ _ (piece N W 5 5 640 (by decide) (by decide) rfl _ _ _ _ _ (slab5 N W _ _) _) ?_
    refine one_more _ _ _ _ (piece N W 5 4 512 (by decide) (by decide) rfl _ _ _ _ _ (slab5 N W _ _) _) ?_
    refine one_more _ _ _ _ (piece N W 5 3 384 (by decide) (by decide) rfl _ _ _ _ _ (slab5 N W _ _) _) ?_
    refine one_more _ _ _ _ (piece N W 5 2 256 (by decide) (by decide) rfl _ _ _ _ _ (slab5 N W _ _) _) ?_
    refine one_more _ _ _ _ (piece N W 5 1 128 (by decide) (by decide) rfl _ _ _ _ _ (slab5 N W _ _) _) ?_
    refine one_more _ _ _ _ (piece N W 5 0 0 (by decide) (by decide) rfl _ _ _ _ _ (slab5 N W _ _) _) ?_
    refine one_more _ _ _ _ (piece N W 4 15 1920 (by decide) (by decide) rfl _ _ _ _ _ (slab4 N W _ _) _) ?_
    refine one_more _ _ _ _ (piece N W 4 14 1792 (by decide) (by decide) rfl _ _ _ _ _ (slab4 N W _ _) _) ?_
    refine one_more _ _ _ _ (piece N W 4 13 1664 (by decide) (by decide) rfl _ _ _ _ _ (slab4 N W _ _) _) ?_
    refine one_more _ _ _ _ (piece N W 4 12 1536 (by decide) (by decide) rfl _ _ _ _ _ (slab4 N W _ _) _) ?_
    refine one_more _ _ _ _ (piece N W 4 11 1408 (by decide) (by decide) rfl _ _ _ _ _ (slab4 N W _ _) _) ?_
    refine one_more _ _ _ _ (piece N W 4 10 1280 (by decide) (by decide) rfl _ _ _ _ _ (slab4 N W _ _) _) ?_
    refine one_more _ _ _ _ (piece N W 4 9 1152 (by decide) (by decide) rfl _ _ _ _ _ (slab4 N W _ _) _) ?_
    refine one_more _ _ _ _ (piece N W 4 8 1024 (by decide) (by decide) rfl _ _ _ _ _ (slab4 N W _ _) _) ?_
    refine one_more _ _ _ _ (piece N W 4 7 896 (by decide) (by decide) rfl _ _ _ _ _ (slab4 N W _ _) _) ?_
    refine one_more _ _ _ _ (piece N W 4 6 768 (by decide) (by decide) rfl _ _ _ _ _ (slab4 N W _ _) _) ?_
    refine one_more _ _ _ _ (piece N W 4 5 640 (by decide) (by decide) rfl _ _ _ _ _ (slab4 N W _ _) _) ?_
    refine one_more _ _ _ _ (piece N W 4 4 512 (by decide) (by decide) rfl _ _ _ _ _ (slab4 N W _ _) _) ?_
    refine one_more _ _ _ _ (piece N W 4 3 384 (by decide) (by decide) rfl _ _ _ _ _ (slab4 N W _ _) _) ?_
    refine one_more _ _ _ _ (piece N W 4 2 256 (by decide) (by decide) rfl _ _ _ _ _ (slab4 N W _ _) _) ?_
    refine one_more _ _ _ _ (piece N W 4 1 128 (by decide) (by decide) rfl _ _ _ _ _ (slab4 N W _ _) _) ?_
    refine one_more _ _ _ _ (piece N W 4 0 0 (by decide) (by decide) rfl _ _ _ _ _ (slab4 N W _ _) _) ?_
    refine one_more _ _ _ _ (piece N W 3 15 1920 (by decide) (by decide) rfl _ _ _ _ _ (slab3 N W _ _) _) ?_
    refine one_more _ _ _ _ (piece N W 3 14 1792 (by decide) (by decide) rfl _ _ _ _ _ (slab3 N W _ _) _) ?_
    refine one_more _ _ _ _ (piece N W 3 13 1664 (by decide) (by decide) rfl _ _ _ _ _ (slab3 N W _ _) _) ?_
    refine one_more _ _ _ _ (piece N W 3 12 1536 (by decide) (by decide) rfl _ _ _ _ _ (slab3 N W _ _) _) ?_
    refine one_more _ _ _ _ (piece N W 3 11 1408 (by decide) (by decide) rfl _ _ _ _ _ (slab3 N W _ _) _) ?_
    refine one_more _ _ _ _ (piece N W 3 10 1280 (by decide) (by decide) rfl _ _ _ _ _ (slab3 N W _ _) _) ?_
    refine one_more _ _ _ _ (piece N W 3 9 1152 (by decide) (by decide) rfl _ _ _ _ _ (slab3 N W _ _) _) ?_
    refine one_more _ _ _ _ (piece N W 3 8 1024 (by decide) (by decide) rfl _ _ _ _ _ (slab3 N W _ _) _) ?_
    refine one_more _ _ _ _ (piece N W 3 7 896 (by decide) (by decide) rfl _ _ _ _ _ (slab3 N W _ _) _) ?_
    refine one_more _ _ _ _ (piece N W 3 6 768 (by decide) (by decide) rfl _ _ _ _ _ (slab3 N W _ _) _) ?_
    refine one_more _ _ _ _ (piece N W 3 5 640 (by decide) (by decide) rfl _ _ _ _ _ (slab3 N W _ _) _) ?_
    refine one_more _ _ _ _ (piece N W 3 4 512 (by decide) (by decide) rfl _ _ _ _ _ (slab3 N W _ _) _) ?_
    refine one_more _ _ _ _ (piece N W 3 3 384 (by decide) (by decide) rfl _ _ _ _ _ (slab3 N W _ _) _) ?_
    refine one_more _ _ _ _ (piece N W 3 2 256 (by decide) (by decide) rfl _ _ _ _ _ (slab3 N W _ _) _) ?_
    refine one_more _ _ _ _ (piece N W 3 1 128 (by decide) (by decide) rfl _ _ _ _ _ (slab3 N W _ _) _) ?_
    refine one_more _ _ _ _ (piece N W 3 0 0 (by decide) (by decide) rfl _ _ _ _ _ (slab3 N W _ _) _) ?_
    refine one_more _ _ _ _ (piece N W 2 15 1920 (by decide) (by decide) rfl _ _ _ _ _ (slab2 N W _ _) _) ?_
    refine one_more _ _ _ _ (piece N W 2 14 1792 (by decide) (by decide) rfl _ _ _ _ _ (slab2 N W _ _) _) ?_
    refine one_more _ _ _ _ (piece N W 2 13 1664 (by decide) (by decide) rfl _ _ _ _ _ (slab2 N W _ _) _) ?_
    refine one_more _ _ _ _ (piece N W 2 12 1536 (by decide) (by decide) rfl _ _ _ _ _ (slab2 N W _ _) _) ?_
    refine one_more _ _ _ _ (piece N W 2 11 1408 (by decide) (by decide) rfl _ _ _ _ _ (slab2 N W _ _) _) ?_
    refine one_more _ _ _ _ (piece N W 2 10 1280 (by decide) (by decide) rfl _ _ _ _ _ (slab2 N W _ _) _) ?_
    refine one_more _ _ _ _ (piece N W 2 9 1152 (by decide) (by decide) rfl _ _ _ _ _ (slab2 N W _ _) _) ?_
    refine one_more _ _ _ _ (piece N W 2 8 1024 (by decide) (by decide) rfl _ _ _ _ _ (slab2 N W _ _) _) ?_
    refine one_more _ _ _ _ (piece N W 2 7 896 (by decide) (by decide) rfl _ _ _ _ _ (slab2 N W _ _) _) ?_
    refine one_more _ _ _ _ (piece N W 2 6 768 (by decide) (by decide) rfl _ _ _ _ _ (slab2 N W _ _) _) ?_
    refine one_more _ _ _ _ (piece N W 2 5 640 (by decide) (by decide) rfl _ _ _ _ _ (slab2 N W _ _) _) ?_
    refine one_more _ _ _ _ (piece N W 2 4 512 (by decide) (by decide) rfl _ _ _ _ _ (slab2 N W _ _) _) ?_
    refine one_more _ _ _ _ (piece N W 2 3 384 (by decide) (by decide) rfl _ _ _ _ _ (slab2 N W _ _) _) ?_
    refine one_more _ _ _ _ (piece N W 2 2 256 (by decide) (by decide) rfl _ _ _ _ _ (slab2 N W _ _) _) ?_
    refine one_more _ _ _ _ (piece N W 2 1 128 (by decide) (by decide) rfl _ _ _ _ _ (slab2 N W _ _) _) ?_
    refine one_more _ _ _ _ (piece N W 2 0 0 (by decide) (by decide) rfl _ _ _ _ _ (slab2 N W _ _) _) ?_
    refine one_more _ _ _ _ (piece N W 1 15 1920 (by decide) (by decide) rfl _ _ _ _ _ (slab1 N W _ _) _) ?_
    refine one_more _ _ _ _ (piece N W 1 14 1792 (by decide) (by decide) rfl _ _ _ _ _ (slab1 N W _ _) _) ?_
    refine one_more _ _ _ _ (piece N W 1 13 1664 (by decide) (by decide) rfl _ _ _ _ _ (slab1 N W _ _) _) ?_
    refine one_more _ _ _ _ (piece N W 1 12 1536 (by decide) (by decide) rfl _ _ _ _ _ (slab1 N W _ _) _) ?_
    refine one_more _ _ _ _ (piece N W 1 11 1408 (by decide) (by decide) rfl _ _ _ _ _ (slab1 N W _ _) _) ?_
    refine one_more _ _ _ _ (piece N W 1 10 1280 (by decide) (by decide) rfl _ _ _ _ _ (slab1 N W _ _) _) ?_
    refine one_more _ _ _ _ (piece N W 1 9 1152 (by decide) (by decide) rfl _ _ _ _ _ (slab1 N W _ _) _) ?_
    refine one_more _ _ _ _ (piece N W 1 8 1024 (by decide) (by decide) rfl _ _ _ _ _ (slab1 N W _ _) _) ?_
    refine one_more _ _ _ _ (piece N W 1 7 896 (by decide) (by decide) rfl _ _ _ _ _ (slab1 N W _ _) _) ?_
    refine one_more _ _ _ _ (piece N W 1 6 768 (by decide) (by decide) rfl _ _ _ _ _ (slab1 N W _ _) _) ?_
    refine one_more _ _ _ _ (piece N W 1 5 640 (by decide) (by decide) rfl _ _ _ _ _ (slab1 N W _ _) _) ?_
    refine one_more _ _ _ _ (piece N W 1 4 512 (by decide) (by decide) rfl _ _ _ _ _ (slab1 N W _ _) _) ?_
    refine one_more _ _ _ _ (piece N W 1 3 384 (by decide) (by decide) rfl _ _ _ _ _ (slab1 N W _ _) _) ?_
    refine one_more _ _ _ _ (piece N W 1 2 256 (by decide) (by decide) rfl _ _ _ _ _ (slab1 N W _ _) _) ?_
    refine one_more _ _ _ _ (piece N W 1 1 128 (by decide) (by decide) rfl _ _ _ _ _ (slab1 N W _ _) _) ?_
    refine one_more _ _ _ _ (piece N W 1 0 0 (by decide) (by decide) rfl _ _ _ _ _ (slab1 N W _ _) _) ?_
    refine one_more _ _ _ _ (piece N W 0 15 1920 (by decide) (by decide) rfl _ _ _ _ _ (slab0 N W _ _) _) ?_
    refine one_more _ _ _ _ (piece N W 0 14 1792 (by decide) (by decide) rfl _ _ _ _ _ (slab0 N W _ _) _) ?_
    refine one_more _ _ _ _ (piece N W 0 13 1664 (by decide) (by decide) rfl _ _ _ _ _ (slab0 N W _ _) _) ?_
    refine one_more _ _ _ _ (piece N W 0 12 1536 (by decide) (by decide) rfl _ _ _ _ _ (slab0 N W _ _) _) ?_
    refine one_more _ _ _ _ (piece N W 0 11 1408 (by decide) (by decide) rfl _ _ _ _ _ (slab0 N W _ _) _) ?_
    refine one_more _ _ _ _ (piece N W 0 10 1280 (by decide) (by decide) rfl _ _ _ _ _ (slab0 N W _ _) _) ?_
    refine one_more _ _ _ _ (piece N W 0 9 1152 (by decide) (by decide) rfl _ _ _ _ _ (slab0 N W _ _) _) ?_
    refine one_more _ _ _ _ (piece N W 0 8 1024 (by decide) (by decide) rfl _ _ _ _ _ (slab0 N W _ _) _) ?_
    refine one_more _ _ _ _ (piece N W 0 7 896 (by decide) (by decide) rfl _ _ _ _ _ (slab0 N W _ _) _) ?_
    refine one_more _ _ _ _ (piece N W 0 6 768 (by decide) (by decide) rfl _ _ _ _ _ (slab0 N W _ _) _) ?_
    refine one_more _ _ _ _ (piece N W 0 5 640 (by decide) (by decide) rfl _ _ _ _ _ (slab0 N W _ _) _) ?_
    refine one_more _ _ _ _ (piece N W 0 4 512 (by decide) (by decide) rfl _ _ _ _ _ (slab0 N W _ _) _) ?_
    refine one_more _ _ _ _ (piece N W 0 3 384 (by decide) (by decide) rfl _ _ _ _ _ (slab0 N W _ _) _) ?_
    refine one_more _ _ _ _ (piece N W 0 2 256 (by decide) (by decide) rfl _ _ _ _ _ (slab0 N W _ _) _) ?_
    refine one_more _ _ _ _ (piece N W 0 1 128 (by decide) (by decide) rfl _ _ _ _ _ (slab0 N W _ _) _) ?_
    refine one_more _ _ _ _ (piece N W 0 0 0 (by decide) (by decide) rfl _ _ _ _ _ (slab0 N W _ _) _) ?_
    exact trivial
  · exact View.cover_of_tiledL (s := S8x64x2048) _ ![1, 64, 128] (by sl_kernel_rfl) y

theorem gate_block (c : Dev nD) (t : Fin cfg0.N) (h : t.val % 5 ≠ 0) (y : S1024x1024.Idx) :
    outG m c t h y = prod (iblk m c 0 t) (iblk m c 1 t) (y 0) (y 1) := by
  unfold outG
  frame_out
  generalize iblk m c 0 t = N
  generalize iblk m c 1 t = W
  canon_tiles x h using (View.cover_of_tiledBy _ ![1024, 512] (by sl_kernel_rfl) y)
  all_goals pointwise [k0_pay3, k0_pay4, prod, h0, h1]
  all_goals refine Finset.sum_congr rfl fun k _ => ?_
  all_goals refine Ideal.mul_congr (congrArg N ?_) (congrArg W ?_)
  all_goals blk_ext

/-! ## The blocks a point reads -/

/-- Every window's block index at every grid point; the weights' is the row it begins at. -/
theorem idx : ∀ t : Fin cfg0.N, win0_0.index t = ![t.val / 5, 0] ∧ win0_1.index t = ![1088 + t.val % 5 * 1024, 0] ∧
    win0_2.index t = ![0, t.val / 5, 0] ∧ win0_3.index t = ![t.val / 5, t.val % 5 - 1] :=
  (by decide +kernel : ∀ t : Fin grid0.N, _)

/-- A block of the input is its rows of the input. -/
theorem block0 (c : Dev nD) (t : Fin cfg0.N) (a : Fin 1024) (k : Fin 2048) (r : Fin 8192) (hr : r.val = t.val / 5 * 1024 + a.val) :
    iblk m c 0 t (ix2 a k) = m ((c : Thread nD τ).loc main_arg0) (ix2 r k) := by
  have he : (win0_0.blk t).view.emb (ix2 a k) = ix2 r k := by
    blk_ext [(idx t).1]
  unfold iblk
  blk_simp
  rw [he]
  entry_read
  rfl

/-- A block of the weights is a thousand columns of the weights beginning at its own element offset. -/
theorem block1 (c : Dev nD) (t : Fin cfg0.N) (a : Fin 1024) (k : Fin 2048) (j : Fin 6208) (hj : j.val = 1088 + t.val % 5 * 1024 + a.val) :
    iblk m c 1 t (ix2 a k) = m ((c : Thread nD τ).loc main_arg1) (ix3 0 k j) := by
  have he : (win0_1.blk t).view.emb (ix2 a k) = ix2 j k := by
    have h0 : win0_1.index t 0 = 1088 + t.val % 5 * 1024 := by rw [(idx t).2.1]; rfl
    have h1 : win0_1.index t 1 = 0 := by rw [(idx t).2.1]; rfl
    blk_ext
    · refine (Pipeline.Window.rect_emb_val_off win0_1 t _ 0).trans ?_
      show win0_1.index t 0 + a.val = j.val
      rw [h0, hj]
    · exact Pipeline.Window.rect_emb_val_of_index_zero win0_1 t 1 h1 _
  unfold iblk
  blk_simp
  rw [he]
  entry_read
  pointwise

/-- A row of a point's input block against a column of its weights' block is an entry of the whole product. -/
theorem prod_eq (c : Dev nD) (t : Fin cfg0.N) (a b : Fin 1024) (r : Fin 8192) (hr : r.val = t.val / 5 * 1024 + a.val)
    (j : Fin 6208) (hj : j.val = 1088 + t.val % 5 * 1024 + b.val) :
    prod (iblk m c 0 t) (iblk m c 1 t) a b
      = val_main_v2 (F := Ideal) (m ((c : Thread nD τ).loc main_arg0)) (m ((c : Thread nD τ).loc main_arg1)) (ix2 r j) := by
  unfold prod
  pointwise [val_main_v2, val_main_v1, val_main_v0]
  refine Finset.sum_congr rfl fun k _ => ?_
  rw [block0 m c t a k r hr, block1 m c t b k j hj]

/-! ## The two results as the reference has them -/

/-- The reference's u at a line of a slab is an entry of the whole product. -/
theorem u_at (x0 : Vec Ideal S8192x2048 .bf16) (x1 : Vec Ideal S1x2048x6208 .f32) (q : Fin 8) (p : Fin 512) (l : Fin 2048)
    (r : Fin 8192) (hr : r.val = p.val * 16 + l.val / 128) (j : Fin 6208) (hj : j.val = 1088 + (q.val * 128 + l.val % 128)) :
    val_main_v8 (F := Ideal) x0 x1 (ix3 q p l) = val_main_v2 (F := Ideal) x0 x1 (ix2 r j) := by
  rw [val_main_v8_apply, val_main_v7_apply, val_main_v6_apply, val_main_v5_apply, val_main_v3_apply]
  generalize val_main_v2 (F := Ideal) x0 x1 = z
  pointwise
  refine congrArg z ?_
  have e1 : ((q.val * 512 + p.val) * 2048 + l.val) / 2048 % 512 = p.val := by omega
  have e2 : ((q.val * 512 + p.val) * 2048 + l.val) / 128 % 16 = l.val / 128 := by omega
  have e3 : ((q.val * 512 + p.val) * 2048 + l.val) / 1048576 = q.val := by omega
  have e4 : ((q.val * 512 + p.val) * 2048 + l.val) % 128 = l.val % 128 := by omega
  blk_ext
  all_goals (rw [e1, e2, e3, e4]; omega)

/-- The reference's gates at an index are an entry of the whole product. -/
theorem gate_at (x0 : Vec Ideal S8192x2048 .bf16) (x1 : Vec Ideal S1x2048x6208 .f32) (r : Fin 8192) (n : Fin 4096)
    (j : Fin 6208) (hj : j.val = 2112 + n.val) :
    val_main_v9 (F := Ideal) x0 x1 (ix2 r n) = val_main_v2 (F := Ideal) x0 x1 (ix2 r j) := by
  rw [val_main_v9_apply, val_main_v4_apply]
  generalize val_main_v2 (F := Ideal) x0 x1 = z
  pointwise
  refine congrArg z ?_
  blk_ext

theorem final2 (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after_2]
  have ht : t.val < 40 := t.isLt
  have h0 : (y 0).val < 8 := (y 0).isLt
  have h1 : (y 1).val < 64 := (y 1).isLt
  have h2 : (y 2).val < 2048 := (y 2).isLt
  have he : ((cfg0.win 2).blk t).view.emb y = ix3 (y 0) (⟨t.val / 5 * 64 + (y 1).val, by omega⟩ : Fin 512) (y 2) := by
    blk_ext [(idx t).2.2.1]
  refine Eq.trans ?_ ((u_at _ _ (y 0) ⟨t.val / 5 * 64 + (y 1).val, by omega⟩ (y 2)
    ⟨t.val / 5 * 1024 + ((y 2).val / 128 + 16 * (y 1).val), by omega⟩ (by show t.val / 5 * 1024 + ((y 2).val / 128 + 16 * (y 1).val) = (t.val / 5 * 64 + (y 1).val) * 16 + (y 2).val / 128; omega)
    ⟨1088 + ((y 0).val * 128 + (y 2).val % 128), by omega⟩ rfl).symm.trans (congrArg _ he.symm))
  refine (u_block m c (first t) (first_mod t) y).trans ?_
  refine prod_eq m c (first t) _ _ _ ?_ _ ?_
  · show t.val / 5 * 1024 + ((y 2).val / 128 + 16 * (y 1).val) = t.val / 5 * 5 / 5 * 1024 + ((y 2).val / 128 + 16 * (y 1).val); omega
  · show 1088 + ((y 0).val * 128 + (y 2).val % 128) = 1088 + t.val / 5 * 5 % 5 * 1024 + ((y 0).val * 128 + (y 2).val % 128); omega

theorem final3 (c : Dev nD) : (dats m 0 c).arrAt 3 (cfgs 0).N
    = val_main_v9 (F := Ideal) (m ((c : Thread nD τ).loc main_arg0)) (m ((c : Thread nD τ).loc main_arg1)) := by
  refine (dats m 0 c).arrAt_eq_of_covers 3 _ (by decide +kernel) fun t hf y => ?_
  blk_simp
  rw [after_3]
  have hm := (flush_3 t).mp hf
  have ht : t.val < 40 := t.isLt
  have h0 : (y 0).val < 1024 := (y 0).isLt
  have h1 : (y 1).val < 1024 := (y 1).isLt
  have he : ((cfg0.win 3).blk t).view.emb y = ix2 (⟨t.val / 5 * 1024 + (y 0).val, by omega⟩ : Fin 8192)
      (⟨(t.val % 5 - 1) * 1024 + (y 1).val, by omega⟩ : Fin 4096) := by
    blk_ext [(idx t).2.2.2]
  refine Eq.trans ?_ ((gate_at _ _ _ _ ⟨1088 + t.val % 5 * 1024 + (y 1).val, by omega⟩
    (by show 1088 + t.val % 5 * 1024 + (y 1).val = 2112 + ((t.val % 5 - 1) * 1024 + (y 1).val); omega)).symm.trans (congrArg _ he.symm))
  have hg : gates m c t = outG m c t hm := dif_pos hm
  rw [hg]
  exact (gate_block m c t hm y).trans (prod_eq m c t (y 0) (y 1) _ rfl _ rfl)

variable (ρ : Dev nD → PrngReg)

/-- The launch, its two results named. -/
theorem run_blocks : θ_run defs (onTc (τ := τ) (main (F := Ideal))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 2, (h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_main m ρ)

end Cert.GateValue

end
-- ==== Proof.GateClaims.lean ====
/- The claims about the u-and-gates projection: its frames, and its values at the extended reals. -/
module

public import proofs.«01_k».proof.Defs
public import proofs.«01_k».proof.Proof.Gen.Kernel5.Frame
public import proofs.«01_k».proof.Proof.GateValue
public import Idealize.ShloMosaic.Lib.Quiescent

@[expose] public section

noncomputable section

namespace Cert.GateClaims

open Idealize.ShloMosaic Idealize.ShloMosaic.TcCoe Idealize.SL.Sem

/-- The two programs run the same body. -/
theorem body_eq : Cert.Kernel5.defs₀ (F := Bits) = Cert.Kernel5Ideal.defs₀ (F := Bits) := by
  unfold Cert.Kernel5.defs₀ Cert.Kernel5Ideal.defs₀
  refine congrArg Defs.onTc ?_
  funext l x
  match l with
  | 0 => rfl

theorem defs_eq : Cert.Kernel5.defs (F := Bits) = Cert.Kernel5Ideal.defs (F := Bits) := by
  unfold Cert.Kernel5.defs Cert.Kernel5Ideal.defs
  exact congrArg (Pipeline.defs Cert.Kernel5.pcfgs) body_eq

/-- The kernel ends, its arguments and counters as they were: the idealized kernel's run, taken at the bits. -/
theorem frame_kernel : Cert.quiescent_Kernel5 := fun m g _ => by
  rw [defs_eq]
  exact GateBody.frame (F := Bits) m g

/-- So does the idealized kernel. -/
theorem frame_ideal : Cert.quiescent_Kernel5Ideal := fun m g _ => GateBody.frame (F := Ideal) m g

/-- So does the reference, which has no semaphore. -/
theorem frame_reference : Cert.quiescent_Reference5Ideal := fun m g _ =>
  (θ_run Cert.Reference5Ideal.defs _ _).mono
    (fun r h => ⟨fun c => (h c).2.2, sem_eq_zero_of_no_sems (by decide) r.2⟩)
    (Cert.Reference5Ideal.Value.run m g)

/-- The kernel's two results are the reference's. -/
theorem values : Cert.algebraic_Kernel5Ideal_Reference5Ideal := by
  pair_intro
  · run_from GateValue.run_blocks m g
  · run_from Cert.Reference5Ideal.Value.run m' g'
    · exact (Cert.Reference5Ideal.Read.val_main_v8_eq _ _).trans (GateValue.final2 m c).symm
    · exact (Cert.Reference5Ideal.Read.val_main_v9_eq _ _).trans (GateValue.final3 m c).symm

end Cert.GateClaims

end
-- ==== Proof.RopeValue.lean ====
/- The up-projections and the rotary embedding read at the extended reals: what the kernel leaves in its three results is
   what the reference computes from the same arguments. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RopeValue

open Cert.Kernel6Ideal Cert.Kernel6Ideal.Gen
open Idealize.ShloMosaic Idealize.ShloMosaic.TcCoe Idealize.SL.Sem
open Idealize.ShloMosaic.Pipeline (Dat)
open Cert.Reference6Ideal.Read

variable (m : (ℓ : Loc nD τ sig) → Buf (Elt Ideal) ℓ)

/-- Every window's block index at every grid point. -/
theorem idx : ∀ t : Fin cfg0.N, win0_0.index t = ![t.val, 0] ∧ win0_1.index t = ![t.val, 1] ∧ win0_2.index t = ![t.val, 8] ∧
    win0_3.index t = ![0, 0] ∧ win0_4.index t = ![0, 0] ∧ win0_5.index t = ![0, 0] ∧ win0_6.index t = ![0, 0] ∧
    win0_7.index t = ![t.val % 8, 0] ∧ win0_8.index t = ![t.val % 8, 0] ∧ win0_9.index t = ![t.val % 8, 0] ∧
    win0_10.index t = ![0, t.val, 0] ∧ win0_11.index t = ![0, 0, t.val] ∧ win0_12.index t = ![0, t.val, 0] :=
  (by decide +kernel : ∀ t : Fin grid0.N, _)

/-- One more store is a block of the same value. -/
theorem one_more {s : Shape} (G : Vec Ideal s .bf16) (r : Rect s) (w : r.shape.Idx → Elt Ideal .bf16)
    (L : List (View.Piece (Elt Ideal) s .bf16)) (h : ∀ x, w x = G (r.emb x)) (hL : View.PiecesOf G L) :
    View.PiecesOf G (⟨r, w⟩ :: L) := ⟨h, hL⟩

/-- An entry of the product of a block of rows with a weight. -/
def mm (N : FVec Ideal S512x512 .bf16) (W : FVec Ideal S512x4096 .bf16) (a : Fin 512) (j : Fin 4096) : EReal :=
  ∑ k : Fin 512, (N (ix2 a k) : EReal) * W (ix2 k j)

/-- A lane of a rotated row: the lane, its neighbour 32 lanes up and its neighbour 32 lanes down, each by its table. -/
def turn (x : Fin 128 → EReal) (C S T : FVec Ideal S512x128 .f32) (a : Fin 512) (i : Fin 128) : EReal :=
  (x i * C (ix2 a i) + x ⟨(i.val + 128 - 96) % 128, by omega⟩ * S (ix2 a i)) + x ⟨(i.val + 128 - 32) % 128, by omega⟩ * T (ix2 a i)

/-- The columns of a weight from `o` on. -/
abbrev cols (W : FVec Ideal S512x4096 .bf16) (o : ℕ) (inb : ∀ a, (![0, o] : Fin 2 → ℕ) a + (![512, 256] : Fin 2 → ℕ) a ≤ S512x4096.size a) :
    Vec Ideal S512x256 .bf16 := View.ld (S := S512x4096) (e' := .bf16) (Val := Elt Ideal) W (Rect.unit (s := S512x4096) ![0, o] ![512, 256] inb)

/-- The product of a block of rows with a head's columns of a weight. -/
abbrev prod (N : FVec Ideal S512x512 .bf16) (W : FVec Ideal S512x4096 .bf16) (o : ℕ) (inb : ∀ a, (![0, o] : Fin 2 → ℕ) a + (![512, 256] : Fin 2 → ℕ) a ≤ S512x4096.size a) :
    FVec Ideal S512x256 .f32 :=
  matmul dot_S512x512_S512x256_S512x256_1_0_0_1_n_n none N (shapeCast S512x256 (cols W o inb) shapeCasts_S512x256_S512x256 : FVec Ideal S512x256 .bf16) (constant S512x256 .f32 0x00000000#32)

/-- A head's columns of the product. -/
theorem mm_at (N : FVec Ideal S512x512 .bf16) (W : FVec Ideal S512x4096 .bf16) (h o : ℕ) (hh : h < 16) (ho : o = 256 * h)
    (inb : ∀ a, (![0, o] : Fin 2 → ℕ) a + (![512, 256] : Fin 2 → ℕ) a ≤ S512x4096.size a) (a : Fin 512) (l : Fin 256) :
    (prod N W o inb) (ix2 a l)
      = mm N W a ⟨256 * h + l.val, by omega⟩ := by
  subst ho
  pointwise
  unfold mm
  refine Finset.sum_congr rfl fun k _ => ?_
  refine Ideal.mul_congr rfl ?_
  show W ((Rect.unit (s := S512x4096) ![0, 256 * h] ![512, 256] inb).emb (ix2 k l)) = W _
  refine congrArg W ?_
  blk_ext

/-- The q block: in each head the plain lanes, then the rotated lanes. -/
def qv (N : FVec Ideal S512x512 .bf16) (W : FVec Ideal S512x4096 .bf16) (C S T : FVec Ideal S512x128 .f32) : FVec Ideal S16x512x256 .bf16 := fun y =>
  if (y 2).val < 128 then mm N W (y 1) ⟨256 * (y 0).val + (y 2).val, by have := (y 0).isLt; have := (y 2).isLt; simp [S16x512x256] at *; omega⟩
  else turn (fun i => mm N W (y 1) ⟨256 * (y 0).val + (128 + i.val), by have := (y 0).isLt; have := i.isLt; simp [S16x512x256] at *; omega⟩) C S T (y 1) ⟨(y 2).val - 128, by have := (y 2).isLt; simp [S16x512x256] at *; omega⟩

/-- The k block, lanes before rows: in each head the plain lanes, then the rotated lanes every head shares. -/
def kv (M : FVec Ideal S512x512 .bf16) (W : FVec Ideal S512x4096 .bf16) (X : FVec Ideal S512x128 .bf16) (C S T : FVec Ideal S512x128 .f32) : FVec Ideal S16x256x512 .bf16 := fun y =>
  if (y 1).val < 128 then mm M W (y 2) ⟨256 * (y 0).val + (y 1).val, by have := (y 0).isLt; have := (y 1).isLt; simp [S16x256x512] at *; omega⟩
  else turn (fun i => X (ix2 (y 2) i)) C S T (y 2) ⟨(y 1).val - 128, by have := (y 1).isLt; simp [S16x256x512] at *; omega⟩

/-- The v block: in each head the value lanes, then a one and zeros. -/
def vv (M : FVec Ideal S512x512 .bf16) (W : FVec Ideal S512x4096 .bf16) : FVec Ideal S16x512x256 .bf16 := fun y =>
  if (y 2).val < 128 then mm M W (y 1) ⟨256 * (y 0).val + (128 + (y 2).val % 128), by have := (y 0).isLt; have := (y 2).isLt; simp [S16x512x256] at *; omega⟩
  else if (y 2).val = 128 then 1 else 0

section Pieces
variable (N : FVec Ideal S512x512 .bf16) (W : FVec Ideal S512x4096 .bf16) (X : FVec Ideal S512x128 .bf16) (C S T : FVec Ideal S512x128 .f32)

/-- A head's plain lanes, as the body stores them, are the q block's. -/
theorem q_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 512, 128] : Fin 3 → ℕ) a ≤ S16x512x256.size a) (x : S1x512x128.Idx) :
    (shapeCast S1x512x128 (truncf .bf16 (extractStridedSlice S512x128 ![0, 0] (prod N W o inb) slices_S512x256_o0_0_S512x128 : FVec Ideal S512x128 .f32) bitsLt_bf16_f32 : FVec Ideal S512x128 .bf16) shapeCasts_S512x128_S1x512x128 : FVec Ideal S1x512x128 .bf16) x
      = qv N W C S T ((Rect.unit (s := S16x512x256) ![h, 0, 0] ![1, 512, 128] inb').emb x) := by
  obtain ⟨z, a, l, rfl⟩ : ∃ (z : Fin 1) (a : Fin 512) (l : Fin 128), x = ix3 z a l := ⟨x 0, x 1, x 2, by blk_ext⟩
  have he : (Rect.unit (s := S16x512x256) ![h, 0, 0] ![1, 512, 128] inb').emb (ix3 z a l) = ix3 ⟨h, hh⟩ a ⟨l.val, by omega⟩ := by blk_ext
  rw [he]
  have hm := mm_at N W h o hh ho inb a ⟨l.val, by omega⟩
  generalize (prod N W o inb) = P at hm ⊢
  refine Eq.trans (by pointwise) (hm.trans ?_)
  unfold qv
  exact (if_pos l.isLt).symm

/-- A head's rotated lanes, as the body stores them, are the q block's. -/
theorem q_high (h o : ℕ) (hh : h < 16) (ho : o = 256 * h)
    (inb : ∀ a, (![0, o] : Fin 2 → ℕ) a + (![512, 256] : Fin 2 → ℕ) a ≤ S512x4096.size a)
    (inb' : ∀ a, (![h, 0, 128] : Fin 3 → ℕ) a + (![1, 512, 128] : Fin 3 → ℕ) a ≤ S16x512x256.size a) (x : S1x512x128.Idx) :
    (shapeCast S1x512x128 (truncf .bf16 (addf (addf (mulf (extractStridedSlice S512x128 ![0, 128] (prod N W o inb) slices_S512x256_o0_128_S512x128 : FVec Ideal S512x128 .f32) C)
        (mulf (dynamicRotate 1 96#32 none (extractStridedSlice S512x128 ![0, 128] (prod N W o inb) slices_S512x256_o0_128_S512x128 : FVec Ideal S512x128 .f32) rotates_S512x128_d1) S))
        (mulf (dynamicRotate 1 32#32 none (extractStridedSlice S512x128 ![0, 128] (prod N W o inb) slices_S512x256_o0_128_S512x128 : FVec Ideal S512x128 .f32) rotates_S512x128_d1) T) : FVec Ideal S512x128 .f32) bitsLt_bf16_f32 : FVec Ideal S512x128 .bf16) shapeCasts_S512x128_S1x512x128 : FVec Ideal S1x512x128 .bf16) x
      = qv N W C S T ((Rect.unit (s := S16x512x256) ![h, 0, 128] ![1, 512, 128] inb').emb x) := by
  obtain ⟨z, a, l, rfl⟩ : ∃ (z : Fin 1) (a : Fin 512) (l : Fin 128), x = ix3 z a l := ⟨x 0, x 1, x 2, by blk_ext⟩
  have he : (Rect.unit (s := S16x512x256) ![h, 0, 128] ![1, 512, 128] inb').emb (ix3 z a l) = ix3 ⟨h, hh⟩ a ⟨128 + l.val, by omega⟩ := by blk_ext
  rw [he]
  have hm := fun i : Fin 128 => mm_at N W h o hh ho inb a ⟨128 + i.val, by omega⟩
  generalize (prod N W o inb) = P at hm ⊢
  refine Eq.trans (b := turn (fun i => P (ix2 a ⟨128 + i.val, by omega⟩)) C S T a l) (by unfold turn; pointwise) ?_
  simp only [hm]
  unfold qv
  refine Eq.trans ?_ (if_neg (show ¬ 128 + l.val < 128 by omega)).symm
  refine congrArg (turn _ C S T a) ?_
  exact Fin.ext (by show l.val = 128 + l.val - 128; omega)

/-- A head's plain lanes, transposed as the body stores them, are the k block's. -/
theorem k_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 128, 512] : Fin 3 → ℕ) a ≤ S16x256x512.size a) (x : S1x128x512.Idx) :
    (shapeCast S1x128x512 (truncf .bf16 (transpose S128x512 [1, 0] (extractStridedSlice S512x128 ![0, 0] (prod N W o inb) slices_S512x256_o0_0_S512x128 : FVec Ideal S512x128 .f32) transposes_S512x128_p1_0_S128x512 : FVec Ideal S128x512 .f32) bitsLt_bf16_f32 : FVec Ideal S128x512 .bf16) shapeCasts_S128x512_S1x128x512 : FVec Ideal S1x128x512 .bf16) x
      = kv N W X C S T ((Rect.unit (s := S16x256x512) ![h, 0, 0] ![1, 128, 512] inb').emb x) := by
  obtain ⟨z, l, a, rfl⟩ : ∃ (z : Fin 1) (l : Fin 128) (a : Fin 512), x = ix3 z l a := ⟨x 0, x 1, x 2, by blk_ext⟩
  have he : (Rect.unit (s := S16x256x512) ![h, 0, 0] ![1, 128, 512] inb').emb (ix3 z l a) = ix3 ⟨h, hh⟩ ⟨l.val, by omega⟩ a := by blk_ext
  rw [he]
  have hm := mm_at N W h o hh ho inb a ⟨l.val, by omega⟩
  generalize (prod N W o inb) = P at hm ⊢
  refine Eq.trans (by pointwise) (hm.trans ?_)
  unfold kv
  exact (if_pos l.isLt).symm

/-- The rotated lanes every head shares, as the body stores them, are the k block's. -/
theorem k_high (h : ℕ) (hh : h < 16)
    (inb' : ∀ a, (![h, 128, 0] : Fin 3 → ℕ) a + (![1, 128, 512] : Fin 3 → ℕ) a ≤ S16x256x512.size a) (x : S1x128x512.Idx) :
    (shapeCast S1x128x512 (k0_pay12 C S T X) shapeCasts_S128x512_S1x128x512 : FVec Ideal S1x128x512 .bf16) x
      = kv N W X C S T ((Rect.unit (s := S16x256x512) ![h, 128, 0] ![1, 128, 512] inb').emb x) := by
  obtain ⟨z, l, a, rfl⟩ : ∃ (z : Fin 1) (l : Fin 128) (a : Fin 512), x = ix3 z l a := ⟨x 0, x 1, x 2, by blk_ext⟩
  have he : (Rect.unit (s := S16x256x512) ![h, 128, 0] ![1, 128, 512] inb').emb (ix3 z l a) = ix3 ⟨h, hh⟩ ⟨128 + l.val, by omega⟩ a := by blk_ext
  rw [he]
  refine Eq.trans (b := turn (fun i => X (ix2 a i)) C S T a l) (by unfold turn; pointwise [k0_pay12]) ?_
  unfold kv
  refine Eq.trans ?_ (if_neg (show ¬ 128 + l.val < 128 by omega)).symm
  refine congrArg (turn _ C S T a) ?_
  exact Fin.ext (by show l.val = 128 + l.val - 128; omega)

/-- A head's value lanes, as the body stores them, are the v block's. -/
theorem v_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 512, 128] : Fin 3 → ℕ) a ≤ S16x512x256.size a) (x : S1x512x128.Idx) :
    (shapeCast S1x512x128 (truncf .bf16 (extractStridedSlice S512x128 ![0, 128] (prod N W o inb) slices_S512x256_o0_128_S512x128 : FVec Ideal S512x128 .f32) bitsLt_bf16_f32 : FVec Ideal S512x128 .bf16) shapeCasts_S512x128_S1x512x128 : FVec Ideal S1x512x128 .bf16) x
      = vv N W ((Rect.unit (s := S16x512x256) ![h, 0, 0] ![1, 512, 128] inb').emb x) := by
  obtain ⟨z, a, l, rfl⟩ : ∃ (z : Fin 1) (a : Fin 512) (l : Fin 128), x = ix3 z a l := ⟨x 0, x 1, x 2, by blk_ext⟩
  have he : (Rect.unit (s := S16x512x256) ![h, 0, 0] ![1, 512, 128] inb').emb (ix3 z a l) = ix3 ⟨h, hh⟩ a ⟨l.val, by omega⟩ := by blk_ext
  rw [he]
  have hm := mm_at N W h o hh ho inb a ⟨128 + l.val, by omega⟩
  generalize (prod N W o inb) = P at hm ⊢
  refine Eq.trans (by pointwise) (hm.trans ?_)
  unfold vv
  refine Eq.trans ?_ (if_pos l.isLt).symm
  exact congrArg (mm N W a) (Fin.ext (by show 256 * h + (128 + l.val) = 256 * h + (128 + l.val % 128); omega))

/-- A lane's comparison with lane 0, widened and read as a number. -/
theorem one_bit (i : Fin 128) : (((BitVec.setWidth 32 (IntOp.cmpi .eq (BitVec.ofNat 32 i.val) 0#32)).toInt : ℝ) : EReal) = if i.val = 0 then 1 else 0 := by
  have h : (BitVec.setWidth 32 (IntOp.cmpi .eq (BitVec.ofNat 32 i.val) 0#32)).toInt = if i.val = 0 then 1 else 0 :=
    (by decide +kernel : ∀ i : Fin 128, (BitVec.setWidth 32 (IntOp.cmpi .eq (BitVec.ofNat 32 i.val) 0#32)).toInt = if i.val = 0 then 1 else 0) i
  rw [h]
  split <;> simp

/-- The block of a one and zeros. -/
theorem ones (a : Fin 512) (i : Fin 128) : (k0_pay13 (F := Ideal) (ix2 a i) : EReal) = if i.val = 0 then 1 else 0 := by
  pointwise [k0_pay13]
  exact one_bit i

/-- The lanes past a head's values, as the body stores them, are the v block's. -/
theorem v_high (h : ℕ) (hh : h < 16)
    (inb' : ∀ a, (![h, 0, 128] : Fin 3 → ℕ) a + (![1, 512, 128] : Fin 3 → ℕ) a ≤ S16x512x256.size a) (x : S1x512x128.Idx) :
    (shapeCast S1x512x128 (k0_pay13 : FVec Ideal S512x128 .bf16) shapeCasts_S512x128_S1x512x128 : FVec Ideal S1x512x128 .bf16) x
      = vv N W ((Rect.unit (s := S16x512x256) ![h, 0, 128] ![1, 512, 128] inb').emb x) := by
  obtain ⟨z, a, l, rfl⟩ : ∃ (z : Fin 1) (a : Fin 512) (l : Fin 128), x = ix3 z a l := ⟨x 0, x 1, x 2, by blk_ext⟩
  have he : (Rect.unit (s := S16x512x256) ![h, 0, 128] ![1, 512, 128] inb').emb (ix3 z a l) = ix3 ⟨h, hh⟩ a ⟨128 + l.val, by omega⟩ := by blk_ext
  rw [he]
  have ho := ones a l
  generalize (k0_pay13 : FVec Ideal S512x128 .bf16) = P at ho ⊢
  refine Eq.trans (by pointwise) (ho.trans ?_)
  unfold vv
  refine Eq.trans ?_ (if_neg (show ¬ 128 + l.val < 128 by omega)).symm
  show (if l.val = 0 then (1 : EReal) else 0) = if 128 + l.val = 128 then 1 else 0
  by_cases h0 : l.val = 0
  · rw [if_pos h0, if_pos (by omega)]
  · rw [if_neg h0, if_neg (by omega)]

end Pieces

/-- The block left in window 10. -/
theorem block10 (c : Dev nD) (t : Fin cfg0.N) (y) : (dats m 0 c).after 10 t y = qv (k0_pay9 (X0_0 m c t) (iblk m c 3 t)) (iblk m c 5 t) (k0_pay6 (iblk m c 7 t)) (k0_pay7 (iblk m c 8 t)) (k0_pay8 (iblk m c 9 t)) y := by
  rw [after0_10]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay9 (X0_0 m c t) (iblk m c 3 t)) = N
  generalize k0_pay6 (iblk m c 7 t) = C
  generalize k0_pay7 (iblk m c 8 t) = S
  generalize k0_pay8 (iblk m c 9 t) = T
  generalize iblk m c 5 t = W
  have hG : ∃ G : Vec Ideal S16x512x256 .bf16, G = qv N W C S T := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => q_high N W C S T 15 3840 (by decide) rfl _ _ x) ?_
    refine one_more _ _ _ _ (fun x => q_low N W C S T 15 3840 (by decide) rfl _ _ x) ?_
    refine one_more _ _ _ _ (fun x => q_high N W C S T 14 3584 (by decide) rfl _ _ x) ?_
    refine one_more _ _ _ _ (fun x => q_low N W C S T 14 3584 (by decide) rfl _ _ x) ?_
    refine one_more _ _ _ _ (fun x => q_high N W C S T 13 3328 (by decide) rfl _ _ x) ?_
    refine one_more _ _ _ _ (fun x => q_low N W C S T 13 3328 (by decide) rfl _ _ x) ?_
    refine one_more _ _ _ _ (fun x => q_high N W C S T 12 3072 (by decide) rfl _ _ x) ?_
    refine one_more _ _ _ _ (fun x => q_low N W C S T 12 3072 (by decide) rfl _ _ x) ?_
    refine one_more _ _ _ _ (fun x => q_high N W C S T 11 2816 (by decide) rfl _ _ x) ?_
    refine one_more _ _ _ _ (fun x => q_low N W C S T 11 2816 (by decide) rfl _ _ x) ?_
    refine one_more _ _ _ _ (fun x => q_high N W C S T 10 2560 (by decide) rfl _ _ x) ?_
    refine one_more _ _ _ _ (fun x => q_low N W C S T 10 2560 (by decide) rfl _ _ x) ?_
    refine one_more _ _ _ _ (fun x => q_high N W C S T 9 2304 (by decide) rfl _ _ x) ?_
    refine one_more _ _ _ _ (fun x => q_low N W C S T 9 2304 (by decide) rfl _ _ x) ?_
    refine one_more _ _ _ _ (fun x => q_high N W C S T 8 2048 (by decide) rfl _ _ x) ?_
    refine one_more _ _ _ _ (fun x => q_low N W C S T 8 2048 (by decide) rfl _ _ x) ?_
    refine one_more _ _ _ _ (fun x => q_high N W C S T 7 1792 (by decide) rfl _ _ x) ?_
    refine one_more _ _ _ _ (fun x => q_low N W C S T 7 1792 (by decide) rfl _ _ x) ?_
    refine one_more _ _ _ _ (fun x => q_high N W C S T 6 1536 (by decide) rfl _ _ x) ?_
    refine one_more _ _ _ _ (fun x => q_low N W C S T 6 1536 (by decide) rfl _ _ x) ?_
    refine one_more _ _ _ _ (fun x => q_high N W C S T 5 1280 (by decide) rfl _ _ x) ?_
    refine one_more _ _ _ _ (fun x => q_low N W C S T 5 1280 (by decide) rfl _ _ x) ?_
    refine one_more _ _ _ _ (fun x => q_high N W C S T 4 1024 (by decide) rfl _ _ x) ?_
    refine one_more _ _ _ _ (fun x => q_low N W C S T 4 1024 (by decide) rfl _ _ x) ?_
    refine one_more _ _ _ _ (fun x => q_high N W C S T 3 768 (by decide) rfl _ _ x) ?_
    refine one_more _ _ _ _ (fun x => q_low N W C S T 3 768 (by decide) rfl _ _ x) ?_
    refine one_more _ _ _ _ (fun x => q_high N W C S T 2 512 (by decide) rfl _ _ x) ?_
    refine one_more _ _ _ _ (fun x => q_low N W C S T 2 512 (by decide) rfl _ _ x) ?_
    refine one_more _ _ _ _ (fun x => q_high N W C S T 1 256 (by decide) rfl _ _ x) ?_
    refine one_more _ _ _ _ (fun x => q_low N W C S T 1 256 (by decide) rfl _ _ x) ?_
    refine one_more _ _ _ _ (fun x => q_high N W C S T 0 0 (by decide) rfl _ _ x) ?_
    refine one_more _ _ _ _ (fun x => q_low N W C S T 0 0 (by decide) rfl _ _ x) ?_
    exact trivial
  · exact View.cover_of_tiledL (s := S16x512x256) _ ![1, 512, 128] (by sl_kernel_rfl) y

/-- The block left in window 11. -/
theorem block11 (c : Dev nD) (t : Fin cfg0.N) (y) : (dats m 0 c).after 11 t y = kv (k0_pay11 (k0_pay10 (X0_1 m c t) (iblk m c 4 t))) (iblk m c 6 t) (iblk m c 2 t) (k0_pay6 (iblk m c 7 t)) (k0_pay7 (iblk m c 8 t)) (k0_pay8 (iblk m c 9 t)) y := by
  rw [after0_11]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay11 (k0_pay10 (X0_1 m c t) (iblk m c 4 t))) = N
  generalize k0_pay6 (iblk m c 7 t) = C
  generalize k0_pay7 (iblk m c 8 t) = S
  generalize k0_pay8 (iblk m c 9 t) = T
  generalize iblk m c 2 t = X
  generalize iblk m c 6 t = W
  have hG : ∃ G : Vec Ideal S16x256x512 .bf16, G = kv N W X C S T := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => k_high N W X C S T 15 (by decide) _ x) ?_
    refine one_more _ _ _ _ (fun x => k_low N W X C S T 15 3840 (by decide) rfl _ _ x) ?_
    refine one_more _ _ _ _ (fun x => k_high N W X C S T 14 (by decide) _ x) ?_
    refine one_more _ _ _ _ (fun x => k_low N W X C S T 14 3584 (by decide) rfl _ _ x) ?_
    refine one_more _ _ _ _ (fun x => k_high N W X C S T 13 (by decide) _ x) ?_
    refine one_more _ _ _ _ (fun x => k_low N W X C S T 13 3328 (by decide) rfl _ _ x) ?_
    refine one_more _ _ _ _ (fun x => k_high N W X C S T 12 (by decide) _ x) ?_
    refine one_more _ _ _ _ (fun x => k_low N W X C S T 12 3072 (by decide) rfl _ _ x) ?_
    refine one_more _ _ _ _ (fun x => k_high N W X C S T 11 (by decide) _ x) ?_
    refine one_more _ _ _ _ (fun x => k_low N W X C S T 11 2816 (by decide) rfl _ _ x) ?_
    refine one_more _ _ _ _ (fun x => k_high N W X C S T 10 (by decide) _ x) ?_
    refine one_more _ _ _ _ (fun x => k_low N W X C S T 10 2560 (by decide) rfl _ _ x) ?_
    refine one_more _ _ _ _ (fun x => k_high N W X C S T 9 (by decide) _ x) ?_
    refine one_more _ _ _ _ (fun x => k_low N W X C S T 9 2304 (by decide) rfl _ _ x) ?_
    refine one_more _ _ _ _ (fun x => k_high N W X C S T 8 (by decide) _ x) ?_
    refine one_more _ _ _ _ (fun x => k_low N W X C S T 8 2048 (by decide) rfl _ _ x) ?_
    refine one_more _ _ _ _ (fun x => k_high N W X C S T 7 (by decide) _ x) ?_
    refine one_more _ _ _ _ (fun x => k_low N W X C S T 7 1792 (by decide) rfl _ _ x) ?_
    refine one_more _ _ _ _ (fun x => k_high N W X C S T 6 (by decide) _ x) ?_
    refine one_more _ _ _ _ (fun x => k_low N W X C S T 6 1536 (by decide) rfl _ _ x) ?_
    refine one_more _ _ _ _ (fun x => k_high N W X C S T 5 (by decide) _ x) ?_
    refine one_more _ _ _ _ (fun x => k_low N W X C S T 5 1280 (by decide) rfl _ _ x) ?_
    refine one_more _ _ _ _ (fun x => k_high N W X C S T 4 (by decide) _ x) ?_
    refine one_more _ _ _ _ (fun x => k_low N W X C S T 4 1024 (by decide) rfl _ _ x) ?_
    refine one_more _ _ _ _ (fun x => k_high N W X C S T 3 (by decide) _ x) ?_
    refine one_more _ _ _ _ (fun x => k_low N W X C S T 3 768 (by decide) rfl _ _ x) ?_
    refine one_more _ _ _ _ (fun x => k_high N W X C S T 2 (by decide) _ x) ?_
    refine one_more _ _ _ _ (fun x => k_low N W X C S T 2 512 (by decide) rfl _ _ x) ?_
    refine one_more _ _ _ _ (fun x => k_high N W X C S T 1 (by decide) _ x) ?_
    refine one_more _ _ _ _ (fun x => k_low N W X C S T 1 256 (by decide) rfl _ _ x) ?_
    refine one_more _ _ _ _ (fun x => k_high N W X C S T 0 (by decide) _ x) ?_
    refine one_more _ _ _ _ (fun x => k_low N W X C S T 0 0 (by decide) rfl _ _ x) ?_
    exact trivial
  · exact View.cover_of_tiledL (s := S16x256x512) _ ![1, 128, 512] (by sl_kernel_rfl) y

/-- The block left in window 12. -/
theorem block12 (c : Dev nD) (t : Fin cfg0.N) (y) : (dats m 0 c).after 12 t y = vv (k0_pay11 (k0_pay10 (X0_1 m c t) (iblk m c 4 t))) (iblk m c 6 t) y := by
  rw [after0_12]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay11 (k0_pay10 (X0_1 m c t) (iblk m c 4 t))) = N
  generalize iblk m c 6 t = W
  have hG : ∃ G : Vec Ideal S16x512x256 .bf16, G = vv N W := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => v_high N W 15 (by decide) _ x) ?_
    refine one_more _ _ _ _ (fun x => v_low N W 15 3840 (by decide) rfl _ _ x) ?_
    refine one_more _ _ _ _ (fun x => v_high N W 14 (by decide) _ x) ?_
    refine one_more _ _ _ _ (fun x => v_low N W 14 3584 (by decide) rfl _ _ x) ?_
    refine one_more _ _ _ _ (fun x => v_high N W 13 (by decide) _ x) ?_
    refine one_more _ _ _ _ (fun x => v_low N W 13 3328 (by decide) rfl _ _ x) ?_
    refine one_more _ _ _ _ (fun x => v_high N W 12 (by decide) _ x) ?_
    refine one_more _ _ _ _ (fun x => v_low N W 12 3072 (by decide) rfl _ _ x) ?_
    refine one_more _ _ _ _ (fun x => v_high N W 11 (by decide) _ x) ?_
    refine one_more _ _ _ _ (fun x => v_low N W 11 2816 (by decide) rfl _ _ x) ?_
    refine one_more _ _ _ _ (fun x => v_high N W 10 (by decide) _ x) ?_
    refine one_more _ _ _ _ (fun x => v_low N W 10 2560 (by decide) rfl _ _ x) ?_
    refine one_more _ _ _ _ (fun x => v_high N W 9 (by decide) _ x) ?_
    refine one_more _ _ _ _ (fun x => v_low N W 9 2304 (by decide) rfl _ _ x) ?_
    refine one_more _ _ _ _ (fun x => v_high N W 8 (by decide) _ x) ?_
    refine one_more _ _ _ _ (fun x => v_low N W 8 2048 (by decide) rfl _ _ x) ?_
    refine one_more _ _ _ _ (fun x => v_high N W 7 (by decide) _ x) ?_
    refine one_more _ _ _ _ (fun x => v_low N W 7 1792 (by decide) rfl _ _ x) ?_
    refine one_more _ _ _ _ (fun x => v_high N W 6 (by decide) _ x) ?_
    refine one_more _ _ _ _ (fun x => v_low N W 6 1536 (by decide) rfl _ _ x) ?_
    refine one_more _ _ _ _ (fun x => v_high N W 5 (by decide) _ x) ?_
    refine one_more _ _ _ _ (fun x => v_low N W 5 1280 (by decide) rfl _ _ x) ?_
    refine one_more _ _ _ _ (fun x => v_high N W 4 (by decide) _ x) ?_
    refine one_more _ _ _ _ (fun x => v_low N W 4 1024 (by decide) rfl _ _ x) ?_
    refine one_more _ _ _ _ (fun x => v_high N W 3 (by decide) _ x) ?_
    refine one_more _ _ _ _ (fun x => v_low N W 3 768 (by decide) rfl _ _ x) ?_
    refine one_more _ _ _ _ (fun x => v_high N W 2 (by decide) _ x) ?_
    refine one_more _ _ _ _ (fun x => v_low N W 2 512 (by decide) rfl _ _ x) ?_
    refine one_more _ _ _ _ (fun x => v_high N W 1 (by decide) _ x) ?_
    refine one_more _ _ _ _ (fun x => v_low N W 1 256 (by decide) rfl _ _ x) ?_
    refine one_more _ _ _ _ (fun x => v_high N W 0 (by decide) _ x) ?_
    refine one_more _ _ _ _ (fun x => v_low N W 0 0 (by decide) rfl _ _ x) ?_
    exact trivial
  · exact View.cover_of_tiledL (s := S16x512x256) _ ![1, 512, 128] (by sl_kernel_rfl) y

/-- The contents before the tables are built: everything the host has done by then. -/
abbrev pre (c : Dev nD) : Valuation τ sig (Elt Ideal) :=
  StableHlo.after (hostOps0_2.take 10) (StableHlo.after hostOps0_1 (StableHlo.after hostOps0 fun b => m (c, b)))

/-- A table of zeros. -/
abbrev zeros : FVec Ideal S4096x32 .f32 := broadcastInDim S4096x32 ![] bcast_S_S4096x32 (constant S_ .f32 0x00000000#32 : FVec Ideal S_ .f32)

/-- The cosines are untouched by then. -/
theorem pre5 (c : Dev nD) : pre m c (Proc.devRef .tc main_arg5) = m (c, Proc.devRef .tc main_arg5) := by
  unfold pre
  simp only [hostOps0_2, List.take]
  entry_read
  rfl

/-- So are the sines. -/
theorem pre6 (c : Dev nD) : pre m c (Proc.devRef .tc main_arg6) = m (c, Proc.devRef .tc main_arg6) := by
  unfold pre
  simp only [hostOps0_2, List.take]
  entry_read
  rfl

/-- The zeros are written by then. -/
theorem pre13 (c : Dev nD) : pre m c (Proc.devRef .tc main_v13) = zeros := by
  unfold pre
  simp only [hostOps0_2, List.take]
  entry_read
  rfl

/-- The cosine table: the cosines twice, then zeros. -/
theorem table14 (c : Dev nD) : V m c main_v14 = concatenate S4096x128 1
    [⟨S4096x32, m (c, Proc.devRef .tc main_arg5)⟩, ⟨S4096x32, m (c, Proc.devRef .tc main_arg5)⟩, ⟨S4096x32, zeros⟩, ⟨S4096x32, zeros⟩] concatenates_S4096x32_S4096x32_S4096x32_S4096x32_S4096x128_d1 := by
  have h5 := pre5 m c
  have h6 := pre6 m c
  have h13 := pre13 m c
  show StableHlo.after (hostOps0_2.drop 10) (pre m c) (Proc.devRef .tc main_v14) = _
  generalize pre m c = U at *
  simp only [hostOps0_2, List.drop, StableHlo.after_cons, StableHlo.after_nil]
  rw [StableHlo.nary_result_ne' _ _ _ _ _ (by decide), StableHlo.nary_result_ne' _ _ _ _ _ (by decide),
    StableHlo.unary_result_ne' _ _ _ _ (by decide)]
  refine (StableHlo.nary4_result' _ _ _ _).trans ?_
  rw [← h13]
  first | rw [← h5] | rw [← h6]
  rfl

/-- The first sine table: the sines negated, then zeros. -/
theorem table16 (c : Dev nD) : V m c main_v16 = concatenate S4096x128 1
    [⟨S4096x32, (Host.negf (m (c, Proc.devRef .tc main_arg6) : FVec Ideal S4096x32 .f32) : FVec Ideal S4096x32 .f32)⟩, ⟨S4096x32, zeros⟩, ⟨S4096x32, zeros⟩, ⟨S4096x32, zeros⟩] concatenates_S4096x32_S4096x32_S4096x32_S4096x32_S4096x128_d1 := by
  have h5 := pre5 m c
  have h6 := pre6 m c
  have h13 := pre13 m c
  show StableHlo.after (hostOps0_2.drop 10) (pre m c) (Proc.devRef .tc main_v16) = _
  generalize pre m c = U at *
  simp only [hostOps0_2, List.drop, StableHlo.after_cons, StableHlo.after_nil]
  rw [StableHlo.nary_result_ne' _ _ _ _ _ (by decide)]
  refine (StableHlo.nary4_result' _ _ _ _).trans ?_
  rw [← h13]
  first | rw [← h5] | rw [← h6]
  rfl

/-- The second sine table: zeros, the sines, zeros. -/
theorem table17 (c : Dev nD) : V m c main_v17 = concatenate S4096x128 1
    [⟨S4096x32, zeros⟩, ⟨S4096x32, m (c, Proc.devRef .tc main_arg6)⟩, ⟨S4096x32, zeros⟩, ⟨S4096x32, zeros⟩] concatenates_S4096x32_S4096x32_S4096x32_S4096x32_S4096x128_d1 := by
  have h5 := pre5 m c
  have h6 := pre6 m c
  have h13 := pre13 m c
  show StableHlo.after (hostOps0_2.drop 10) (pre m c) (Proc.devRef .tc main_v17) = _
  generalize pre m c = U at *
  simp only [hostOps0_2, List.drop, StableHlo.after_cons, StableHlo.after_nil]
  refine (StableHlo.nary4_result' _ _ _ _).trans ?_
  rw [← h13]
  first | rw [← h5] | rw [← h6]
  rfl

/-- Four tables side by side, read at a lane. -/
theorem tab_at (x0 x1 x2 x3 : S4096x32.Idx → EReal) (h) (p : Fin 4096) (i : Fin 128) :
    concatenate S4096x128 1 [⟨S4096x32, x0⟩, ⟨S4096x32, x1⟩, ⟨S4096x32, x2⟩, ⟨S4096x32, x3⟩] h (ix2 p i)
      = if i.val < 32 then x0 (ix2 p ⟨i.val % 32, by omega⟩) else if i.val < 64 then x1 (ix2 p ⟨i.val % 32, by omega⟩)
        else if i.val < 96 then x2 (ix2 p ⟨i.val % 32, by omega⟩) else x3 (ix2 p ⟨i.val % 32, by omega⟩) := by
  have hi := i.isLt
  pointwise
  by_cases h1 : i.val < 32
  · rw [dif_pos h1, if_pos h1]
    exact congrArg x0 (by blk_ext)
  · rw [dif_neg h1, if_neg h1]
    by_cases h2 : i.val < 64
    · rw [dif_pos (by omega), if_pos h2]
      exact congrArg x1 (by blk_ext)
    · rw [dif_neg (by omega), if_neg h2]
      by_cases h3 : i.val < 96
      · rw [dif_pos (by omega), if_pos h3]
        exact congrArg x2 (by blk_ext)
      · rw [dif_neg (by omega), if_neg h3]
        exact congrArg x3 (by blk_ext)

/-- A table of zeros reads zero. -/
theorem zeros_at (i) : (zeros i : EReal) = 0 := by
  unfold zeros
  pointwise

/-- The cosine table of a block. -/
theorem cos_at (c : Dev nD) (t : Fin cfg0.N) (a : Fin 512) (i : Fin 128) (p : Fin 4096) (hp : p.val = t.val % 8 * 512 + a.val) :
    (show EReal from k0_pay6 (F := Ideal) (iblk m c 7 t) (ix2 a i))
      = if i.val < 64 then (show EReal from m ((c : Thread nD τ).loc main_arg5) (ix2 p ⟨i.val % 32, by omega⟩)) else 0 := by
  have he : (win0_7.blk t).view.emb (ix2 a i) = ix2 p i := by
    blk_ext [(idx t).2.2.2.2.2.2.2.1]
  have hb : iblk m c 7 t (ix2 a i) = V m c main_v14 (ix2 p i) := by
    unfold iblk
    blk_simp
    exact congrArg (V m c main_v14) he
  refine Eq.trans (b := (show EReal from iblk m c 7 t (ix2 a i))) (by pointwise [k0_pay6]) ?_
  refine Eq.trans (hb.trans (congrFun (table14 m c) _)) ?_
  refine (tab_at _ _ _ _ _ p i).trans ?_
  simp only [zeros_at]
  by_cases h1 : i.val < 32
  · rw [if_pos h1, if_pos (by omega)]
  · rw [if_neg h1]
    by_cases h2 : i.val < 64
    · rw [if_pos h2, if_pos h2]
    · rw [if_neg h2, if_neg h2, ite_self]

/-- The first sine table of a block. -/
theorem sin_lo (c : Dev nD) (t : Fin cfg0.N) (a : Fin 512) (i : Fin 128) (p : Fin 4096) (hp : p.val = t.val % 8 * 512 + a.val) :
    (show EReal from k0_pay7 (F := Ideal) (iblk m c 8 t) (ix2 a i))
      = if i.val < 32 then -(show EReal from m ((c : Thread nD τ).loc main_arg6) (ix2 p ⟨i.val % 32, by omega⟩)) else 0 := by
  have he : (win0_8.blk t).view.emb (ix2 a i) = ix2 p i := by
    blk_ext [(idx t).2.2.2.2.2.2.2.2.1]
  have hb : iblk m c 8 t (ix2 a i) = V m c main_v16 (ix2 p i) := by
    unfold iblk
    blk_simp
    exact congrArg (V m c main_v16) he
  refine Eq.trans (b := (show EReal from iblk m c 8 t (ix2 a i))) (by pointwise [k0_pay7]) ?_
  refine Eq.trans (hb.trans (congrFun (table16 m c) _)) ?_
  refine (tab_at _ _ _ _ _ p i).trans ?_
  simp only [zeros_at]
  by_cases h1 : i.val < 32
  · rw [if_pos h1, if_pos h1]
    rfl
  · rw [if_neg h1, if_neg h1, ite_self, ite_self]

/-- The second sine table of a block. -/
theorem sin_hi (c : Dev nD) (t : Fin cfg0.N) (a : Fin 512) (i : Fin 128) (p : Fin 4096) (hp : p.val = t.val % 8 * 512 + a.val) :
    (show EReal from k0_pay8 (F := Ideal) (iblk m c 9 t) (ix2 a i))
      = if i.val < 32 then 0 else if i.val < 64 then (show EReal from m ((c : Thread nD τ).loc main_arg6) (ix2 p ⟨i.val % 32, by omega⟩)) else 0 := by
  have he : (win0_9.blk t).view.emb (ix2 a i) = ix2 p i := by
    blk_ext [(idx t).2.2.2.2.2.2.2.2.2.1]
  have hb : iblk m c 9 t (ix2 a i) = V m c main_v17 (ix2 p i) := by
    unfold iblk
    blk_simp
    exact congrArg (V m c main_v17) he
  refine Eq.trans (b := (show EReal from iblk m c 9 t (ix2 a i))) (by pointwise [k0_pay8]) ?_
  refine Eq.trans (hb.trans (congrFun (table17 m c) _)) ?_
  refine (tab_at _ _ _ _ _ p i).trans ?_
  simp only [zeros_at, ite_self]

/-- A block of the latent's first columns. -/
theorem block0 (c : Dev nD) (t : Fin cfg0.N) (a : Fin 512) (k : Fin 512) (r : Fin 8192) (hr : r.val = t.val * 512 + a.val) :
    X0_0 m c t (ix2 a k) = m ((c : Thread nD τ).loc main_arg0) (ix2 r ⟨k.val, by omega⟩) := by
  have he : (win0_0.blk t).view.emb (fun b => ⟨((ix2 a k : S512x512.Idx) b).val, ((cfg0.win 0).moved_iff (cfg0.grid.coords t) (ix2 a k)).mp (moved0_0 t (ix2 a k)) b⟩) = ix2 r ⟨k.val, by omega⟩ := by
    blk_ext [(idx t).1]
  unfold X0_0 Pipeline.Window.fill
  rw [dif_pos (moved0_0 t (ix2 a k))]
  unfold iblk
  blk_simp
  exact (congrArg (V m c main_arg0) he).trans (congrFun (V_main_arg0 m c) _)

/-- A block of the latent's second columns. -/
theorem block1 (c : Dev nD) (t : Fin cfg0.N) (a : Fin 512) (k : Fin 512) (r : Fin 8192) (hr : r.val = t.val * 512 + a.val) :
    X0_1 m c t (ix2 a k) = m ((c : Thread nD τ).loc main_arg0) (ix2 r ⟨512 + k.val, by omega⟩) := by
  have he : (win0_1.blk t).view.emb (fun b => ⟨((ix2 a k : S512x512.Idx) b).val, ((cfg0.win 1).moved_iff (cfg0.grid.coords t) (ix2 a k)).mp (moved0_1 t (ix2 a k)) b⟩) = ix2 r ⟨512 + k.val, by omega⟩ := by
    blk_ext [(idx t).2.1]
  unfold X0_1 Pipeline.Window.fill
  rw [dif_pos (moved0_1 t (ix2 a k))]
  unfold iblk
  blk_simp
  exact (congrArg (V m c main_arg0) he).trans (congrFun (V_main_arg0 m c) _)

/-- A block of the latent's last columns. -/
theorem block2 (c : Dev nD) (t : Fin cfg0.N) (a : Fin 512) (k : Fin 128) (r : Fin 8192) (hr : r.val = t.val * 512 + a.val) :
    iblk m c 2 t (ix2 a k) = m ((c : Thread nD τ).loc main_arg0) (ix2 r ⟨1024 + k.val, by omega⟩) := by
  have he : (win0_2.blk t).view.emb (ix2 a k) = ix2 r ⟨1024 + k.val, by omega⟩ := by
    blk_ext [(idx t).2.2.1]
  unfold iblk
  blk_simp
  exact (congrArg (V m c main_arg0) he).trans (congrFun (V_main_arg0 m c) _)

/-- The first scale's one block is the scale. -/
theorem block3 (c : Dev nD) (t : Fin cfg0.N) (k : Fin 512) :
    iblk m c 3 t (ix2 0 k) = m ((c : Thread nD τ).loc main_arg1) (ix2 0 k) := by
  have he : (win0_3.blk t).view.emb (ix2 0 k) = ix2 0 k := by
    blk_ext [(idx t).2.2.2.1]
  unfold iblk
  blk_simp
  rw [he]
  simp only [V, hostOps0, hostOps0_1, hostOps0_2, List.flatten_cons, List.flatten_nil, List.append_nil, List.cons_append, List.nil_append]
  entry_read
  pointwise

/-- The second scale's one block is the scale. -/
theorem block4 (c : Dev nD) (t : Fin cfg0.N) (k : Fin 512) :
    iblk m c 4 t (ix2 0 k) = m ((c : Thread nD τ).loc main_arg2) (ix2 0 k) := by
  have he : (win0_4.blk t).view.emb (ix2 0 k) = ix2 0 k := by
    blk_ext [(idx t).2.2.2.2.1]
  unfold iblk
  blk_simp
  rw [he]
  simp only [V, hostOps0, hostOps0_1, hostOps0_2, List.flatten_cons, List.flatten_nil, List.append_nil, List.cons_append, List.nil_append]
  entry_read
  pointwise

/-- The kv weights' one block is the weights. -/
theorem block6 (c : Dev nD) (t : Fin cfg0.N) (k : Fin 512) (j : Fin 4096) :
    iblk m c 6 t (ix2 k j) = m ((c : Thread nD τ).loc main_arg4) (ix3 0 k j) := by
  have he : (win0_6.blk t).view.emb (ix2 k j) = ix2 k j := by
    blk_ext [(idx t).2.2.2.2.2.2.1]
  unfold iblk
  blk_simp
  rw [he]
  simp only [V, hostOps0, hostOps0_1, hostOps0_2, List.flatten_cons, List.flatten_nil, List.append_nil, List.cons_append, List.nil_append]
  entry_read
  pointwise

/-- The normalised first columns are the reference's. -/
theorem q_norm (c : Dev nD) (t : Fin cfg0.N) (a : Fin 512) (k : Fin 512) (r : Fin 8192) (hr : r.val = t.val * 512 + a.val)
    (b : Fin 2) (p : Fin 4096) (hb : r.val = b.val * 4096 + p.val) :
    k0_pay9 (F := Ideal) (X0_0 m c t) (iblk m c 3 t) (ix2 a k)
      = val_main_v18 (F := Ideal) (m ((c : Thread nD τ).loc main_arg0)) (m ((c : Thread nD τ).loc main_arg1)) (ix3 b p k) := by
  pointwise [k0_pay9, val_main_v18, val_main_v17, val_main_v16, val_main_v15, val_main_v14, val_main_v13, val_main_v12, val_main_v11, val_main_v10, val_main_v9, val_main_v8, val_main_v7, val_main_v6, val_main_v5, val_main_v2, val_main_v1, val_main_v0, val_main_cst, val_main_cst_0, val_main_cst_1]
  simp only [block0 m c t a _ r hr, block3]
  simp only [show (⟨b.val * 4096 + p.val, by omega⟩ : Fin 8192) = r from Fin.ext hb.symm]

/-- The normalised second columns are the reference's. -/
theorem kv_norm (c : Dev nD) (t : Fin cfg0.N) (a : Fin 512) (k : Fin 512) (r : Fin 8192) (hr : r.val = t.val * 512 + a.val)
    (b : Fin 2) (p : Fin 4096) (hb : r.val = b.val * 4096 + p.val) :
    k0_pay11 (F := Ideal) (k0_pay10 (X0_1 m c t) (iblk m c 4 t)) (ix2 a k)
      = val_main_v37 (F := Ideal) (m ((c : Thread nD τ).loc main_arg0)) (m ((c : Thread nD τ).loc main_arg2)) (ix3 b p k) := by
  pointwise [k0_pay11, k0_pay10, val_main_v37, val_main_v36, val_main_v35, val_main_v34, val_main_v33, val_main_v32, val_main_v31, val_main_v30, val_main_v29, val_main_v28, val_main_v27, val_main_v26, val_main_v25, val_main_v24, val_main_v3, val_main_v1, val_main_v0, val_main_cst_3, val_main_cst_4, val_main_cst_5]
  simp only [block1 m c t a _ r hr, block4]
  simp only [show (⟨b.val * 4096 + p.val, by omega⟩ : Fin 8192) = r from Fin.ext hb.symm]

/-- The padded q weights at a head's own lanes: the scaled weights. -/
theorem block5 (c : Dev nD) (t : Fin cfg0.N) (k : Fin 512) (h : Fin 16) (l : Fin 192) :
    (show EReal from iblk m c 5 t (ix2 k ⟨256 * h.val + l.val, by omega⟩)) =
      (show EReal from m ((c : Thread nD τ).loc main_arg3) (ix3 0 k ⟨h.val * 192 + l.val, by omega⟩)) * Ideal.ofBits .f32 0x3DD53B95#32 := by
  have he : (win0_5.blk t).view.emb (ix2 k ⟨256 * h.val + l.val, by omega⟩) = ix2 k ⟨256 * h.val + l.val, by omega⟩ := by
    blk_ext [(idx t).2.2.2.2.2.1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hl := l.isLt
  have e1 : (256 * h.val + l.val) / 256 = h.val := by omega
  have e2 : (256 * h.val + l.val) % 256 = l.val := by omega
  refine (dif_pos ⟨by omega, by omega⟩).trans ?_
  refine congrArg₂ (fun x y : EReal => x * y) (congrArg (m _) ?_) rfl
  blk_ext [e1, e2]

/-- The padded q weights beyond a head's own lanes: zero. -/
theorem block5_pad (c : Dev nD) (t : Fin cfg0.N) (k : Fin 512) (h : Fin 16) (l : Fin 256) (h192 : 192 ≤ l.val) :
    (show EReal from iblk m c 5 t (ix2 k ⟨256 * h.val + l.val, by omega⟩)) = 0 := by
  have he : (win0_5.blk t).view.emb (ix2 k ⟨256 * h.val + l.val, by omega⟩) = ix2 k ⟨256 * h.val + l.val, by omega⟩ := by
    blk_ext [(idx t).2.2.2.2.2.1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hl := l.isLt
  have e1 : (256 * h.val + l.val) / 256 = h.val := by omega
  have e2 : (256 * h.val + l.val) % 256 = l.val := by omega
  refine (dif_neg fun hd => absurd hd.2 (by omega)).trans ?_
  show (((0#32 : BitVec 32).toInt : ℝ) : EReal) = 0
  simp

/-- A column of the q projection is the reference's. -/
theorem q_lane (c : Dev nD) (t : Fin cfg0.N) (a : Fin 512) (r : Fin 8192) (hr : r.val = t.val * 512 + a.val)
    (b : Fin 2) (p : Fin 4096) (hb : r.val = b.val * 4096 + p.val) (h : Fin 16) (l : Fin 192) :
    mm (k0_pay9 (F := Ideal) (X0_0 m c t) (iblk m c 3 t)) (iblk m c 5 t) a ⟨256 * h.val + l.val, by omega⟩
      = val_main_v22 (F := Ideal) (m ((c : Thread nD τ).loc main_arg0)) (m ((c : Thread nD τ).loc main_arg1)) (m ((c : Thread nD τ).loc main_arg3)) (ix3 b p ⟨h.val * 192 + l.val, by omega⟩) := by
  unfold mm
  pointwise [val_main_v22, val_main_v21, val_main_v20, val_main_v19, val_main_cst_2]
  refine Finset.sum_congr rfl fun k _ => ?_
  exact congrArg₂ (fun x y : EReal => x * y) (q_norm m c t a k r hr b p hb) (block5 m c t k h l)

/-- A padded column of the q projection is zero. -/
theorem q_pad (c : Dev nD) (t : Fin cfg0.N) (N : FVec Ideal S512x512 .bf16) (a : Fin 512) (h : Fin 16) (l : Fin 256) (h192 : 192 ≤ l.val) :
    mm N (iblk m c 5 t) a ⟨256 * h.val + l.val, by omega⟩ = 0 := by
  unfold mm
  refine Finset.sum_eq_zero fun k _ => ?_
  exact (congrArg (fun y : EReal => (N (ix2 a k) : EReal) * y) (block5_pad m c t k h l h192)).trans (mul_zero _)

/-- A column of the kv projection is the reference's. -/
theorem kv_lane (c : Dev nD) (t : Fin cfg0.N) (a : Fin 512) (r : Fin 8192) (hr : r.val = t.val * 512 + a.val)
    (b : Fin 2) (p : Fin 4096) (hb : r.val = b.val * 4096 + p.val) (j : Fin 4096) :
    mm (k0_pay11 (F := Ideal) (k0_pay10 (X0_1 m c t) (iblk m c 4 t))) (iblk m c 6 t) a j
      = val_main_v39 (F := Ideal) (m ((c : Thread nD τ).loc main_arg0)) (m ((c : Thread nD τ).loc main_arg2)) (m ((c : Thread nD τ).loc main_arg4)) (ix3 b p j) := by
  unfold mm
  pointwise [val_main_v39, val_main_v38]
  refine Finset.sum_congr rfl fun k _ => ?_
  exact congrArg₂ (fun x y : EReal => x * y) (kv_norm m c t a k r hr b p hb) (block6 m c t k j)

/-- The first half of the rotated lanes, from the tables. -/
theorem turn_lo (x : Fin 128 → EReal) (C S T : FVec Ideal S512x128 .f32) (a : Fin 512) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (i : Fin 32) (hl : l.val = i.val) :
    turn x C S T a l = x ⟨i.val, by omega⟩ * cs i - x ⟨32 + i.val, by omega⟩ * sn i := by
  have hi := i.isLt
  have e0 : x l = x ⟨i.val, by omega⟩ := congrArg x (Fin.ext hl)
  have e1 : (⟨l.val % 32, by omega⟩ : Fin 32) = i := Fin.ext (by show l.val % 32 = i.val; omega)
  have e2 : (⟨(l.val + 128 - 96) % 128, by omega⟩ : Fin 128) = ⟨32 + i.val, by omega⟩ := Fin.ext (by show (l.val + 128 - 96) % 128 = 32 + i.val; omega)
  unfold turn
  rw [hC, hS, hT, if_pos (by omega), if_pos (by omega), if_pos (by omega), e1, e2, mul_zero, add_zero, mul_neg, ← sub_eq_add_neg, e0]

/-- The second half of the rotated lanes. -/
theorem turn_hi (x : Fin 128 → EReal) (C S T : FVec Ideal S512x128 .f32) (a : Fin 512) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (i : Fin 32) (hl : l.val = 32 + i.val) :
    turn x C S T a l = x ⟨32 + i.val, by omega⟩ * cs i + x ⟨i.val, by omega⟩ * sn i := by
  have hi := i.isLt
  have e0 : x l = x ⟨32 + i.val, by omega⟩ := congrArg x (Fin.ext hl)
  have e1 : (⟨l.val % 32, by omega⟩ : Fin 32) = i := Fin.ext (by show l.val % 32 = i.val; omega)
  have e2 : (⟨(l.val + 128 - 32) % 128, by omega⟩ : Fin 128) = ⟨i.val, by omega⟩ := Fin.ext (by show (l.val + 128 - 32) % 128 = i.val; omega)
  unfold turn
  rw [hC, hS, hT, if_pos (by omega), if_neg (by omega), if_neg (by omega), if_pos (by omega), e1, e2, mul_zero, add_zero, e0]

/-- The lanes past the rotated ones. -/
theorem turn_out (x : Fin 128 → EReal) (C S T : FVec Ideal S512x128 .f32) (a : Fin 512) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (hl : 64 ≤ l.val) : turn x C S T a l = 0 := by
  unfold turn
  rw [hC, hS, hT, if_neg (by omega), if_neg (by omega), if_neg (by omega), if_neg (by omega), mul_zero, mul_zero, mul_zero, add_zero, add_zero]

/-- The plain lanes of the reference's q. -/
theorem ref_q_plain (x0 x1 x3 x5 x6) (r : Fin 8192) (h : Fin 16) (l : Fin 256) (hl : l.val < 128) :
    val_main_v95 (F := Ideal) x0 x1 x3 x5 x6 (ix3 h r l) = val_main_v22 (F := Ideal) x0 x1 x3 (ix3 ⟨r.val / 4096, by omega⟩ ⟨r.val % 4096, by omega⟩ ⟨h.val * 192 + l.val, by omega⟩) := by
  pointwise [val_main_v95, val_main_v90, val_main_v89, val_main_v83, val_main_v82, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v80]
  exact dif_pos hl

/-- The first half of its rotated lanes. -/
theorem ref_q_lo (x0 x1 x3 x5 x6) (r : Fin 8192) (h : Fin 16) (l : Fin 256) (i : Fin 32) (hl : l.val = 128 + i.val) :
    val_main_v95 (F := Ideal) x0 x1 x3 x5 x6 (ix3 h r l)
      = val_main_v22 (F := Ideal) x0 x1 x3 (ix3 ⟨r.val / 4096, by omega⟩ ⟨r.val % 4096, by omega⟩ ⟨h.val * 192 + (128 + i.val), by omega⟩) * (show EReal from x5 (ix2 ⟨r.val % 4096, by omega⟩ i)) - val_main_v22 (F := Ideal) x0 x1 x3 (ix3 ⟨r.val / 4096, by omega⟩ ⟨r.val % 4096, by omega⟩ ⟨h.val * 192 + (128 + (32 + i.val)), by omega⟩) * (show EReal from x6 (ix2 ⟨r.val % 4096, by omega⟩ i)) := by
  pointwise [val_main_v95, val_main_v90, val_main_v89, val_main_v83, val_main_v82, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v80]
  have hi := i.isLt
  have e1 : l.val - 128 = i.val := by omega
  refine (dif_neg (by omega)).trans ((dif_pos (by omega)).trans ((dif_pos (by omega)).trans ?_))
  simp only [e1]

/-- The second half. -/
theorem ref_q_hi (x0 x1 x3 x5 x6) (r : Fin 8192) (h : Fin 16) (l : Fin 256) (i : Fin 32) (hl : l.val = 160 + i.val) :
    val_main_v95 (F := Ideal) x0 x1 x3 x5 x6 (ix3 h r l)
      = val_main_v22 (F := Ideal) x0 x1 x3 (ix3 ⟨r.val / 4096, by omega⟩ ⟨r.val % 4096, by omega⟩ ⟨h.val * 192 + (128 + (32 + i.val)), by omega⟩) * (show EReal from x5 (ix2 ⟨r.val % 4096, by omega⟩ i)) + val_main_v22 (F := Ideal) x0 x1 x3 (ix3 ⟨r.val / 4096, by omega⟩ ⟨r.val % 4096, by omega⟩ ⟨h.val * 192 + (128 + i.val), by omega⟩) * (show EReal from x6 (ix2 ⟨r.val % 4096, by omega⟩ i)) := by
  pointwise [val_main_v95, val_main_v90, val_main_v89, val_main_v83, val_main_v82, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v80]
  have hi := i.isLt
  have e1 : l.val - 128 - 32 = i.val := by omega
  refine (dif_neg (by omega)).trans ((dif_pos (by omega)).trans ((dif_neg (by omega)).trans ?_))
  simp only [e1]

/-- The zeros. -/
theorem ref_q_pad (x0 x1 x3 x5 x6) (r : Fin 8192) (h : Fin 16) (l : Fin 256) (hl : 192 ≤ l.val) :
    val_main_v95 (F := Ideal) x0 x1 x3 x5 x6 (ix3 h r l) = (0 : EReal) := by
  pointwise [val_main_v95, val_main_v90, val_main_v89, val_main_v83, val_main_v82, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v80]
  refine (dif_neg (by omega)).trans ((dif_neg (by omega)).trans ?_)
  exact Ideal.ofBits_zero_f32

/-- The plain lanes of the reference's k. -/
theorem ref_k_plain (x0 x2 x4 x5 x6) (r : Fin 8192) (h : Fin 16) (l : Fin 256) (hl : l.val < 128) :
    val_main_v96 (F := Ideal) x0 x2 x4 x5 x6 (ix3 h l r) = val_main_v39 (F := Ideal) x0 x2 x4 (ix3 ⟨r.val / 4096, by omega⟩ ⟨r.val % 4096, by omega⟩ ⟨h.val * 256 + l.val, by omega⟩) := by
  pointwise [val_main_v96, val_main_v92, val_main_v91, val_main_v85, val_main_v84, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v80]
  exact dif_pos hl

/-- The first half of its rotated lanes. -/
theorem ref_k_lo (x0 x2 x4 x5 x6) (r : Fin 8192) (h : Fin 16) (l : Fin 256) (i : Fin 32) (hl : l.val = 128 + i.val) :
    val_main_v96 (F := Ideal) x0 x2 x4 x5 x6 (ix3 h l r)
      = (show EReal from x0 (ix2 r ⟨1024 + i.val, by omega⟩)) * (show EReal from x5 (ix2 ⟨r.val % 4096, by omega⟩ i)) - (show EReal from x0 (ix2 r ⟨1024 + (32 + i.val), by omega⟩)) * (show EReal from x6 (ix2 ⟨r.val % 4096, by omega⟩ i)) := by
  pointwise [val_main_v96, val_main_v92, val_main_v91, val_main_v85, val_main_v84, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v80]
  have hi := i.isLt
  have e1 : l.val - 128 = i.val := by omega
  refine (dif_neg (by omega)).trans ((dif_pos (by omega)).trans ((dif_pos (by omega)).trans ?_))
  simp only [e1]

/-- The second half. -/
theorem ref_k_hi (x0 x2 x4 x5 x6) (r : Fin 8192) (h : Fin 16) (l : Fin 256) (i : Fin 32) (hl : l.val = 160 + i.val) :
    val_main_v96 (F := Ideal) x0 x2 x4 x5 x6 (ix3 h l r)
      = (show EReal from x0 (ix2 r ⟨1024 + (32 + i.val), by omega⟩)) * (show EReal from x5 (ix2 ⟨r.val % 4096, by omega⟩ i)) + (show EReal from x0 (ix2 r ⟨1024 + i.val, by omega⟩)) * (show EReal from x6 (ix2 ⟨r.val % 4096, by omega⟩ i)) := by
  pointwise [val_main_v96, val_main_v92, val_main_v91, val_main_v85, val_main_v84, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v80]
  have hi := i.isLt
  have e1 : l.val - 128 - 32 = i.val := by omega
  refine (dif_neg (by omega)).trans ((dif_pos (by omega)).trans ((dif_neg (by omega)).trans ?_))
  simp only [e1]

/-- The zeros. -/
theorem ref_k_pad (x0 x2 x4 x5 x6) (r : Fin 8192) (h : Fin 16) (l : Fin 256) (hl : 192 ≤ l.val) :
    val_main_v96 (F := Ideal) x0 x2 x4 x5 x6 (ix3 h l r) = (0 : EReal) := by
  pointwise [val_main_v96, val_main_v92, val_main_v91, val_main_v85, val_main_v84, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v80]
  refine (dif_neg (by omega)).trans ((dif_neg (by omega)).trans ?_)
  exact Ideal.ofBits_zero_f32

/-- The value lanes of the reference's v. -/
theorem ref_v_plain (x0 x2 x4) (r : Fin 8192) (h : Fin 16) (l : Fin 256) (hl : l.val < 128) :
    val_main_v97 (F := Ideal) x0 x2 x4 (ix3 h r l) = val_main_v39 (F := Ideal) x0 x2 x4 (ix3 ⟨r.val / 4096, by omega⟩ ⟨r.val % 4096, by omega⟩ ⟨h.val * 256 + (128 + l.val), by omega⟩) := by
  pointwise [val_main_v97, val_main_v94, val_main_v93, val_main_v88, val_main_v87, val_main_v86, val_main_v81, val_main_v40]
  exact dif_pos hl

/-- The one. -/
theorem ref_v_one (x0 x2 x4) (r : Fin 8192) (h : Fin 16) (l : Fin 256) (hl : l.val = 128) :
    val_main_v97 (F := Ideal) x0 x2 x4 (ix3 h r l) = (1 : EReal) := by
  pointwise [val_main_v97, val_main_v94, val_main_v93, val_main_v88, val_main_v87, val_main_v86, val_main_v81, val_main_v40]
  refine (dif_neg (by omega)).trans ((dif_pos (by omega)).trans ?_)
  exact Ideal.ofBits_one_f32

/-- The zeros. -/
theorem ref_v_pad (x0 x2 x4) (r : Fin 8192) (h : Fin 16) (l : Fin 256) (hl : 128 < l.val) :
    val_main_v97 (F := Ideal) x0 x2 x4 (ix3 h r l) = (0 : EReal) := by
  pointwise [val_main_v97, val_main_v94, val_main_v93, val_main_v88, val_main_v87, val_main_v86, val_main_v81, val_main_v40]
  refine (dif_neg (by omega)).trans ((dif_neg (by omega)).trans ?_)
  exact Ideal.ofBits_zero_f32

/-- A lane of the q block is the reference's. -/
theorem q_point (c : Dev nD) (t : Fin cfg0.N) (a : Fin 512) (r : Fin 8192) (hr : r.val = t.val * 512 + a.val) (h : Fin 16) (l : Fin 256) :
    qv (k0_pay9 (X0_0 m c t) (iblk m c 3 t)) (iblk m c 5 t) (k0_pay6 (iblk m c 7 t)) (k0_pay7 (iblk m c 8 t)) (k0_pay8 (iblk m c 9 t)) (ix3 h a l) = val_main_v95 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (ix3 h r l) := by
  have ht : t.val < 16 := t.isLt
  have hb : r.val = (⟨r.val / 4096, by omega⟩ : Fin 2).val * 4096 + (⟨r.val % 4096, by omega⟩ : Fin 4096).val := by
    show r.val = r.val / 4096 * 4096 + r.val % 4096
    omega
  have hp : (⟨r.val % 4096, by omega⟩ : Fin 4096).val = t.val % 8 * 512 + a.val := by
    show r.val % 4096 = t.val % 8 * 512 + a.val
    omega
  have hC := fun i => cos_at m c t a i ⟨r.val % 4096, by omega⟩ hp
  have hS := fun i => sin_lo m c t a i ⟨r.val % 4096, by omega⟩ hp
  have hT := fun i => sin_hi m c t a i ⟨r.val % 4096, by omega⟩ hp
  unfold qv
  by_cases h1 : l.val < 128
  · refine (if_pos h1).trans ((q_lane m c t a r hr _ _ hb h ⟨l.val, by omega⟩).trans (Eq.trans ?_ (ref_q_plain _ _ _ _ _ r h l h1).symm))
    rfl
  · refine (if_neg h1).trans ?_
    have hlo := fun i : Fin 32 => (q_lane m c t a r hr _ _ hb h ⟨128 + i.val, by omega⟩)
    have hhi := fun i : Fin 32 => (q_lane m c t a r hr _ _ hb h ⟨128 + (32 + i.val), by omega⟩)
    generalize k0_pay6 (F := Ideal) (iblk m c 7 t) = C at hC ⊢
    generalize k0_pay7 (F := Ideal) (iblk m c 8 t) = S at hS ⊢
    generalize k0_pay8 (F := Ideal) (iblk m c 9 t) = T at hT ⊢
    show turn (fun i : Fin 128 => mm (k0_pay9 (F := Ideal) (X0_0 m c t) (iblk m c 3 t)) (iblk m c 5 t) a ⟨256 * h.val + (128 + i.val), by omega⟩) C S T a ⟨l.val - 128, by omega⟩ = _
    generalize mm (k0_pay9 (F := Ideal) (X0_0 m c t) (iblk m c 3 t)) (iblk m c 5 t) a = f at hlo hhi ⊢
    by_cases h2 : l.val < 160
    · refine (turn_lo (fun i : Fin 128 => f ⟨256 * h.val + (128 + i.val), by omega⟩) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ ⟨l.val - 128, by omega⟩ rfl).trans ?_
      refine Eq.trans ?_ (ref_q_lo _ _ _ _ _ r h l ⟨l.val - 128, by omega⟩ (by show l.val = 128 + (l.val - 128); omega)).symm
      generalize val_main_v22 (F := Ideal) (m ((c : Thread nD τ).loc main_arg0)) (m ((c : Thread nD τ).loc main_arg1)) (m ((c : Thread nD τ).loc main_arg3)) = z at hlo hhi ⊢
      exact congrArg₂ (fun x y : EReal => x * _ - y * _) (hlo ⟨l.val - 128, by omega⟩) (hhi ⟨l.val - 128, by omega⟩)
    · by_cases h3 : l.val < 192
      · refine (turn_hi (fun i : Fin 128 => f ⟨256 * h.val + (128 + i.val), by omega⟩) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ ⟨l.val - 160, by omega⟩ (by show l.val - 128 = 32 + (l.val - 160); omega)).trans ?_
        refine Eq.trans ?_ (ref_q_hi _ _ _ _ _ r h l ⟨l.val - 160, by omega⟩ (by show l.val = 160 + (l.val - 160); omega)).symm
        generalize val_main_v22 (F := Ideal) (m ((c : Thread nD τ).loc main_arg0)) (m ((c : Thread nD τ).loc main_arg1)) (m ((c : Thread nD τ).loc main_arg3)) = z at hlo hhi ⊢
        exact congrArg₂ (fun x y : EReal => x * _ + y * _) (hhi ⟨l.val - 160, by omega⟩) (hlo ⟨l.val - 160, by omega⟩)
      · refine (turn_out (fun i : Fin 128 => f ⟨256 * h.val + (128 + i.val), by omega⟩) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ (by show 64 ≤ l.val - 128; omega)).trans ?_
        exact (ref_q_pad _ _ _ _ _ r h l (by omega)).symm

/-- A lane of the k block is the reference's. -/
theorem k_point (c : Dev nD) (t : Fin cfg0.N) (a : Fin 512) (r : Fin 8192) (hr : r.val = t.val * 512 + a.val) (h : Fin 16) (l : Fin 256) :
    kv (k0_pay11 (k0_pay10 (X0_1 m c t) (iblk m c 4 t))) (iblk m c 6 t) (iblk m c 2 t) (k0_pay6 (iblk m c 7 t)) (k0_pay7 (iblk m c 8 t)) (k0_pay8 (iblk m c 9 t)) (ix3 h l a) = val_main_v96 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (ix3 h l r) := by
  have ht : t.val < 16 := t.isLt
  have hb : r.val = (⟨r.val / 4096, by omega⟩ : Fin 2).val * 4096 + (⟨r.val % 4096, by omega⟩ : Fin 4096).val := by
    show r.val = r.val / 4096 * 4096 + r.val % 4096
    omega
  have hp : (⟨r.val % 4096, by omega⟩ : Fin 4096).val = t.val % 8 * 512 + a.val := by
    show r.val % 4096 = t.val % 8 * 512 + a.val
    omega
  have hC := fun i => cos_at m c t a i ⟨r.val % 4096, by omega⟩ hp
  have hS := fun i => sin_lo m c t a i ⟨r.val % 4096, by omega⟩ hp
  have hT := fun i => sin_hi m c t a i ⟨r.val % 4096, by omega⟩ hp
  unfold kv
  by_cases h1 : l.val < 128
  · refine (if_pos h1).trans ((kv_lane m c t a r hr _ _ hb ⟨256 * h.val + l.val, by omega⟩).trans (Eq.trans ?_ (ref_k_plain _ _ _ _ _ r h l h1).symm))
    exact congrArg _ (by blk_ext)
  · refine (if_neg h1).trans ?_
    have hlo := fun i : Fin 32 => (block2 m c t a ⟨i.val, by omega⟩ r hr)
    have hhi := fun i : Fin 32 => (block2 m c t a ⟨32 + i.val, by omega⟩ r hr)
    generalize k0_pay6 (F := Ideal) (iblk m c 7 t) = C at hC ⊢
    generalize k0_pay7 (F := Ideal) (iblk m c 8 t) = S at hS ⊢
    generalize k0_pay8 (F := Ideal) (iblk m c 9 t) = T at hT ⊢
    by_cases h2 : l.val < 160
    · refine (turn_lo (fun i : Fin 128 => iblk m c 2 t (ix2 a i)) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ ⟨l.val - 128, by omega⟩ rfl).trans ?_
      refine Eq.trans ?_ (ref_k_lo _ _ _ _ _ r h l ⟨l.val - 128, by omega⟩ (by show l.val = 128 + (l.val - 128); omega)).symm
      exact congrArg₂ (fun x y : EReal => x * _ - y * _) (hlo ⟨l.val - 128, by omega⟩) (hhi ⟨l.val - 128, by omega⟩)
    · by_cases h3 : l.val < 192
      · refine (turn_hi (fun i : Fin 128 => iblk m c 2 t (ix2 a i)) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ ⟨l.val - 160, by omega⟩ (by show l.val - 128 = 32 + (l.val - 160); omega)).trans ?_
        refine Eq.trans ?_ (ref_k_hi _ _ _ _ _ r h l ⟨l.val - 160, by omega⟩ (by show l.val = 160 + (l.val - 160); omega)).symm
        exact congrArg₂ (fun x y : EReal => x * _ + y * _) (hhi ⟨l.val - 160, by omega⟩) (hlo ⟨l.val - 160, by omega⟩)
      · refine (turn_out (fun i : Fin 128 => iblk m c 2 t (ix2 a i)) C S T a (fun i => (m ((c : Thread nD τ).loc main_arg5)) (ix2 ⟨r.val % 4096, by omega⟩ i)) (fun i => (m ((c : Thread nD τ).loc main_arg6)) (ix2 ⟨r.val % 4096, by omega⟩ i)) hC hS hT ⟨l.val - 128, by omega⟩ (by show 64 ≤ l.val - 128; omega)).trans ?_
        exact (ref_k_pad _ _ _ _ _ r h l (by omega)).symm

/-- A lane of the v block is the reference's. -/
theorem v_point (c : Dev nD) (t : Fin cfg0.N) (a : Fin 512) (r : Fin 8192) (hr : r.val = t.val * 512 + a.val) (h : Fin 16) (l : Fin 256) :
    vv (k0_pay11 (k0_pay10 (X0_1 m c t) (iblk m c 4 t))) (iblk m c 6 t) (ix3 h a l) = val_main_v97 (F := Ideal) (m ((c : Thread nD τ).loc main_arg0)) (m ((c : Thread nD τ).loc main_arg2)) (m ((c : Thread nD τ).loc main_arg4)) (ix3 h r l) := by
  have ht : t.val < 16 := t.isLt
  have hb : r.val = (⟨r.val / 4096, by omega⟩ : Fin 2).val * 4096 + (⟨r.val % 4096, by omega⟩ : Fin 4096).val := by
    show r.val = r.val / 4096 * 4096 + r.val % 4096
    omega
  unfold vv
  by_cases h1 : l.val < 128
  · refine (if_pos h1).trans ((kv_lane m c t a r hr _ _ hb ⟨256 * h.val + (128 + l.val % 128), by omega⟩).trans (Eq.trans ?_ (ref_v_plain _ _ _ r h l h1).symm))
    have hl : l.val % 128 = l.val := by omega
    exact congrArg _ (by blk_ext)
  · refine (if_neg h1).trans ?_
    by_cases h2 : l.val = 128
    · exact (if_pos h2).trans (ref_v_one _ _ _ r h l h2).symm
    · exact (if_neg h2).trans (ref_v_pad _ _ _ r h l (by omega)).symm

/-- The q result is the reference's. -/
theorem final10 (c : Dev nD) : (dats m 0 c).arrAt 10 (cfgs 0).N = val_main_v95 (F := Ideal) (m ((c : Thread nD τ).loc main_arg0)) (m ((c : Thread nD τ).loc main_arg1)) (m ((c : Thread nD τ).loc main_arg3)) (m ((c : Thread nD τ).loc main_arg5)) (m ((c : Thread nD τ).loc main_arg6)) := by
  refine (dats m 0 c).arrAt_eq_of_covers 10 _ (by decide +kernel) fun t hf y => ?_
  have ht : t.val < 16 := t.isLt
  have hy : (y 1).val < 512 := (y 1).isLt
  have he : ((cfg0.win 10).blk t).view.emb y = ix3 (y 0) (⟨t.val * 512 + (y 1).val, by omega⟩ : Fin 8192) (y 2) := by
    blk_ext [(idx t).2.2.2.2.2.2.2.2.2.2.1]
  refine (block10 m c t y).trans (((congrArg _ (eq_ix3 y)).trans (q_point m c t (y 1) ⟨t.val * 512 + (y 1).val, by omega⟩ rfl (y 0) (y 2))).trans ?_)
  exact (congrArg (val_main_v95 (F := Ideal) (m ((c : Thread nD τ).loc main_arg0)) (m ((c : Thread nD τ).loc main_arg1)) (m ((c : Thread nD τ).loc main_arg3)) (m ((c : Thread nD τ).loc main_arg5)) (m ((c : Thread nD τ).loc main_arg6))) he).symm

/-- The k result is the reference's. -/
theorem final11 (c : Dev nD) : (dats m 0 c).arrAt 11 (cfgs 0).N = val_main_v96 (F := Ideal) (m ((c : Thread nD τ).loc main_arg0)) (m ((c : Thread nD τ).loc main_arg2)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht : t.val < 16 := t.isLt
  have hy : (y 2).val < 512 := (y 2).isLt
  have he : ((cfg0.win 11).blk t).view.emb y = ix3 (y 0) (y 1) (⟨t.val * 512 + (y 2).val, by omega⟩ : Fin 8192) := by
    blk_ext [(idx t).2.2.2.2.2.2.2.2.2.2.2.1]
  refine (block11 m c t y).trans (((congrArg _ (eq_ix3 y)).trans (k_point m c t (y 2) ⟨t.val * 512 + (y 2).val, by omega⟩ rfl (y 0) (y 1))).trans ?_)
  exact (congrArg (val_main_v96 (F := Ideal) (m ((c : Thread nD τ).loc main_arg0)) (m ((c : Thread nD τ).loc main_arg2)) (m ((c : Thread nD τ).loc main_arg4)) (m ((c : Thread nD τ).loc main_arg5)) (m ((c : Thread nD τ).loc main_arg6))) he).symm

/-- The v result is the reference's. -/
theorem final12 (c : Dev nD) : (dats m 0 c).arrAt 12 (cfgs 0).N = val_main_v97 (F := Ideal) (m ((c : Thread nD τ).loc main_arg0)) (m ((c : Thread nD τ).loc main_arg2)) (m ((c : Thread nD τ).loc main_arg4)) := by
  refine (dats m 0 c).arrAt_eq_of_covers 12 _ (by decide +kernel) fun t hf y => ?_
  have ht : t.val < 16 := t.isLt
  have hy : (y 1).val < 512 := (y 1).isLt
  have he : ((cfg0.win 12).blk t).view.emb y = ix3 (y 0) (⟨t.val * 512 + (y 1).val, by omega⟩ : Fin 8192) (y 2) := by
    blk_ext [(idx t).2.2.2.2.2.2.2.2.2.2.2.2]
  refine (block12 m c t y).trans (((congrArg _ (eq_ix3 y)).trans (v_point m c t (y 1) ⟨t.val * 512 + (y 1).val, by omega⟩ rfl (y 0) (y 2))).trans ?_)
  exact (congrArg (val_main_v97 (F := Ideal) (m ((c : Thread nD τ).loc main_arg0)) (m ((c : Thread nD τ).loc main_arg2)) (m ((c : Thread nD τ).loc main_arg4))) he).symm

end Cert.RopeValue

end
-- ==== Proof.RopeClaims.lean ====
/- The claims about the up-projections and the rotary embedding: its frames, and its values at the extended reals. -/
module

public import proofs.«01_k».proof.Defs
public import proofs.«01_k».proof.Proof.Gen.Kernel6.Frame
public import proofs.«01_k».proof.Proof.RopeValue
public import Idealize.ShloMosaic.Lib.Quiescent

@[expose] public section

noncomputable section

namespace Cert.RopeClaims

open Idealize.ShloMosaic Idealize.ShloMosaic.TcCoe Idealize.SL.Sem

/-- The kernel ends, its arguments and counters as they were. -/
theorem frame_kernel : Cert.quiescent_Kernel6 := fun m g _ => Cert.Kernel6.Gen.frame m g

/-- So does the idealized kernel. -/
theorem frame_ideal : Cert.quiescent_Kernel6Ideal := fun m g _ => Cert.Kernel6Ideal.Gen.frame m g

/-- So does the reference, which has no semaphore. -/
theorem frame_reference : Cert.quiescent_Reference6Ideal := fun m g _ =>
  (θ_run Cert.Reference6Ideal.defs _ _).mono
    (fun r h => ⟨fun c => (h c).2.2.2, sem_eq_zero_of_no_sems (by decide) r.2⟩)
    (Cert.Reference6Ideal.Value.run m g)

/-- The kernel's three results are the reference's. -/
theorem values : Cert.algebraic_Kernel6Ideal_Reference6Ideal := by
  pair_intro
  · run_from Cert.Kernel6Ideal.Value.run_blocks m g
  · run_from Cert.Reference6Ideal.Value.run m' g'
    · refine (Cert.Reference6Ideal.Read.val_main_v95_eq m' c).trans (Eq.trans ?_ (RopeValue.final10 m c).symm)
      obtain ⟨h0, h1, _, h3, _, h5, h6⟩ := hagree c
      rw [h0, h1, h3, h5, h6]
    · refine (Cert.Reference6Ideal.Read.val_main_v96_eq m' c).trans (Eq.trans ?_ (RopeValue.final11 m c).symm)
      obtain ⟨h0, _, h2, _, h4, h5, h6⟩ := hagree c
      rw [h0, h2, h4, h5, h6]
    · refine (Cert.Reference6Ideal.Read.val_main_v97_eq _ _ _).trans (Eq.trans ?_ (RopeValue.final12 m c).symm)
      obtain ⟨_, _, h2, _, h4, _, _⟩ := hagree c
      rw [h2, h4]

end Cert.RopeClaims

end
-- ==== Proof.MetaLatentValue.lean ====
/- The input projection of the meta tokens, its latent columns, read at the extended reals: what the kernel leaves in its
   result is what the reference computes from the same arguments. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.MetaLatentValue

open Cert.Kernel7Ideal Cert.Kernel7Ideal.Gen
open Idealize.ShloMosaic Idealize.ShloMosaic.TcCoe Idealize.SL.Sem
open Idealize.ShloMosaic.Pipeline (Dat)
open Cert.Reference7Ideal.Read

variable (m : (ℓ : Loc nD τ sig) → Buf (Elt Ideal) ℓ)

/-- Every window's block index at the one grid point. -/
theorem idx : ∀ t : Fin cfg0.N, win0_0.index t = ![0, 0] ∧ win0_1.index t = ![0, 0] ∧
    win0_2.index t = ![0, 0] ∧ win0_3.index t = ![0, 0] :=
  (by decide +kernel : ∀ t : Fin grid0.N, _)

/-- The rows of the reference: the meta tokens, then zeros. -/
theorem rows (x0) (a : Fin 128) (k : Fin 2048) :
    (show EReal from val_main_v1 (F := Ideal) x0 (ix2 a k)) = if h : a.val < 16 then (show EReal from x0 (ix2 ⟨a.val, h⟩ k)) else 0 := by
  pointwise [val_main_v1, val_main_v0]
  by_cases h : a.val < 16
  · refine (dif_pos h).trans ?_
    rw [dif_pos h]
  · refine ((dif_neg h).trans Ideal.ofBits_zero_f32).trans ?_
    rw [dif_neg h]

/-- The input's one block is those rows. -/
theorem block0 (c : Dev nD) (t : Fin cfg0.N) (a : Fin 128) (k : Fin 2048) :
    iblk m c 0 t (ix2 a k) = val_main_v1 (F := Ideal) (m ((c : Thread nD τ).loc main_arg0)) (ix2 a k) := by
  refine Eq.trans ?_ (rows _ a k).symm
  have he : (win0_0.blk t).view.emb (ix2 a k) = ix2 a k := by
    blk_ext [(idx t).1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hz : (FloatOps.sitofp (F := Ideal) FTy.f32 0#32 : EReal) = 0 := by
    show (((0#32 : BitVec 32).toInt : ℝ) : EReal) = 0
    simp
  by_cases h : a.val < 16
  · refine (dif_pos (by omega)).trans ?_
    rw [dif_pos h]
  · refine ((dif_neg (by omega)).trans hz).trans ?_
    rw [dif_neg h]

/-- The scale's one block is the scale. -/
theorem block1 (c : Dev nD) (t : Fin cfg0.N) (k : Fin 2048) :
    iblk m c 1 t (ix2 0 k) = m ((c : Thread nD τ).loc main_arg1) (ix2 0 k) := by
  have he : (win0_1.blk t).view.emb (ix2 0 k) = ix2 0 k := by
    blk_ext [(idx t).2.1]
  unfold iblk
  blk_simp
  rw [he]
  simp only [V, hostOps0, hostOps0_1, hostOps0_2, List.flatten_cons, List.flatten_nil, List.append_nil, List.cons_append, List.nil_append]
  entry_read
  pointwise

/-- The weights' one block is the rows of the transposed weights from row 0 on. -/
theorem block2 (c : Dev nD) (t : Fin cfg0.N) (a : Fin 1152) (k : Fin 2048) :
    iblk m c 2 t (ix2 a k) = m ((c : Thread nD τ).loc main_arg2) (ix3 0 k ⟨a.val, by omega⟩) := by
  have he : (win0_2.blk t).view.emb (ix2 a k) = ix2 ⟨a.val, by omega⟩ k := by
    have h0 : win0_2.index t 0 = 0 := by rw [(idx t).2.2.1]; rfl
    have h1 : win0_2.index t 1 = 0 := by rw [(idx t).2.2.1]; rfl
    blk_ext
    · exact Pipeline.Window.rect_emb_val_of_index_zero win0_2 t 0 h0 _
    · exact Pipeline.Window.rect_emb_val_of_index_zero win0_2 t 1 h1 _
  unfold iblk
  blk_simp
  rw [he]
  simp only [V, hostOps0, hostOps0_1, hostOps0_2, List.flatten_cons, List.flatten_nil, List.append_nil, List.cons_append, List.nil_append]
  entry_read
  pointwise

/-- The normalised rows of the block are the reference's. -/
theorem norm_point (c : Dev nD) (t : Fin cfg0.N) (a : Fin 128) (k : Fin 2048) :
    k0_pay1 (F := Ideal) (iblk m c 0 t) (iblk m c 1 t) (ix2 a k)
      = val_main_v15 (F := Ideal) (m ((c : Thread nD τ).loc main_arg0)) (m ((c : Thread nD τ).loc main_arg1)) (ix2 a k) := by
  pointwise [k0_pay1, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2]
  simp only [block0, block1]

/-- A column of the projection: a row of the block against a row of the transposed weights. -/
theorem col_point (c : Dev nD) (t : Fin cfg0.N) (a : Fin 128) (j : Fin 1152) :
    (∑ k : Fin 2048, (k0_pay1 (F := Ideal) (iblk m c 0 t) (iblk m c 1 t) (ix2 a k) : EReal) * (iblk m c 2 t (ix2 j k) : EReal))
      = val_main_v19 (F := Ideal) (m ((c : Thread nD τ).loc main_arg0)) (m ((c : Thread nD τ).loc main_arg1))
        (m ((c : Thread nD τ).loc main_arg2)) (ix2 a j) := by
  pointwise [val_main_v19, val_main_v18, val_main_v17, val_main_v16]
  refine Finset.sum_congr rfl fun k _ => ?_
  rw [norm_point m c t a k, block2]

/-- The columns of the projection as the reference has them. -/
theorem final3 (c : Dev nD) : (dats m 0 c).arrAt 3 (cfgs 0).N
    = val_main_v19 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  dsimp only [outsAt0]
  frame_out
  have he : ((View.whole main_v5).slice (win0_3.rect t)).emb y = ix2 (y 0) (y 1) := by
    blk_ext [(idx t).2.2.2]
  refine Eq.trans ?_ ((col_point m c t (y 0) (y 1)).trans (congrArg _ he.symm))
  canon_tiles x h using (View.cover_of_tiledBy _ ![128, 128] (by sl_kernel_rfl) y)
  all_goals (generalize k0_pay1 (F := Ideal) (iblk m c 0 t) (iblk m c 1 t) = n)
  all_goals (generalize iblk m c 2 t = w)
  all_goals pointwise [k0_pay2, k0_pay3, k0_pay4, h0, h1]
  all_goals refine Finset.sum_congr rfl fun k _ => ?_
  all_goals refine Ideal.mul_congr (congrArg n ?_) (congrArg w ?_)
  all_goals blk_ext

end Cert.MetaLatentValue

end
-- ==== Proof.MetaLatentClaims.lean ====
/- The claims about the input projection of the meta tokens, its latent columns: its frames, and its value at the extended reals. -/
module

public import proofs.«01_k».proof.Defs
public import proofs.«01_k».proof.Proof.Gen.Kernel7.Frame
public import proofs.«01_k».proof.Proof.MetaLatentValue
public import Idealize.ShloMosaic.Lib.Quiescent

@[expose] public section

noncomputable section

namespace Cert.MetaLatentClaims

open Idealize.ShloMosaic Idealize.ShloMosaic.TcCoe Idealize.SL.Sem

/-- The kernel ends, its arguments and counters as they were. -/
theorem frame_kernel : Cert.quiescent_Kernel7 := fun m g _ => Cert.Kernel7.Gen.frame m g

/-- So does the idealized kernel. -/
theorem frame_ideal : Cert.quiescent_Kernel7Ideal := fun m g _ => Cert.Kernel7Ideal.Gen.frame m g

/-- So does the reference, which has no semaphore. -/
theorem frame_reference : Cert.quiescent_Reference7Ideal := fun m g _ =>
  (θ_run Cert.Reference7Ideal.defs _ _).mono
    (fun r h => ⟨fun c => (h c).2, sem_eq_zero_of_no_sems (by decide) r.2⟩)
    (Cert.Reference7Ideal.Value.run m g)

/-- The kernel's result is the reference's. -/
theorem values : Cert.algebraic_Kernel7Ideal_Reference7Ideal := by
  pair_intro
  · run_from Cert.Kernel7Ideal.Value.run_blocks m g
  · run_from Cert.Reference7Ideal.Value.run m' g'
    exact (Cert.Reference7Ideal.Read.val_main_v19_eq _ _ _).trans (MetaLatentValue.final3 m c).symm

end Cert.MetaLatentClaims

end
-- ==== Proof.MetaInputValue.lean ====
/- The input projection of the meta tokens, the state-space input, read at the extended reals: what the kernel leaves in its
   result is what the reference computes from the same arguments. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.MetaInputValue

open Cert.Kernel8Ideal Cert.Kernel8Ideal.Gen
open Idealize.ShloMosaic Idealize.ShloMosaic.TcCoe Idealize.SL.Sem
open Idealize.ShloMosaic.Pipeline (Dat)
open Cert.Reference8Ideal.Read

variable (m : (ℓ : Loc nD τ sig) → Buf (Elt Ideal) ℓ)

/-- Every window's block index at the one grid point. -/
theorem idx : ∀ t : Fin cfg0.N, win0_0.index t = ![0, 0] ∧ win0_1.index t = ![0, 0] ∧
    win0_2.index t = ![1088, 0] ∧ win0_3.index t = ![0, 0] :=
  (by decide +kernel : ∀ t : Fin grid0.N, _)

/-- The rows of the reference: the meta tokens, then zeros. -/
theorem rows (x0) (a : Fin 128) (k : Fin 2048) :
    (show EReal from val_main_v1 (F := Ideal) x0 (ix2 a k)) = if h : a.val < 16 then (show EReal from x0 (ix2 ⟨a.val, h⟩ k)) else 0 := by
  pointwise [val_main_v1, val_main_v0]
  by_cases h : a.val < 16
  · refine (dif_pos h).trans ?_
    rw [dif_pos h]
  · refine ((dif_neg h).trans Ideal.ofBits_zero_f32).trans ?_
    rw [dif_neg h]

/-- The input's one block is those rows. -/
theorem block0 (c : Dev nD) (t : Fin cfg0.N) (a : Fin 128) (k : Fin 2048) :
    iblk m c 0 t (ix2 a k) = val_main_v1 (F := Ideal) (m ((c : Thread nD τ).loc main_arg0)) (ix2 a k) := by
  refine Eq.trans ?_ (rows _ a k).symm
  have he : (win0_0.blk t).view.emb (ix2 a k) = ix2 a k := by
    blk_ext [(idx t).1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hz : (FloatOps.sitofp (F := Ideal) FTy.f32 0#32 : EReal) = 0 := by
    show (((0#32 : BitVec 32).toInt : ℝ) : EReal) = 0
    simp
  by_cases h : a.val < 16
  · refine (dif_pos (by omega)).trans ?_
    rw [dif_pos h]
  · refine ((dif_neg (by omega)).trans hz).trans ?_
    rw [dif_neg h]

/-- The scale's one block is the scale. -/
theorem block1 (c : Dev nD) (t : Fin cfg0.N) (k : Fin 2048) :
    iblk m c 1 t (ix2 0 k) = m ((c : Thread nD τ).loc main_arg1) (ix2 0 k) := by
  have he : (win0_1.blk t).view.emb (ix2 0 k) = ix2 0 k := by
    blk_ext [(idx t).2.1]
  unfold iblk
  blk_simp
  rw [he]
  simp only [V, hostOps0, hostOps0_1, hostOps0_2, List.flatten_cons, List.flatten_nil, List.append_nil, List.cons_append, List.nil_append]
  entry_read
  pointwise

/-- The weights' one block is the rows of the transposed weights from row 1088 on. -/
theorem block2 (c : Dev nD) (t : Fin cfg0.N) (a : Fin 1024) (k : Fin 2048) :
    iblk m c 2 t (ix2 a k) = m ((c : Thread nD τ).loc main_arg2) (ix3 0 k ⟨1088 + a.val, by omega⟩) := by
  have he : (win0_2.blk t).view.emb (ix2 a k) = ix2 ⟨1088 + a.val, by omega⟩ k := by
    have h0 : win0_2.index t 0 = 1088 := by rw [(idx t).2.2.1]; rfl
    have h1 : win0_2.index t 1 = 0 := by rw [(idx t).2.2.1]; rfl
    blk_ext
    · refine (Pipeline.Window.rect_emb_val_off win0_2 t _ 0).trans ?_
      show win0_2.index t 0 + a.val = 1088 + a.val
      rw [h0]
    · exact Pipeline.Window.rect_emb_val_of_index_zero win0_2 t 1 h1 _
  unfold iblk
  blk_simp
  rw [he]
  simp only [V, hostOps0, hostOps0_1, hostOps0_2, List.flatten_cons, List.flatten_nil, List.append_nil, List.cons_append, List.nil_append]
  entry_read
  pointwise

/-- The normalised rows of the block are the reference's. -/
theorem norm_point (c : Dev nD) (t : Fin cfg0.N) (a : Fin 128) (k : Fin 2048) :
    k0_pay1 (F := Ideal) (iblk m c 0 t) (iblk m c 1 t) (ix2 a k)
      = val_main_v15 (F := Ideal) (m ((c : Thread nD τ).loc main_arg0)) (m ((c : Thread nD τ).loc main_arg1)) (ix2 a k) := by
  pointwise [k0_pay1, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2]
  simp only [block0, block1]

/-- A column of the projection: a row of the block against a row of the transposed weights. -/
theorem col_point (c : Dev nD) (t : Fin cfg0.N) (a : Fin 128) (j : Fin 1024) :
    (∑ k : Fin 2048, (k0_pay1 (F := Ideal) (iblk m c 0 t) (iblk m c 1 t) (ix2 a k) : EReal) * (iblk m c 2 t (ix2 j k) : EReal))
      = val_main_v19 (F := Ideal) (m ((c : Thread nD τ).loc main_arg0)) (m ((c : Thread nD τ).loc main_arg1))
        (m ((c : Thread nD τ).loc main_arg2)) (ix2 a j) := by
  pointwise [val_main_v19, val_main_v18, val_main_v17, val_main_v16]
  refine Finset.sum_congr rfl fun k _ => ?_
  rw [norm_point m c t a k, block2]

/-- The columns of the projection as the reference has them. -/
theorem final3 (c : Dev nD) : (dats m 0 c).arrAt 3 (cfgs 0).N
    = val_main_v19 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  dsimp only [outsAt0]
  frame_out
  have he : ((View.whole main_v5).slice (win0_3.rect t)).emb y = ix2 (y 0) (y 1) := by
    blk_ext [(idx t).2.2.2]
  refine Eq.trans ?_ ((col_point m c t (y 0) (y 1)).trans (congrArg _ he.symm))
  canon_tiles x h using (View.cover_of_tiledBy _ ![128, 512] (by sl_kernel_rfl) y)
  all_goals (generalize k0_pay1 (F := Ideal) (iblk m c 0 t) (iblk m c 1 t) = n)
  all_goals (generalize iblk m c 2 t = w)
  all_goals pointwise [k0_pay2, k0_pay3, h0, h1]
  all_goals refine Finset.sum_congr rfl fun k _ => ?_
  all_goals refine Ideal.mul_congr (congrArg n ?_) (congrArg w ?_)
  all_goals blk_ext

end Cert.MetaInputValue

end
-- ==== Proof.MetaInputClaims.lean ====
/- The claims about the input projection of the meta tokens, the state-space input: its frames, and its value at the extended reals. -/
module

public import proofs.«01_k».proof.Defs
public import proofs.«01_k».proof.Proof.Gen.Kernel8.Frame
public import proofs.«01_k».proof.Proof.MetaInputValue
public import Idealize.ShloMosaic.Lib.Quiescent

@[expose] public section

noncomputable section

namespace Cert.MetaInputClaims

open Idealize.ShloMosaic Idealize.ShloMosaic.TcCoe Idealize.SL.Sem

/-- The kernel ends, its arguments and counters as they were. -/
theorem frame_kernel : Cert.quiescent_Kernel8 := fun m g _ => Cert.Kernel8.Gen.frame m g

/-- So does the idealized kernel. -/
theorem frame_ideal : Cert.quiescent_Kernel8Ideal := fun m g _ => Cert.Kernel8Ideal.Gen.frame m g

/-- So does the reference, which has no semaphore. -/
theorem frame_reference : Cert.quiescent_Reference8Ideal := fun m g _ =>
  (θ_run Cert.Reference8Ideal.defs _ _).mono
    (fun r h => ⟨fun c => (h c).2, sem_eq_zero_of_no_sems (by decide) r.2⟩)
    (Cert.Reference8Ideal.Value.run m g)

/-- The kernel's result is the reference's. -/
theorem values : Cert.algebraic_Kernel8Ideal_Reference8Ideal := by
  pair_intro
  · run_from Cert.Kernel8Ideal.Value.run_blocks m g
  · run_from Cert.Reference8Ideal.Value.run m' g'
    exact (Cert.Reference8Ideal.Read.val_main_v19_eq _ _ _).trans (MetaInputValue.final3 m c).symm

end Cert.MetaInputClaims

end
-- ==== Proof.MetaRopeValue.lean ====
/- The meta tokens' up-projections and the rotary embedding read at the extended reals: what the kernel leaves in its three results is
   what the reference computes from the same arguments. -/
module

public import proofs.«01_k».proof.Proof.RopeValue
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MetaRopeValue

open Cert.Kernel9Ideal Cert.Kernel9Ideal.Gen
open Idealize.ShloMosaic Idealize.ShloMosaic.TcCoe Idealize.SL.Sem
open Idealize.ShloMosaic.Pipeline (Dat)
open Cert.RopeValue (one_more one_bit)
open Cert.Reference9Ideal.Read

variable (m : (ℓ : Loc nD τ sig) → Buf (Elt Ideal) ℓ)

/-- Every window's block index at every grid point. -/
theorem idx : ∀ t : Fin cfg0.N, win0_0.index t = ![t.val, 0] ∧ win0_1.index t = ![t.val, 1] ∧ win0_2.index t = ![t.val, 8] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![t.val, 0] ∧
    win0_10.index t = ![0, t.val, 0] ∧ win0_11.index t = ![0, 0, t.val] ∧ win0_12.index t = ![0, t.val, 0] :=
  (by decide +kernel : ∀ t : Fin grid0.N, _)

/-- An entry of the product of a block of rows with a weight. -/
def mm (N : FVec Ideal S128x512 .bf16) (W : FVec Ideal S512x4096 .bf16) (a : Fin 128) (j : Fin 4096) : EReal :=
  ∑ k : Fin 512, (N (ix2 a k) : EReal) * W (ix2 k j)

/-- A lane of a rotated row: the lane, its neighbour 32 lanes up and its neighbour 32 lanes down, each by its table. -/
def turn (x : Fin 128 → EReal) (C S T : FVec Ideal S128x128 .f32) (a : Fin 128) (i : Fin 128) : EReal :=
  (x i * C (ix2 a i) + x ⟨(i.val + 128 - 96) % 128, by omega⟩ * S (ix2 a i)) + x ⟨(i.val + 128 - 32) % 128, by omega⟩ * T (ix2 a i)

/-- The columns of a weight from `o` on. -/
abbrev cols (W : FVec Ideal S512x4096 .bf16) (o : ℕ) (inb : ∀ a, (![0, o] : Fin 2 → ℕ) a + (![512, 256] : Fin 2 → ℕ) a ≤ S512x4096.size a) :
    Vec Ideal S512x256 .bf16 := View.ld (S := S512x4096) (e' := .bf16) (Val := Elt Ideal) W (Rect.unit (s := S512x4096) ![0, o] ![512, 256] inb)

/-- The product of a block of rows with a head's columns of a weight. -/
abbrev prod (N : FVec Ideal S128x512 .bf16) (W : FVec Ideal S512x4096 .bf16) (o : ℕ) (inb : ∀ a, (![0, o] : Fin 2 → ℕ) a + (![512, 256] : Fin 2 → ℕ) a ≤ S512x4096.size a) :
    FVec Ideal S128x256 .f32 :=
  matmul dot_S128x512_S512x256_S128x256_1_0_0_1_n_n none N (shapeCast S512x256 (cols W o inb) shapeCasts_S512x256_S512x256 : FVec Ideal S512x256 .bf16) (constant S128x256 .f32 0x00000000#32)

/-- A head's columns of the product. -/
theorem mm_at (N : FVec Ideal S128x512 .bf16) (W : FVec Ideal S512x4096 .bf16) (h o : ℕ) (hh : h < 16) (ho : o = 256 * h)
    (inb : ∀ a, (![0, o] : Fin 2 → ℕ) a + (![512, 256] : Fin 2 → ℕ) a ≤ S512x4096.size a) (a : Fin 128) (l : Fin 256) :
    (prod N W o inb) (ix2 a l)
      = mm N W a ⟨256 * h + l.val, by omega⟩ := by
  subst ho
  pointwise
  unfold mm
  refine Finset.sum_congr rfl fun k _ => ?_
  refine Ideal.mul_congr rfl ?_
  show W ((Rect.unit (s := S512x4096) ![0, 256 * h] ![512, 256] inb).emb (ix2 k l)) = W _
  refine congrArg W ?_
  blk_ext

/-- The q block: in each head the plain lanes, then the rotated lanes. -/
def qv (N : FVec Ideal S128x512 .bf16) (W : FVec Ideal S512x4096 .bf16) (C S T : FVec Ideal S128x128 .f32) : FVec Ideal S16x128x256 .bf16 := fun y =>
  if (y 2).val < 128 then mm N W (y 1) ⟨256 * (y 0).val + (y 2).val, by have := (y 0).isLt; have := (y 2).isLt; simp [S16x128x256] at *; omega⟩
  else turn (fun i => mm N W (y 1) ⟨256 * (y 0).val + (128 + i.val), by have := (y 0).isLt; have := i.isLt; simp [S16x128x256] at *; omega⟩) C S T (y 1) ⟨(y 2).val - 128, by have := (y 2).isLt; simp [S16x128x256] at *; omega⟩

/-- The k block, lanes before rows: in each head the plain lanes, then the rotated lanes every head shares. -/
def kv (M : FVec Ideal S128x512 .bf16) (W : FVec Ideal S512x4096 .bf16) (X : FVec Ideal S128x128 .bf16) (C S T : FVec Ideal S128x128 .f32) : FVec Ideal S16x256x128 .bf16 := fun y =>
  if (y 1).val < 128 then mm M W (y 2) ⟨256 * (y 0).val + (y 1).val, by have := (y 0).isLt; have := (y 1).isLt; simp [S16x256x128] at *; omega⟩
  else turn (fun i => X (ix2 (y 2) i)) C S T (y 2) ⟨(y 1).val - 128, by have := (y 1).isLt; simp [S16x256x128] at *; omega⟩

/-- The v block: in each head the value lanes, then a one and zeros. -/
def vv (M : FVec Ideal S128x512 .bf16) (W : FVec Ideal S512x4096 .bf16) : FVec Ideal S16x128x256 .bf16 := fun y =>
  if (y 2).val < 128 then mm M W (y 1) ⟨256 * (y 0).val + (128 + (y 2).val % 128), by have := (y 0).isLt; have := (y 2).isLt; simp [S16x128x256] at *; omega⟩
  else if (y 2).val = 128 then 1 else 0

section Pieces
variable (N : FVec Ideal S128x512 .bf16) (W : FVec Ideal S512x4096 .bf16) (X : FVec Ideal S128x128 .bf16) (C S T : FVec Ideal S128x128 .f32)

/-- A head's plain lanes, as the body stores them, are the q block's. -/
theorem q_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 128, 128] : Fin 3 → ℕ) a ≤ S16x128x256.size a) (x : S1x128x128.Idx) :
    (shapeCast S1x128x128 (truncf .bf16 (extractStridedSlice S128x128 ![0, 0] (prod N W o inb) slices_S128x256_o0_0_S128x128 : FVec Ideal S128x128 .f32) bitsLt_bf16_f32 : FVec Ideal S128x128 .bf16) shapeCasts_S128x128_S1x128x128 : FVec Ideal S1x128x128 .bf16) x
      = qv N W C S T ((Rect.unit (s := S16x128x256) ![h, 0, 0] ![1, 128, 128] inb').emb x) := by
  obtain ⟨z, a, l, rfl⟩ : ∃ (z : Fin 1) (a : Fin 128) (l : Fin 128), x = ix3 z a l := ⟨x 0, x 1, x 2, by blk_ext⟩
  have he : (Rect.unit (s := S16x128x256) ![h, 0, 0] ![1, 128, 128] inb').emb (ix3 z a l) = ix3 ⟨h, hh⟩ a ⟨l.val, by omega⟩ := by blk_ext
  rw [he]
  have hm := mm_at N W h o hh ho inb a ⟨l.val, by omega⟩
  generalize (prod N W o inb) = P at hm ⊢
  refine Eq.trans (by pointwise) (hm.trans ?_)
  unfold qv
  exact (if_pos l.isLt).symm

/-- A head's rotated lanes, as the body stores them, are the q block's. -/
theorem q_high (h o : ℕ) (hh : h < 16) (ho : o = 256 * h)
    (inb : ∀ a, (![0, o] : Fin 2 → ℕ) a + (![512, 256] : Fin 2 → ℕ) a ≤ S512x4096.size a)
    (inb' : ∀ a, (![h, 0, 128] : Fin 3 → ℕ) a + (![1, 128, 128] : Fin 3 → ℕ) a ≤ S16x128x256.size a) (x : S1x128x128.Idx) :
    (shapeCast S1x128x128 (truncf .bf16 (addf (addf (mulf (extractStridedSlice S128x128 ![0, 128] (prod N W o inb) slices_S128x256_o0_128_S128x128 : FVec Ideal S128x128 .f32) C)
        (mulf (dynamicRotate 1 96#32 none (extractStridedSlice S128x128 ![0, 128] (prod N W o inb) slices_S128x256_o0_128_S128x128 : FVec Ideal S128x128 .f32) rotates_S128x128_d1) S))
        (mulf (dynamicRotate 1 32#32 none (extractStridedSlice S128x128 ![0, 128] (prod N W o inb) slices_S128x256_o0_128_S128x128 : FVec Ideal S128x128 .f32) rotates_S128x128_d1) T) : FVec Ideal S128x128 .f32) bitsLt_bf16_f32 : FVec Ideal S128x128 .bf16) shapeCasts_S128x128_S1x128x128 : FVec Ideal S1x128x128 .bf16) x
      = qv N W C S T ((Rect.unit (s := S16x128x256) ![h, 0, 128] ![1, 128, 128] inb').emb x) := by
  obtain ⟨z, a, l, rfl⟩ : ∃ (z : Fin 1) (a : Fin 128) (l : Fin 128), x = ix3 z a l := ⟨x 0, x 1, x 2, by blk_ext⟩
  have he : (Rect.unit (s := S16x128x256) ![h, 0, 128] ![1, 128, 128] inb').emb (ix3 z a l) = ix3 ⟨h, hh⟩ a ⟨128 + l.val, by omega⟩ := by blk_ext
  rw [he]
  have hm := fun i : Fin 128 => mm_at N W h o hh ho inb a ⟨128 + i.val, by omega⟩
  generalize (prod N W o inb) = P at hm ⊢
  refine Eq.trans (b := turn (fun i => P (ix2 a ⟨128 + i.val, by omega⟩)) C S T a l) (by unfold turn; pointwise) ?_
  simp only [hm]
  unfold qv
  refine Eq.trans ?_ (if_neg (show ¬ 128 + l.val < 128 by omega)).symm
  refine congrArg (turn _ C S T a) ?_
  exact Fin.ext (by show l.val = 128 + l.val - 128; omega)

/-- A head's plain lanes, transposed as the body stores them, are the k block's. -/
theorem k_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 128, 128] : Fin 3 → ℕ) a ≤ S16x256x128.size a) (x : S1x128x128.Idx) :
    (shapeCast S1x128x128 (truncf .bf16 (transpose S128x128 [1, 0] (extractStridedSlice S128x128 ![0, 0] (prod N W o inb) slices_S128x256_o0_0_S128x128 : FVec Ideal S128x128 .f32) transposes_S128x128_p1_0_S128x128 : FVec Ideal S128x128 .f32) bitsLt_bf16_f32 : FVec Ideal S128x128 .bf16) shapeCasts_S128x128_S1x128x128 : FVec Ideal S1x128x128 .bf16) x
      = kv N W X C S T ((Rect.unit (s := S16x256x128) ![h, 0, 0] ![1, 128, 128] inb').emb x) := by
  obtain ⟨z, l, a, rfl⟩ : ∃ (z : Fin 1) (l : Fin 128) (a : Fin 128), x = ix3 z l a := ⟨x 0, x 1, x 2, by blk_ext⟩
  have he : (Rect.unit (s := S16x256x128) ![h, 0, 0] ![1, 128, 128] inb').emb (ix3 z l a) = ix3 ⟨h, hh⟩ ⟨l.val, by omega⟩ a := by blk_ext
  rw [he]
  have hm := mm_at N W h o hh ho inb a ⟨l.val, by omega⟩
  generalize (prod N W o inb) = P at hm ⊢
  refine Eq.trans (by pointwise) (hm.trans ?_)
  unfold kv
  exact (if_pos l.isLt).symm

/-- The rotated lanes every head shares, as the body stores them, are the k block's. -/
theorem k_high (h : ℕ) (hh : h < 16)
    (inb' : ∀ a, (![h, 128, 0] : Fin 3 → ℕ) a + (![1, 128, 128] : Fin 3 → ℕ) a ≤ S16x256x128.size a) (x : S1x128x128.Idx) :
    (shapeCast S1x128x128 (k0_pay12 C S T X) shapeCasts_S128x128_S1x128x128 : FVec Ideal S1x128x128 .bf16) x
      = kv N W X C S T ((Rect.unit (s := S16x256x128) ![h, 128, 0] ![1, 128, 128] inb').emb x) := by
  obtain ⟨z, l, a, rfl⟩ : ∃ (z : Fin 1) (l : Fin 128) (a : Fin 128), x = ix3 z l a := ⟨x 0, x 1, x 2, by blk_ext⟩
  have he : (Rect.unit (s := S16x256x128) ![h, 128, 0] ![1, 128, 128] inb').emb (ix3 z l a) = ix3 ⟨h, hh⟩ ⟨128 + l.val, by omega⟩ a := by blk_ext
  rw [he]
  refine Eq.trans (b := turn (fun i => X (ix2 a i)) C S T a l) (by unfold turn; pointwise [k0_pay12]) ?_
  unfold kv
  refine Eq.trans ?_ (if_neg (show ¬ 128 + l.val < 128 by omega)).symm
  refine congrArg (turn _ C S T a) ?_
  exact Fin.ext (by show l.val = 128 + l.val - 128; omega)

/-- A head's value lanes, as the body stores them, are the v block's. -/
theorem v_low (h o : ℕ) (hh : h < 16) (ho : o = 256 * h)
    (inb : ∀ a, (![0, o] : Fin 2 → ℕ) a + (![512, 256] : Fin 2 → ℕ) a ≤ S512x4096.size a)
    (inb' : ∀ a, (![h, 0, 0] : Fin 3 → ℕ) a + (![1, 128, 128] : Fin 3 → ℕ) a ≤ S16x128x256.size a) (x : S1x128x128.Idx) :
    (shapeCast S1x128x128 (truncf .bf16 (extractStridedSlice S128x128 ![0, 128] (prod N W o inb) slices_S128x256_o0_128_S128x128 : FVec Ideal S128x128 .f32) bitsLt_bf16_f32 : FVec Ideal S128x128 .bf16) shapeCasts_S128x128_S1x128x128 : FVec Ideal S1x128x128 .bf16) x
      = vv N W ((Rect.unit (s := S16x128x256) ![h, 0, 0] ![1, 128, 128] inb').emb x) := by
  obtain ⟨z, a, l, rfl⟩ : ∃ (z : Fin 1) (a : Fin 128) (l : Fin 128), x = ix3 z a l := ⟨x 0, x 1, x 2, by blk_ext⟩
  have he : (Rect.unit (s := S16x128x256) ![h, 0, 0] ![1, 128, 128] inb').emb (ix3 z a l) = ix3 ⟨h, hh⟩ a ⟨l.val, by omega⟩ := by blk_ext
  rw [he]
  have hm := mm_at N W h o hh ho inb a ⟨128 + l.val, by omega⟩
  generalize (prod N W o inb) = P at hm ⊢
  refine Eq.trans (by pointwise) (hm.trans ?_)
  unfold vv
  refine Eq.trans ?_ (if_pos l.isLt).symm
  exact congrArg (mm N W a) (Fin.ext (by show 256 * h + (128 + l.val) = 256 * h + (128 + l.val % 128); omega))

/-- The block of a one and zeros. -/
theorem ones (a : Fin 128) (i : Fin 128) : (k0_pay13 (F := Ideal) (ix2 a i) : EReal) = if i.val = 0 then 1 else 0 := by
  pointwise [k0_pay13]
  exact one_bit i

/-- The lanes past a head's values, as the body stores them, are the v block's. -/
theorem v_high (h : ℕ) (hh : h < 16)
    (inb' : ∀ a, (![h, 0, 128] : Fin 3 → ℕ) a + (![1, 128, 128] : Fin 3 → ℕ) a ≤ S16x128x256.size a) (x : S1x128x128.Idx) :
    (shapeCast S1x128x128 (k0_pay13 : FVec Ideal S128x128 .bf16) shapeCasts_S128x128_S1x128x128 : FVec Ideal S1x128x128 .bf16) x
      = vv N W ((Rect.unit (s := S16x128x256) ![h, 0, 128] ![1, 128, 128] inb').emb x) := by
  obtain ⟨z, a, l, rfl⟩ : ∃ (z : Fin 1) (a : Fin 128) (l : Fin 128), x = ix3 z a l := ⟨x 0, x 1, x 2, by blk_ext⟩
  have he : (Rect.unit (s := S16x128x256) ![h, 0, 128] ![1, 128, 128] inb').emb (ix3 z a l) = ix3 ⟨h, hh⟩ a ⟨128 + l.val, by omega⟩ := by blk_ext
  rw [he]
  have ho := ones a l
  generalize (k0_pay13 : FVec Ideal S128x128 .bf16) = P at ho ⊢
  refine Eq.trans (by pointwise) (ho.trans ?_)
  unfold vv
  refine Eq.trans ?_ (if_neg (show ¬ 128 + l.val < 128 by omega)).symm
  show (if l.val = 0 then (1 : EReal) else 0) = if 128 + l.val = 128 then 1 else 0
  by_cases h0 : l.val = 0
  · rw [if_pos h0, if_pos (by omega)]
  · rw [if_neg h0, if_neg (by omega)]

end Pieces

/-- The block left in window 10. -/
theorem block10 (c : Dev nD) (t : Fin cfg0.N) (y) : (dats m 0 c).after 10 t y = qv (k0_pay9 (X0_0 m c t) (iblk m c 3 t)) (iblk m c 5 t) (k0_pay6 (iblk m c 7 t)) (k0_pay7 (iblk m c 8 t)) (k0_pay8 (iblk m c 9 t)) y := by
  rw [after0_10]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay9 (X0_0 m c t) (iblk m c 3 t)) = N
  generalize k0_pay6 (iblk m c 7 t) = C
  generalize k0_pay7 (iblk m c 8 t) = S
  generalize k0_pay8 (iblk m c 9 t) = T
  generalize iblk m c 5 t = W
  have hG : ∃ G : Vec Ideal S16x128x256 .bf16, G = qv N W C S T := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => q_high N W C S T 15 3840 (by decide) rfl _ _ x) ?_
    refine one_more _ _ _ _ (fun x => q_low N W C S T 15 3840 (by decide) rfl _ _ x) ?_
    refine one_more _ _ _ _ (fun x => q_high N W C S T 14 3584 (by decide) rfl _ _ x) ?_
    refine one_more _ _ _ _ (fun x => q_low N W C S T 14 3584 (by decide) rfl _ _ x) ?_
    refine one_more _ _ _ _ (fun x => q_high N W C S T 13 3328 (by decide) rfl _ _ x) ?_
    refine one_more _ _ _ _ (fun x => q_low N W C S T 13 3328 (by decide) rfl _ _ x) ?_
    refine one_more _ _ _ _ (fun x => q_high N W C S T 12 3072 (by decide) rfl _ _ x) ?_
    refine one_more _ _ _ _ (fun x => q_low N W C S T 12 3072 (by decide) rfl _ _ x) ?_
    refine one_more _ _ _ _ (fun x => q_high N W C S T 11 2816 (by decide) rfl _ _ x) ?_
    refine one_more _ _ _ _ (fun x => q_low N W C S T 11 2816 (by decide) rfl _ _ x) ?_
    refine one_more _ _ _ _ (fun x => q_high N W C S T 10 2560 (by decide) rfl _ _ x) ?_
    refine one_more _ _ _ _ (fun x => q_low N W C S T 10 2560 (by decide) rfl _ _ x) ?_
    refine one_more _ _ _ _ (fun x => q_high N W C S T 9 2304 (by decide) rfl _ _ x) ?_
    refine one_more _ _ _ _ (fun x => q_low N W C S T 9 2304 (by decide) rfl _ _ x) ?_
    refine one_more _ _ _ _ (fun x => q_high N W C S T 8 2048 (by decide) rfl _ _ x) ?_
    refine one_more _ _ _ _ (fun x => q_low N W C S T 8 2048 (by decide) rfl _ _ x) ?_
    refine one_more _ _ _ _ (fun x => q_high N W C S T 7 1792 (by decide) rfl _ _ x) ?_
    refine one_more _ _ _ _ (fun x => q_low N W C S T 7 1792 (by decide) rfl _ _ x) ?_
    refine one_more _ _ _ _ (fun x => q_high N W C S T 6 1536 (by decide) rfl _ _ x) ?_
    refine one_more _ _ _ _ (fun x => q_low N W C S T 6 1536 (by decide) rfl _ _ x) ?_
    refine one_more _ _ _ _ (fun x => q_high N W C S T 5 1280 (by decide) rfl _ _ x) ?_
    refine one_more _ _ _ _ (fun x => q_low N W C S T 5 1280 (by decide) rfl _ _ x) ?_
    refine one_more _ _ _ _ (fun x => q_high N W C S T 4 1024 (by decide) rfl _ _ x) ?_
    refine one_more _ _ _ _ (fun x => q_low N W C S T 4 1024 (by decide) rfl _ _ x) ?_
    refine one_more _ _ _ _ (fun x => q_high N W C S T 3 768 (by decide) rfl _ _ x) ?_
    refine one_more _ _ _ _ (fun x => q_low N W C S T 3 768 (by decide) rfl _ _ x) ?_
    refine one_more _ _ _ _ (fun x => q_high N W C S T 2 512 (by decide) rfl _ _ x) ?_
    refine one_more _ _ _ _ (fun x => q_low N W C S T 2 512 (by decide) rfl _ _ x) ?_
    refine one_more _ _ _ _ (fun x => q_high N W C S T 1 256 (by decide) rfl _ _ x) ?_
    refine one_more _ _ _ _ (fun x => q_low N W C S T 1 256 (by decide) rfl _ _ x) ?_
    refine one_more _ _ _ _ (fun x => q_high N W C S T 0 0 (by decide) rfl _ _ x) ?_
    refine one_more _ _ _ _ (fun x => q_low N W C S T 0 0 (by decide) rfl _ _ x) ?_
    exact trivial
  · exact View.cover_of_tiledL (s := S16x128x256) _ ![1, 128, 128] (by sl_kernel_rfl) y

/-- The block left in window 11. -/
theorem block11 (c : Dev nD) (t : Fin cfg0.N) (y) : (dats m 0 c).after 11 t y = kv (k0_pay11 (k0_pay10 (X0_1 m c t) (iblk m c 4 t))) (iblk m c 6 t) (iblk m c 2 t) (k0_pay6 (iblk m c 7 t)) (k0_pay7 (iblk m c 8 t)) (k0_pay8 (iblk m c 9 t)) y := by
  rw [after0_11]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay11 (k0_pay10 (X0_1 m c t) (iblk m c 4 t))) = N
  generalize k0_pay6 (iblk m c 7 t) = C
  generalize k0_pay7 (iblk m c 8 t) = S
  generalize k0_pay8 (iblk m c 9 t) = T
  generalize iblk m c 2 t = X
  generalize iblk m c 6 t = W
  have hG : ∃ G : Vec Ideal S16x256x128 .bf16, G = kv N W X C S T := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => k_high N W X C S T 15 (by decide) _ x) ?_
    refine one_more _ _ _ _ (fun x => k_low N W X C S T 15 3840 (by decide) rfl _ _ x) ?_
    refine one_more _ _ _ _ (fun x => k_high N W X C S T 14 (by decide) _ x) ?_
    refine one_more _ _ _ _ (fun x => k_low N W X C S T 14 3584 (by decide) rfl _ _ x) ?_
    refine one_more _ _ _ _ (fun x => k_high N W X C S T 13 (by decide) _ x) ?_
    refine one_more _ _ _ _ (fun x => k_low N W X C S T 13 3328 (by decide) rfl _ _ x) ?_
    refine one_more _ _ _ _ (fun x => k_high N W X C S T 12 (by decide) _ x) ?_
    refine one_more _ _ _ _ (fun x => k_low N W X C S T 12 3072 (by decide) rfl _ _ x) ?_
    refine one_more _ _ _ _ (fun x => k_high N W X C S T 11 (by decide) _ x) ?_
    refine one_more _ _ _ _ (fun x => k_low N W X C S T 11 2816 (by decide) rfl _ _ x) ?_
    refine one_more _ _ _ _ (fun x => k_high N W X C S T 10 (by decide) _ x) ?_
    refine one_more _ _ _ _ (fun x => k_low N W X C S T 10 2560 (by decide) rfl _ _ x) ?_
    refine one_more _ _ _ _ (fun x => k_high N W X C S T 9 (by decide) _ x) ?_
    refine one_more _ _ _ _ (fun x => k_low N W X C S T 9 2304 (by decide) rfl _ _ x) ?_
    refine one_more _ _ _ _ (fun x => k_high N W X C S T 8 (by decide) _ x) ?_
    refine one_more _ _ _ _ (fun x => k_low N W X C S T 8 2048 (by decide) rfl _ _ x) ?_
    refine one_more _ _ _ _ (fun x => k_high N W X C S T 7 (by decide) _ x) ?_
    refine one_more _ _ _ _ (fun x => k_low N W X C S T 7 1792 (by decide) rfl _ _ x) ?_
    refine one_more _ _ _ _ (fun x => k_high N W X C S T 6 (by decide) _ x) ?_
    refine one_more _ _ _ _ (fun x => k_low N W X C S T 6 1536 (by decide) rfl _ _ x) ?_
    refine one_more _ _ _ _ (fun x => k_high N W X C S T 5 (by decide) _ x) ?_
    refine one_more _ _ _ _ (fun x => k_low N W X C S T 5 1280 (by decide) rfl _ _ x) ?_
    refine one_more _ _ _ _ (fun x => k_high N W X C S T 4 (by decide) _ x) ?_
    refine one_more _ _ _ _ (fun x => k_low N W X C S T 4 1024 (by decide) rfl _ _ x) ?_
    refine one_more _ _ _ _ (fun x => k_high N W X C S T 3 (by decide) _ x) ?_
    refine one_more _ _ _ _ (fun x => k_low N W X C S T 3 768 (by decide) rfl _ _ x) ?_
    refine one_more _ _ _ _ (fun x => k_high N W X C S T 2 (by decide) _ x) ?_
    refine one_more _ _ _ _ (fun x => k_low N W X C S T 2 512 (by decide) rfl _ _ x) ?_
    refine one_more _ _ _ _ (fun x => k_high N W X C S T 1 (by decide) _ x) ?_
    refine one_more _ _ _ _ (fun x => k_low N W X C S T 1 256 (by decide) rfl _ _ x) ?_
    refine one_more _ _ _ _ (fun x => k_high N W X C S T 0 (by decide) _ x) ?_
    refine one_more _ _ _ _ (fun x => k_low N W X C S T 0 0 (by decide) rfl _ _ x) ?_
    exact trivial
  · exact View.cover_of_tiledL (s := S16x256x128) _ ![1, 128, 128] (by sl_kernel_rfl) y

/-- The block left in window 12. -/
theorem block12 (c : Dev nD) (t : Fin cfg0.N) (y) : (dats m 0 c).after 12 t y = vv (k0_pay11 (k0_pay10 (X0_1 m c t) (iblk m c 4 t))) (iblk m c 6 t) y := by
  rw [after0_12]
  dsimp only [outsAt0]
  frame_out
  dsimp only [k0_pay1, k0_pay2, k0_pay3, k0_pay4, k0_pay5, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  generalize (k0_pay11 (k0_pay10 (X0_1 m c t) (iblk m c 4 t))) = N
  generalize iblk m c 6 t = W
  have hG : ∃ G : Vec Ideal S16x128x256 .bf16, G = vv N W := ⟨_, rfl⟩
  obtain ⟨G, hG⟩ := hG
  rw [← hG]
  refine View.canon_apply_of_pieces G _ (fun p hp => View.PiecesOf.mem (G := G) ?_ p hp) y ?_
  · rw [hG]
    show View.PiecesOf _ _
    refine one_more _ _ _ _ (fun x => v_high N W 15 (by decide) _ x) ?_
    refine one_more _ _ _ _ (fun x => v_low N W 15 3840 (by decide) rfl _ _ x) ?_
    refine one_more _ _ _ _ (fun x => v_high N W 14 (by decide) _ x) ?_
    refine one_more _ _ _ _ (fun x => v_low N W 14 3584 (by decide) rfl _ _ x) ?_
    refine one_more _ _ _ _ (fun x => v_high N W 13 (by decide) _ x) ?_
    refine one_more _ _ _ _ (fun x => v_low N W 13 3328 (by decide) rfl _ _ x) ?_
    refine one_more _ _ _ _ (fun x => v_high N W 12 (by decide) _ x) ?_
    refine one_more _ _ _ _ (fun x => v_low N W 12 3072 (by decide) rfl _ _ x) ?_
    refine one_more _ _ _ _ (fun x => v_high N W 11 (by decide) _ x) ?_
    refine one_more _ _ _ _ (fun x => v_low N W 11 2816 (by decide) rfl _ _ x) ?_
    refine one_more _ _ _ _ (fun x => v_high N W 10 (by decide) _ x) ?_
    refine one_more _ _ _ _ (fun x => v_low N W 10 2560 (by decide) rfl _ _ x) ?_
    refine one_more _ _ _ _ (fun x => v_high N W 9 (by decide) _ x) ?_
    refine one_more _ _ _ _ (fun x => v_low N W 9 2304 (by decide) rfl _ _ x) ?_
    refine one_more _ _ _ _ (fun x => v_high N W 8 (by decide) _ x) ?_
    refine one_more _ _ _ _ (fun x => v_low N W 8 2048 (by decide) rfl _ _ x) ?_
    refine one_more _ _ _ _ (fun x => v_high N W 7 (by decide) _ x) ?_
    refine one_more _ _ _ _ (fun x => v_low N W 7 1792 (by decide) rfl _ _ x) ?_
    refine one_more _ _ _ _ (fun x => v_high N W 6 (by decide) _ x) ?_
    refine one_more _ _ _ _ (fun x => v_low N W 6 1536 (by decide) rfl _ _ x) ?_
    refine one_more _ _ _ _ (fun x => v_high N W 5 (by decide) _ x) ?_
    refine one_more _ _ _ _ (fun x => v_low N W 5 1280 (by decide) rfl _ _ x) ?_
    refine one_more _ _ _ _ (fun x => v_high N W 4 (by decide) _ x) ?_
    refine one_more _ _ _ _ (fun x => v_low N W 4 1024 (by decide) rfl _ _ x) ?_
    refine one_more _ _ _ _ (fun x => v_high N W 3 (by decide) _ x) ?_
    refine one_more _ _ _ _ (fun x => v_low N W 3 768 (by decide) rfl _ _ x) ?_
    refine one_more _ _ _ _ (fun x => v_high N W 2 (by decide) _ x) ?_
    refine one_more _ _ _ _ (fun x => v_low N W 2 512 (by decide) rfl _ _ x) ?_
    refine one_more _ _ _ _ (fun x => v_high N W 1 (by decide) _ x) ?_
    refine one_more _ _ _ _ (fun x => v_low N W 1 256 (by decide) rfl _ _ x) ?_
    refine one_more _ _ _ _ (fun x => v_high N W 0 (by decide) _ x) ?_
    refine one_more _ _ _ _ (fun x => v_low N W 0 0 (by decide) rfl _ _ x) ?_
    exact trivial
  · exact View.cover_of_tiledL (s := S16x128x256) _ ![1, 128, 128] (by sl_kernel_rfl) y

/-- The contents before the tables are built: everything the host has done by then. -/
abbrev pre (c : Dev nD) : Valuation τ sig (Elt Ideal) :=
  StableHlo.after (hostOps0_2.take 10) (StableHlo.after hostOps0_1 (StableHlo.after hostOps0 fun b => m (c, b)))

/-- A table of zeros. -/
abbrev zeros : FVec Ideal S128x32 .f32 := broadcastInDim S128x32 ![] bcast_S_S128x32 (constant S_ .f32 0x00000000#32 : FVec Ideal S_ .f32)

/-- The cosines are untouched by then. -/
theorem pre5 (c : Dev nD) : pre m c (Proc.devRef .tc main_arg5) = m (c, Proc.devRef .tc main_arg5) := by
  unfold pre
  simp only [hostOps0_2, List.take]
  entry_read
  rfl

/-- So are the sines. -/
theorem pre6 (c : Dev nD) : pre m c (Proc.devRef .tc main_arg6) = m (c, Proc.devRef .tc main_arg6) := by
  unfold pre
  simp only [hostOps0_2, List.take]
  entry_read
  rfl

/-- The zeros are written by then. -/
theorem pre13 (c : Dev nD) : pre m c (Proc.devRef .tc main_v13) = zeros := by
  unfold pre
  simp only [hostOps0_2, List.take]
  entry_read
  rfl

/-- The cosine table: the cosines twice, then zeros. -/
theorem table14 (c : Dev nD) : V m c main_v14 = concatenate S128x128 1
    [⟨S128x32, m (c, Proc.devRef .tc main_arg5)⟩, ⟨S128x32, m (c, Proc.devRef .tc main_arg5)⟩, ⟨S128x32, zeros⟩, ⟨S128x32, zeros⟩] concatenates_S128x32_S128x32_S128x32_S128x32_S128x128_d1 := by
  have h5 := pre5 m c
  have h6 := pre6 m c
  have h13 := pre13 m c
  show StableHlo.after (hostOps0_2.drop 10) (pre m c) (Proc.devRef .tc main_v14) = _
  generalize pre m c = U at *
  simp only [hostOps0_2, List.drop, StableHlo.after_cons, StableHlo.after_nil]
  rw [StableHlo.nary_result_ne' _ _ _ _ _ (by decide), StableHlo.nary_result_ne' _ _ _ _ _ (by decide),
    StableHlo.unary_result_ne' _ _ _ _ (by decide)]
  refine (StableHlo.nary4_result' _ _ _ _).trans ?_
  rw [← h13]
  first | rw [← h5] | rw [← h6]
  rfl

/-- The first sine table: the sines negated, then zeros. -/
theorem table16 (c : Dev nD) : V m c main_v16 = concatenate S128x128 1
    [⟨S128x32, (Host.negf (m (c, Proc.devRef .tc main_arg6) : FVec Ideal S128x32 .f32) : FVec Ideal S128x32 .f32)⟩, ⟨S128x32, zeros⟩, ⟨S128x32, zeros⟩, ⟨S128x32, zeros⟩] concatenates_S128x32_S128x32_S128x32_S128x32_S128x128_d1 := by
  have h5 := pre5 m c
  have h6 := pre6 m c
  have h13 := pre13 m c
  show StableHlo.after (hostOps0_2.drop 10) (pre m c) (Proc.devRef .tc main_v16) = _
  generalize pre m c = U at *
  simp only [hostOps0_2, List.drop, StableHlo.after_cons, StableHlo.after_nil]
  rw [StableHlo.nary_result_ne' _ _ _ _ _ (by decide)]
  refine (StableHlo.nary4_result' _ _ _ _).trans ?_
  rw [← h13]
  first | rw [← h5] | rw [← h6]
  rfl

/-- The second sine table: zeros, the sines, zeros. -/
theorem table17 (c : Dev nD) : V m c main_v17 = concatenate S128x128 1
    [⟨S128x32, zeros⟩, ⟨S128x32, m (c, Proc.devRef .tc main_arg6)⟩, ⟨S128x32, zeros⟩, ⟨S128x32, zeros⟩] concatenates_S128x32_S128x32_S128x32_S128x32_S128x128_d1 := by
  have h5 := pre5 m c
  have h6 := pre6 m c
  have h13 := pre13 m c
  show StableHlo.after (hostOps0_2.drop 10) (pre m c) (Proc.devRef .tc main_v17) = _
  generalize pre m c = U at *
  simp only [hostOps0_2, List.drop, StableHlo.after_cons, StableHlo.after_nil]
  refine (StableHlo.nary4_result' _ _ _ _).trans ?_
  rw [← h13]
  first | rw [← h5] | rw [← h6]
  rfl

/-- Four tables side by side, read at a lane. -/
theorem tab_at (x0 x1 x2 x3 : S128x32.Idx → EReal) (h) (p : Fin 128) (i : Fin 128) :
    concatenate S128x128 1 [⟨S128x32, x0⟩, ⟨S128x32, x1⟩, ⟨S128x32, x2⟩, ⟨S128x32, x3⟩] h (ix2 p i)
      = if i.val < 32 then x0 (ix2 p ⟨i.val % 32, by omega⟩) else if i.val < 64 then x1 (ix2 p ⟨i.val % 32, by omega⟩)
        else if i.val < 96 then x2 (ix2 p ⟨i.val % 32, by omega⟩) else x3 (ix2 p ⟨i.val % 32, by omega⟩) := by
  have hi := i.isLt
  pointwise
  by_cases h1 : i.val < 32
  · rw [dif_pos h1, if_pos h1]
    exact congrArg x0 (by blk_ext)
  · rw [dif_neg h1, if_neg h1]
    by_cases h2 : i.val < 64
    · rw [dif_pos (by omega), if_pos h2]
      exact congrArg x1 (by blk_ext)
    · rw [dif_neg (by omega), if_neg h2]
      by_cases h3 : i.val < 96
      · rw [dif_pos (by omega), if_pos h3]
        exact congrArg x2 (by blk_ext)
      · rw [dif_neg (by omega), if_neg h3]
        exact congrArg x3 (by blk_ext)

/-- A table of zeros reads zero. -/
theorem zeros_at (i) : (zeros i : EReal) = 0 := by
  unfold zeros
  pointwise

/-- The cosine table of a block. -/
theorem cos_at (c : Dev nD) (t : Fin cfg0.N) (a : Fin 128) (i : Fin 128) (p : Fin 128) (hp : p.val = t.val * 128 + a.val) :
    (show EReal from k0_pay6 (F := Ideal) (iblk m c 7 t) (ix2 a i))
      = if i.val < 64 then (show EReal from m ((c : Thread nD τ).loc main_arg5) (ix2 p ⟨i.val % 32, by omega⟩)) else 0 := by
  have he : (win0_7.blk t).view.emb (ix2 a i) = ix2 p i := by
    blk_ext [(idx t).2.2.2.2.2.2.2.1]
  have hb : iblk m c 7 t (ix2 a i) = V m c main_v14 (ix2 p i) := by
    unfold iblk
    blk_simp
    exact congrArg (V m c main_v14) he
  refine Eq.trans (b := (show EReal from iblk m c 7 t (ix2 a i))) (by pointwise [k0_pay6]) ?_
  refine Eq.trans (hb.trans (congrFun (table14 m c) _)) ?_
  refine (tab_at _ _ _ _ _ p i).trans ?_
  simp only [zeros_at]
  by_cases h1 : i.val < 32
  · rw [if_pos h1, if_pos (by omega)]
  · rw [if_neg h1]
    by_cases h2 : i.val < 64
    · rw [if_pos h2, if_pos h2]
    · rw [if_neg h2, if_neg h2, ite_self]

/-- The first sine table of a block. -/
theorem sin_lo (c : Dev nD) (t : Fin cfg0.N) (a : Fin 128) (i : Fin 128) (p : Fin 128) (hp : p.val = t.val * 128 + a.val) :
    (show EReal from k0_pay7 (F := Ideal) (iblk m c 8 t) (ix2 a i))
      = if i.val < 32 then -(show EReal from m ((c : Thread nD τ).loc main_arg6) (ix2 p ⟨i.val % 32, by omega⟩)) else 0 := by
  have he : (win0_8.blk t).view.emb (ix2 a i) = ix2 p i := by
    blk_ext [(idx t).2.2.2.2.2.2.2.2.1]
  have hb : iblk m c 8 t (ix2 a i) = V m c main_v16 (ix2 p i) := by
    unfold iblk
    blk_simp
    exact congrArg (V m c main_v16) he
  refine Eq.trans (b := (show EReal from iblk m c 8 t (ix2 a i))) (by pointwise [k0_pay7]) ?_
  refine Eq.trans (hb.trans (congrFun (table16 m c) _)) ?_
  refine (tab_at _ _ _ _ _ p i).trans ?_
  simp only [zeros_at]
  by_cases h1 : i.val < 32
  · rw [if_pos h1, if_pos h1]
    rfl
  · rw [if_neg h1, if_neg h1, ite_self, ite_self]

/-- The second sine table of a block. -/
theorem sin_hi (c : Dev nD) (t : Fin cfg0.N) (a : Fin 128) (i : Fin 128) (p : Fin 128) (hp : p.val = t.val * 128 + a.val) :
    (show EReal from k0_pay8 (F := Ideal) (iblk m c 9 t) (ix2 a i))
      = if i.val < 32 then 0 else if i.val < 64 then (show EReal from m ((c : Thread nD τ).loc main_arg6) (ix2 p ⟨i.val % 32, by omega⟩)) else 0 := by
  have he : (win0_9.blk t).view.emb (ix2 a i) = ix2 p i := by
    blk_ext [(idx t).2.2.2.2.2.2.2.2.2.1]
  have hb : iblk m c 9 t (ix2 a i) = V m c main_v17 (ix2 p i) := by
    unfold iblk
    blk_simp
    exact congrArg (V m c main_v17) he
  refine Eq.trans (b := (show EReal from iblk m c 9 t (ix2 a i))) (by pointwise [k0_pay8]) ?_
  refine Eq.trans (hb.trans (congrFun (table17 m c) _)) ?_
  refine (tab_at _ _ _ _ _ p i).trans ?_
  simp only [zeros_at, ite_self]

/-- A block of the latent's first columns. -/
theorem block0 (c : Dev nD) (t : Fin cfg0.N) (a : Fin 128) (k : Fin 512) (r : Fin 128) (hr : r.val = t.val * 128 + a.val) :
    X0_0 m c t (ix2 a k) = m ((c : Thread nD τ).loc main_arg0) (ix2 r ⟨k.val, by omega⟩) := by
  have he : (win0_0.blk t).view.emb (fun b => ⟨((ix2 a k : S128x512.Idx) b).val, ((cfg0.win 0).moved_iff (cfg0.grid.coords t) (ix2 a k)).mp (moved0_0 t (ix2 a k)) b⟩) = ix2 r ⟨k.val, by omega⟩ := by
    blk_ext [(idx t).1]
  unfold X0_0 Pipeline.Window.fill
  rw [dif_pos (moved0_0 t (ix2 a k))]
  unfold iblk
  blk_simp
  exact (congrArg (V m c main_arg0) he).trans (congrFun (V_main_arg0 m c) _)

/-- A block of the latent's second columns. -/
theorem block1 (c : Dev nD) (t : Fin cfg0.N) (a : Fin 128) (k : Fin 512) (r : Fin 128) (hr : r.val = t.val * 128 + a.val) :
    X0_1 m c t (ix2 a k) = m ((c : Thread nD τ).loc main_arg0) (ix2 r ⟨512 + k.val, by omega⟩) := by
  have he : (win0_1.blk t).view.emb (fun b => ⟨((ix2 a k : S128x512.Idx) b).val, ((cfg0.win 1).moved_iff (cfg0.grid.coords t) (ix2 a k)).mp (moved0_1 t (ix2 a k)) b⟩) = ix2 r ⟨512 + k.val, by omega⟩ := by
    blk_ext [(idx t).2.1]
  unfold X0_1 Pipeline.Window.fill
  rw [dif_pos (moved0_1 t (ix2 a k))]
  unfold iblk
  blk_simp
  exact (congrArg (V m c main_arg0) he).trans (congrFun (V_main_arg0 m c) _)

/-- A block of the latent's last columns. -/
theorem block2 (c : Dev nD) (t : Fin cfg0.N) (a : Fin 128) (k : Fin 128) (r : Fin 128) (hr : r.val = t.val * 128 + a.val) :
    iblk m c 2 t (ix2 a k) = m ((c : Thread nD τ).loc main_arg0) (ix2 r ⟨1024 + k.val, by omega⟩) := by
  have he : (win0_2.blk t).view.emb (ix2 a k) = ix2 r ⟨1024 + k.val, by omega⟩ := by
    blk_ext [(idx t).2.2.1]
  unfold iblk
  blk_simp
  exact (congrArg (V m c main_arg0) he).trans (congrFun (V_main_arg0 m c) _)

/-- The first scale's one block is the scale. -/
theorem block3 (c : Dev nD) (t : Fin cfg0.N) (k : Fin 512) :
    iblk m c 3 t (ix2 0 k) = m ((c : Thread nD τ).loc main_arg1) (ix2 0 k) := by
  have he : (win0_3.blk t).view.emb (ix2 0 k) = ix2 0 k := by
    blk_ext [(idx t).2.2.2.1]
  unfold iblk
  blk_simp
  rw [he]
  simp only [V, hostOps0, hostOps0_1, hostOps0_2, List.flatten_cons, List.flatten_nil, List.append_nil, List.cons_append, List.nil_append]
  entry_read
  pointwise

/-- The second scale's one block is the scale. -/
theorem block4 (c : Dev nD) (t : Fin cfg0.N) (k : Fin 512) :
    iblk m c 4 t (ix2 0 k) = m ((c : Thread nD τ).loc main_arg2) (ix2 0 k) := by
  have he : (win0_4.blk t).view.emb (ix2 0 k) = ix2 0 k := by
    blk_ext [(idx t).2.2.2.2.1]
  unfold iblk
  blk_simp
  rw [he]
  simp only [V, hostOps0, hostOps0_1, hostOps0_2, List.flatten_cons, List.flatten_nil, List.append_nil, List.cons_append, List.nil_append]
  entry_read
  pointwise

/-- The kv weights' one block is the weights. -/
theorem block6 (c : Dev nD) (t : Fin cfg0.N) (k : Fin 512) (j : Fin 4096) :
    iblk m c 6 t (ix2 k j) = m ((c : Thread nD τ).loc main_arg4) (ix3 0 k j) := by
  have he : (win0_6.blk t).view.emb (ix2 k j) = ix2 k j := by
    blk_ext [(idx t).2.2.2.2.2.2.1]
  unfold iblk
  blk_simp
  rw [he]
  simp only [V, hostOps0, hostOps0_1, hostOps0_2, List.flatten_cons, List.flatten_nil, List.append_nil, List.cons_append, List.nil_append]
  entry_read
  pointwise

/-- The normalised first columns are the reference's. -/
theorem q_norm (c : Dev nD) (t : Fin cfg0.N) (a : Fin 128) (k : Fin 512) (r : Fin 128) (hr : r.val = t.val * 128 + a.val) :
    k0_pay9 (F := Ideal) (X0_0 m c t) (iblk m c 3 t) (ix2 a k)
      = val_main_v18 (F := Ideal) (m ((c : Thread nD τ).loc main_arg0)) (m ((c : Thread nD τ).loc main_arg1)) (ix3 0 r k) := by
  pointwise [k0_pay9, val_main_v18, val_main_v17, val_main_v16, val_main_v15, val_main_v14, val_main_v13, val_main_v12, val_main_v11, val_main_v10, val_main_v9, val_main_v8, val_main_v7, val_main_v6, val_main_v5, val_main_v2, val_main_v1, val_main_v0, val_main_cst, val_main_cst_0, val_main_cst_1]
  simp only [block0 m c t a _ r hr, block3]

/-- The normalised second columns are the reference's. -/
theorem kv_norm (c : Dev nD) (t : Fin cfg0.N) (a : Fin 128) (k : Fin 512) (r : Fin 128) (hr : r.val = t.val * 128 + a.val) :
    k0_pay11 (F := Ideal) (k0_pay10 (X0_1 m c t) (iblk m c 4 t)) (ix2 a k)
      = val_main_v37 (F := Ideal) (m ((c : Thread nD τ).loc main_arg0)) (m ((c : Thread nD τ).loc main_arg2)) (ix3 0 r k) := by
  pointwise [k0_pay11, k0_pay10, val_main_v37, val_main_v36, val_main_v35, val_main_v34, val_main_v33, val_main_v32, val_main_v31, val_main_v30, val_main_v29, val_main_v28, val_main_v27, val_main_v26, val_main_v25, val_main_v24, val_main_v3, val_main_v1, val_main_v0, val_main_cst_3, val_main_cst_4, val_main_cst_5]
  simp only [block1 m c t a _ r hr, block4]

/-- The padded q weights at a head's own lanes: the scaled weights. -/
theorem block5 (c : Dev nD) (t : Fin cfg0.N) (k : Fin 512) (h : Fin 16) (l : Fin 192) :
    (show EReal from iblk m c 5 t (ix2 k ⟨256 * h.val + l.val, by omega⟩)) =
      (show EReal from m ((c : Thread nD τ).loc main_arg3) (ix3 0 k ⟨h.val * 192 + l.val, by omega⟩)) * Ideal.ofBits .f32 0x3DD53B95#32 := by
  have he : (win0_5.blk t).view.emb (ix2 k ⟨256 * h.val + l.val, by omega⟩) = ix2 k ⟨256 * h.val + l.val, by omega⟩ := by
    blk_ext [(idx t).2.2.2.2.2.1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hl := l.isLt
  have e1 : (256 * h.val + l.val) / 256 = h.val := by omega
  have e2 : (256 * h.val + l.val) % 256 = l.val := by omega
  refine (dif_pos ⟨by omega, by omega⟩).trans ?_
  refine congrArg₂ (fun x y : EReal => x * y) (congrArg (m _) ?_) rfl
  blk_ext [e1, e2]

/-- The padded q weights beyond a head's own lanes: zero. -/
theorem block5_pad (c : Dev nD) (t : Fin cfg0.N) (k : Fin 512) (h : Fin 16) (l : Fin 256) (h192 : 192 ≤ l.val) :
    (show EReal from iblk m c 5 t (ix2 k ⟨256 * h.val + l.val, by omega⟩)) = 0 := by
  have he : (win0_5.blk t).view.emb (ix2 k ⟨256 * h.val + l.val, by omega⟩) = ix2 k ⟨256 * h.val + l.val, by omega⟩ := by
    blk_ext [(idx t).2.2.2.2.2.1]
  unfold iblk
  blk_simp
  rw [he]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have hl := l.isLt
  have e1 : (256 * h.val + l.val) / 256 = h.val := by omega
  have e2 : (256 * h.val + l.val) % 256 = l.val := by omega
  refine (dif_neg fun hd => absurd hd.2 (by omega)).trans ?_
  show (((0#32 : BitVec 32).toInt : ℝ) : EReal) = 0
  simp

/-- A column of the q projection is the reference's. -/
theorem q_lane (c : Dev nD) (t : Fin cfg0.N) (a : Fin 128) (r : Fin 128) (hr : r.val = t.val * 128 + a.val)
    (h : Fin 16) (l : Fin 192) :
    mm (k0_pay9 (F := Ideal) (X0_0 m c t) (iblk m c 3 t)) (iblk m c 5 t) a ⟨256 * h.val + l.val, by omega⟩
      = val_main_v22 (F := Ideal) (m ((c : Thread nD τ).loc main_arg0)) (m ((c : Thread nD τ).loc main_arg1)) (m ((c : Thread nD τ).loc main_arg3)) (ix3 0 r ⟨h.val * 192 + l.val, by omega⟩) := by
  unfold mm
  pointwise [val_main_v22, val_main_v21, val_main_v20, val_main_v19, val_main_cst_2]
  refine Finset.sum_congr rfl fun k _ => ?_
  exact congrArg₂ (fun x y : EReal => x * y) (q_norm m c t a k r hr) (block5 m c t k h l)

/-- A padded column of the q projection is zero. -/
theorem q_pad (c : Dev nD) (t : Fin cfg0.N) (N : FVec Ideal S128x512 .bf16) (a : Fin 128) (h : Fin 16) (l : Fin 256) (h192 : 192 ≤ l.val) :
    mm N (iblk m c 5 t) a ⟨256 * h.val + l.val, by omega⟩ = 0 := by
  unfold mm
  refine Finset.sum_eq_zero fun k _ => ?_
  exact (congrArg (fun y : EReal => (N (ix2 a k) : EReal) * y) (block5_pad m c t k h l h192)).trans (mul_zero _)

/-- A column of the kv projection is the reference's. -/
theorem kv_lane (c : Dev nD) (t : Fin cfg0.N) (a : Fin 128) (r : Fin 128) (hr : r.val = t.val * 128 + a.val)
    (j : Fin 4096) :
    mm (k0_pay11 (F := Ideal) (k0_pay10 (X0_1 m c t) (iblk m c 4 t))) (iblk m c 6 t) a j
      = val_main_v39 (F := Ideal) (m ((c : Thread nD τ).loc main_arg0)) (m ((c : Thread nD τ).loc main_arg2)) (m ((c : Thread nD τ).loc main_arg4)) (ix3 0 r j) := by
  unfold mm
  pointwise [val_main_v39, val_main_v38]
  refine Finset.sum_congr rfl fun k _ => ?_
  exact congrArg₂ (fun x y : EReal => x * y) (kv_norm m c t a k r hr) (block6 m c t k j)

/-- The first half of the rotated lanes, from the tables. -/
theorem turn_lo (x : Fin 128 → EReal) (C S T : FVec Ideal S128x128 .f32) (a : Fin 128) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (i : Fin 32) (hl : l.val = i.val) :
    turn x C S T a l = x ⟨i.val, by omega⟩ * cs i - x ⟨32 + i.val, by omega⟩ * sn i := by
  have hi := i.isLt
  have e0 : x l = x ⟨i.val, by omega⟩ := congrArg x (Fin.ext hl)
  have e1 : (⟨l.val % 32, by omega⟩ : Fin 32) = i := Fin.ext (by show l.val % 32 = i.val; omega)
  have e2 : (⟨(l.val + 128 - 96) % 128, by omega⟩ : Fin 128) = ⟨32 + i.val, by omega⟩ := Fin.ext (by show (l.val + 128 - 96) % 128 = 32 + i.val; omega)
  unfold turn
  rw [hC, hS, hT, if_pos (by omega), if_pos (by omega), if_pos (by omega), e1, e2, mul_zero, add_zero, mul_neg, ← sub_eq_add_neg, e0]

/-- The second half of the rotated lanes. -/
theorem turn_hi (x : Fin 128 → EReal) (C S T : FVec Ideal S128x128 .f32) (a : Fin 128) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (i : Fin 32) (hl : l.val = 32 + i.val) :
    turn x C S T a l = x ⟨32 + i.val, by omega⟩ * cs i + x ⟨i.val, by omega⟩ * sn i := by
  have hi := i.isLt
  have e0 : x l = x ⟨32 + i.val, by omega⟩ := congrArg x (Fin.ext hl)
  have e1 : (⟨l.val % 32, by omega⟩ : Fin 32) = i := Fin.ext (by show l.val % 32 = i.val; omega)
  have e2 : (⟨(l.val + 128 - 32) % 128, by omega⟩ : Fin 128) = ⟨i.val, by omega⟩ := Fin.ext (by show (l.val + 128 - 32) % 128 = i.val; omega)
  unfold turn
  rw [hC, hS, hT, if_pos (by omega), if_neg (by omega), if_neg (by omega), if_pos (by omega), e1, e2, mul_zero, add_zero, e0]

/-- The lanes past the rotated ones. -/
theorem turn_out (x : Fin 128 → EReal) (C S T : FVec Ideal S128x128 .f32) (a : Fin 128) (cs sn : Fin 32 → EReal)
    (hC : ∀ i : Fin 128, (C (ix2 a i) : EReal) = if i.val < 64 then cs ⟨i.val % 32, by omega⟩ else 0)
    (hS : ∀ i : Fin 128, (S (ix2 a i) : EReal) = if i.val < 32 then -sn ⟨i.val % 32, by omega⟩ else 0)
    (hT : ∀ i : Fin 128, (T (ix2 a i) : EReal) = if i.val < 32 then 0 else if i.val < 64 then sn ⟨i.val % 32, by omega⟩ else 0)
    (l : Fin 128) (hl : 64 ≤ l.val) : turn x C S T a l = 0 := by
  unfold turn
  rw [hC, hS, hT, if_neg (by omega), if_neg (by omega), if_neg (by omega), if_neg (by omega), mul_zero, mul_zero, mul_zero, add_zero, add_zero]

/-- The plain lanes of the reference's q. -/
theorem ref_q_plain (x0 x1 x3 x5 x6) (r : Fin 128) (h : Fin 16) (l : Fin 256) (hl : l.val < 128) :
    val_main_v91 (F := Ideal) x0 x1 x3 x5 x6 (ix3 h r l) = val_main_v22 (F := Ideal) x0 x1 x3 (ix3 0 r ⟨h.val * 192 + l.val, by omega⟩) := by
  pointwise [val_main_v91, val_main_v86, val_main_v85, val_main_v79, val_main_v78, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v76]
  exact dif_pos hl

/-- The first half of its rotated lanes. -/
theorem ref_q_lo (x0 x1 x3 x5 x6) (r : Fin 128) (h : Fin 16) (l : Fin 256) (i : Fin 32) (hl : l.val = 128 + i.val) :
    val_main_v91 (F := Ideal) x0 x1 x3 x5 x6 (ix3 h r l)
      = val_main_v22 (F := Ideal) x0 x1 x3 (ix3 0 r ⟨h.val * 192 + (128 + i.val), by omega⟩) * (show EReal from x5 (ix2 r i)) - val_main_v22 (F := Ideal) x0 x1 x3 (ix3 0 r ⟨h.val * 192 + (128 + (32 + i.val)), by omega⟩) * (show EReal from x6 (ix2 r i)) := by
  pointwise [val_main_v91, val_main_v86, val_main_v85, val_main_v79, val_main_v78, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v76]
  have hi := i.isLt
  have e1 : l.val - 128 = i.val := by omega
  refine (dif_neg (by omega)).trans ((dif_pos (by omega)).trans ((dif_pos (by omega)).trans ?_))
  simp only [e1]

/-- The second half. -/
theorem ref_q_hi (x0 x1 x3 x5 x6) (r : Fin 128) (h : Fin 16) (l : Fin 256) (i : Fin 32) (hl : l.val = 160 + i.val) :
    val_main_v91 (F := Ideal) x0 x1 x3 x5 x6 (ix3 h r l)
      = val_main_v22 (F := Ideal) x0 x1 x3 (ix3 0 r ⟨h.val * 192 + (128 + (32 + i.val)), by omega⟩) * (show EReal from x5 (ix2 r i)) + val_main_v22 (F := Ideal) x0 x1 x3 (ix3 0 r ⟨h.val * 192 + (128 + i.val), by omega⟩) * (show EReal from x6 (ix2 r i)) := by
  pointwise [val_main_v91, val_main_v86, val_main_v85, val_main_v79, val_main_v78, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v76]
  have hi := i.isLt
  have e1 : l.val - 128 - 32 = i.val := by omega
  refine (dif_neg (by omega)).trans ((dif_pos (by omega)).trans ((dif_neg (by omega)).trans ?_))
  simp only [e1]

/-- The zeros. -/
theorem ref_q_pad (x0 x1 x3 x5 x6) (r : Fin 128) (h : Fin 16) (l : Fin 256) (hl : 192 ≤ l.val) :
    val_main_v91 (F := Ideal) x0 x1 x3 x5 x6 (ix3 h r l) = (0 : EReal) := by
  pointwise [val_main_v91, val_main_v86, val_main_v85, val_main_v79, val_main_v78, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v23, val_main_v76]
  refine (dif_neg (by omega)).trans ((dif_neg (by omega)).trans ?_)
  exact Ideal.ofBits_zero_f32

/-- The plain lanes of the reference's k. -/
theorem ref_k_plain (x0 x2 x4 x5 x6) (r : Fin 128) (h : Fin 16) (l : Fin 256) (hl : l.val < 128) :
    val_main_v92 (F := Ideal) x0 x2 x4 x5 x6 (ix3 h l r) = val_main_v39 (F := Ideal) x0 x2 x4 (ix3 0 r ⟨h.val * 256 + l.val, by omega⟩) := by
  pointwise [val_main_v92, val_main_v88, val_main_v87, val_main_v81, val_main_v80, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v76]
  exact dif_pos hl

/-- The first half of its rotated lanes. -/
theorem ref_k_lo (x0 x2 x4 x5 x6) (r : Fin 128) (h : Fin 16) (l : Fin 256) (i : Fin 32) (hl : l.val = 128 + i.val) :
    val_main_v92 (F := Ideal) x0 x2 x4 x5 x6 (ix3 h l r)
      = (show EReal from x0 (ix2 r ⟨1024 + i.val, by omega⟩)) * (show EReal from x5 (ix2 r i)) - (show EReal from x0 (ix2 r ⟨1024 + (32 + i.val), by omega⟩)) * (show EReal from x6 (ix2 r i)) := by
  pointwise [val_main_v92, val_main_v88, val_main_v87, val_main_v81, val_main_v80, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v76]
  have hi := i.isLt
  have e1 : l.val - 128 = i.val := by omega
  refine (dif_neg (by omega)).trans ((dif_pos (by omega)).trans ((dif_pos (by omega)).trans ?_))
  simp only [e1]

/-- The second half. -/
theorem ref_k_hi (x0 x2 x4 x5 x6) (r : Fin 128) (h : Fin 16) (l : Fin 256) (i : Fin 32) (hl : l.val = 160 + i.val) :
    val_main_v92 (F := Ideal) x0 x2 x4 x5 x6 (ix3 h l r)
      = (show EReal from x0 (ix2 r ⟨1024 + (32 + i.val), by omega⟩)) * (show EReal from x5 (ix2 r i)) + (show EReal from x0 (ix2 r ⟨1024 + i.val, by omega⟩)) * (show EReal from x6 (ix2 r i)) := by
  pointwise [val_main_v92, val_main_v88, val_main_v87, val_main_v81, val_main_v80, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v76]
  have hi := i.isLt
  have e1 : l.val - 128 - 32 = i.val := by omega
  refine (dif_neg (by omega)).trans ((dif_pos (by omega)).trans ((dif_neg (by omega)).trans ?_))
  simp only [e1]

/-- The zeros. -/
theorem ref_k_pad (x0 x2 x4 x5 x6) (r : Fin 128) (h : Fin 16) (l : Fin 256) (hl : 192 ≤ l.val) :
    val_main_v92 (F := Ideal) x0 x2 x4 x5 x6 (ix3 h l r) = (0 : EReal) := by
  pointwise [val_main_v92, val_main_v88, val_main_v87, val_main_v81, val_main_v80, val_main_v75, val_main_v74, val_main_v73, val_main_v72, val_main_v71, val_main_v70, val_main_v69, val_main_v68, val_main_v67, val_main_v66, val_main_v65, val_main_v64, val_main_v63, val_main_v62, val_main_v61, val_main_v40, val_main_v4, val_main_v1, val_main_v0, val_main_v76]
  refine (dif_neg (by omega)).trans ((dif_neg (by omega)).trans ?_)
  exact Ideal.ofBits_zero_f32

/-- The value lanes of the reference's v. -/
theorem ref_v_plain (x0 x2 x4) (r : Fin 128) (h : Fin 16) (l : Fin 256) (hl : l.val < 128) :
    val_main_v93 (F := Ideal) x0 x2 x4 (ix3 h r l) = val_main_v39 (F := Ideal) x0 x2 x4 (ix3 0 r ⟨h.val * 256 + (128 + l.val), by omega⟩) := by
  pointwise [val_main_v93, val_main_v90, val_main_v89, val_main_v84, val_main_v83, val_main_v82, val_main_v77, val_main_v40]
  exact dif_pos hl

/-- The one. -/
theorem ref_v_one (x0 x2 x4) (r : Fin 128) (h : Fin 16) (l : Fin 256) (hl : l.val = 128) :
    val_main_v93 (F := Ideal) x0 x2 x4 (ix3 h r l) = (1 : EReal) := by
  pointwise [val_main_v93, val_main_v90, val_main_v89, val_main_v84, val_main_v83, val_main_v82, val_main_v77, val_main_v40]
  refine (dif_neg (by omega)).trans ((dif_pos (by omega)).trans ?_)
  exact Ideal.ofBits_one_f32

/-- The zeros. -/
theorem ref_v_pad (x0 x2 x4) (r : Fin 128) (h : Fin 16) (l : Fin 256) (hl : 128 < l.val) :
    val_main_v93 (F := Ideal) x0 x2 x4 (ix3 h r l) = (0 : EReal) := by
  pointwise [val_main_v93, val_main_v90, val_main_v89, val_main_v84, val_main_v83, val_main_v82, val_main_v77, val_main_v40]
  refine (dif_neg (by omega)).trans ((dif_neg (by omega)).trans ?_)
  exact Ideal.ofBits_zero_f32

/-- A lane of the q block is the reference's. -/
theorem q_point (c : Dev nD) (t : Fin cfg0.N) (a : Fin 128) (r : Fin 128) (hr : r.val = t.val * 128 + a.val) (h : Fin 16) (l : Fin 256) :
    qv (k0_pay9 (X0_0 m c t) (iblk m c 3 t)) (iblk m c 5 t) (k0_pay6 (iblk m c 7 t)) (k0_pay7 (iblk m c 8 t)) (k0_pay8 (iblk m c 9 t)) (ix3 h a l) = val_main_v91 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (ix3 h r l) := by
  have ht : t.val < 1 := t.isLt
  have hC := fun i => cos_at m c t a i r hr
  have hS := fun i => sin_lo m c t a i r hr
  have hT := fun i => sin_hi m c t a i r hr
  unfold qv
  by_cases h1 : l.val < 128
  · refine (if_pos h1).trans ((q_lane m c t a r hr h ⟨l.val, by omega⟩).trans (Eq.trans ?_ (ref_q_plain _ _ _ _ _ r h l h1).symm))
    rfl
  · refine (if_neg h1).trans ?_
    have hlo := fun i : Fin 32 => (q_lane m c t a r hr h ⟨128 + i.val, by omega⟩)
    have hhi := fun i : Fin 32 => (q_lane m c t a r hr h ⟨128 + (32 + i.val), by omega⟩)
    generalize k0_pay6 (F := Ideal) (iblk m c 7 t) = C at hC ⊢
    generalize k0_pay7 (F := Ideal) (iblk m c 8 t) = S at hS ⊢
    generalize k0_pay8 (F := Ideal) (iblk m c 9 t) = T at hT ⊢
    show turn (fun i : Fin 128 => mm (k0_pay9 (F := Ideal) (X0_0 m c t) (iblk m c 3 t)) (iblk m c 5 t) a ⟨256 * h.val + (128 + i.val), by omega⟩) C S T a ⟨l.val - 128, by omega⟩ = _
    generalize mm (k0_pay9 (F := Ideal) (X0_0 m c t) (iblk m c 3 t)) (iblk m c 5 t) a = f at hlo hhi ⊢
    by_cases h2 : l.val < 160
    · refine (turn_lo (fun i : Fin 128 => f ⟨256 * h.val + (128 + i.val), by omega⟩) C S T a (fun i => (m ((c : Thread nD τ).loc main_arg5)) (ix2 r i)) (fun i => (m ((c : Thread nD τ).loc main_arg6)) (ix2 r i)) hC hS hT ⟨l.val - 128, by omega⟩ ⟨l.val - 128, by omega⟩ rfl).trans ?_
      refine Eq.trans ?_ (ref_q_lo _ _ _ _ _ r h l ⟨l.val - 128, by omega⟩ (by show l.val = 128 + (l.val - 128); omega)).symm
      generalize val_main_v22 (F := Ideal) (m ((c : Thread nD τ).loc main_arg0)) (m ((c : Thread nD τ).loc main_arg1)) (m ((c : Thread nD τ).loc main_arg3)) = z at hlo hhi ⊢
      exact congrArg₂ (fun x y : EReal => x * _ - y * _) (hlo ⟨l.val - 128, by omega⟩) (hhi ⟨l.val - 128, by omega⟩)
    · by_cases h3 : l.val < 192
      · refine (turn_hi (fun i : Fin 128 => f ⟨256 * h.val + (128 + i.val), by omega⟩) C S T a (fun i => (m ((c : Thread nD τ).loc main_arg5)) (ix2 r i)) (fun i => (m ((c : Thread nD τ).loc main_arg6)) (ix2 r i)) hC hS hT ⟨l.val - 128, by omega⟩ ⟨l.val - 160, by omega⟩ (by show l.val - 128 = 32 + (l.val - 160); omega)).trans ?_
        refine Eq.trans ?_ (ref_q_hi _ _ _ _ _ r h l ⟨l.val - 160, by omega⟩ (by show l.val = 160 + (l.val - 160); omega)).symm
        generalize val_main_v22 (F := Ideal) (m ((c : Thread nD τ).loc main_arg0)) (m ((c : Thread nD τ).loc main_arg1)) (m ((c : Thread nD τ).loc main_arg3)) = z at hlo hhi ⊢
        exact congrArg₂ (fun x y : EReal => x * _ + y * _) (hhi ⟨l.val - 160, by omega⟩) (hlo ⟨l.val - 160, by omega⟩)
      · refine (turn_out (fun i : Fin 128 => f ⟨256 * h.val + (128 + i.val), by omega⟩) C S T a (fun i => (m ((c : Thread nD τ).loc main_arg5)) (ix2 r i)) (fun i => (m ((c : Thread nD τ).loc main_arg6)) (ix2 r i)) hC hS hT ⟨l.val - 128, by omega⟩ (by show 64 ≤ l.val - 128; omega)).trans ?_
        exact (ref_q_pad _ _ _ _ _ r h l (by omega)).symm

/-- A lane of the k block is the reference's. -/
theorem k_point (c : Dev nD) (t : Fin cfg0.N) (a : Fin 128) (r : Fin 128) (hr : r.val = t.val * 128 + a.val) (h : Fin 16) (l : Fin 256) :
    kv (k0_pay11 (k0_pay10 (X0_1 m c t) (iblk m c 4 t))) (iblk m c 6 t) (iblk m c 2 t) (k0_pay6 (iblk m c 7 t)) (k0_pay7 (iblk m c 8 t)) (k0_pay8 (iblk m c 9 t)) (ix3 h l a) = val_main_v92 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (ix3 h l r) := by
  have ht : t.val < 1 := t.isLt
  have hC := fun i => cos_at m c t a i r hr
  have hS := fun i => sin_lo m c t a i r hr
  have hT := fun i => sin_hi m c t a i r hr
  unfold kv
  by_cases h1 : l.val < 128
  · refine (if_pos h1).trans ((kv_lane m c t a r hr ⟨256 * h.val + l.val, by omega⟩).trans (Eq.trans ?_ (ref_k_plain _ _ _ _ _ r h l h1).symm))
    exact congrArg _ (by blk_ext)
  · refine (if_neg h1).trans ?_
    have hlo := fun i : Fin 32 => (block2 m c t a ⟨i.val, by omega⟩ r hr)
    have hhi := fun i : Fin 32 => (block2 m c t a ⟨32 + i.val, by omega⟩ r hr)
    generalize k0_pay6 (F := Ideal) (iblk m c 7 t) = C at hC ⊢
    generalize k0_pay7 (F := Ideal) (iblk m c 8 t) = S at hS ⊢
    generalize k0_pay8 (F := Ideal) (iblk m c 9 t) = T at hT ⊢
    by_cases h2 : l.val < 160
    · refine (turn_lo (fun i : Fin 128 => iblk m c 2 t (ix2 a i)) C S T a (fun i => (m ((c : Thread nD τ).loc main_arg5)) (ix2 r i)) (fun i => (m ((c : Thread nD τ).loc main_arg6)) (ix2 r i)) hC hS hT ⟨l.val - 128, by omega⟩ ⟨l.val - 128, by omega⟩ rfl).trans ?_
      refine Eq.trans ?_ (ref_k_lo _ _ _ _ _ r h l ⟨l.val - 128, by omega⟩ (by show l.val = 128 + (l.val - 128); omega)).symm
      exact congrArg₂ (fun x y : EReal => x * _ - y * _) (hlo ⟨l.val - 128, by omega⟩) (hhi ⟨l.val - 128, by omega⟩)
    · by_cases h3 : l.val < 192
      · refine (turn_hi (fun i : Fin 128 => iblk m c 2 t (ix2 a i)) C S T a (fun i => (m ((c : Thread nD τ).loc main_arg5)) (ix2 r i)) (fun i => (m ((c : Thread nD τ).loc main_arg6)) (ix2 r i)) hC hS hT ⟨l.val - 128, by omega⟩ ⟨l.val - 160, by omega⟩ (by show l.val - 128 = 32 + (l.val - 160); omega)).trans ?_
        refine Eq.trans ?_ (ref_k_hi _ _ _ _ _ r h l ⟨l.val - 160, by omega⟩ (by show l.val = 160 + (l.val - 160); omega)).symm
        exact congrArg₂ (fun x y : EReal => x * _ + y * _) (hhi ⟨l.val - 160, by omega⟩) (hlo ⟨l.val - 160, by omega⟩)
      · refine (turn_out (fun i : Fin 128 => iblk m c 2 t (ix2 a i)) C S T a (fun i => (m ((c : Thread nD τ).loc main_arg5)) (ix2 r i)) (fun i => (m ((c : Thread nD τ).loc main_arg6)) (ix2 r i)) hC hS hT ⟨l.val - 128, by omega⟩ (by show 64 ≤ l.val - 128; omega)).trans ?_
        exact (ref_k_pad _ _ _ _ _ r h l (by omega)).symm

/-- A lane of the v block is the reference's. -/
theorem v_point (c : Dev nD) (t : Fin cfg0.N) (a : Fin 128) (r : Fin 128) (hr : r.val = t.val * 128 + a.val) (h : Fin 16) (l : Fin 256) :
    vv (k0_pay11 (k0_pay10 (X0_1 m c t) (iblk m c 4 t))) (iblk m c 6 t) (ix3 h a l) = val_main_v93 (F := Ideal) (m ((c : Thread nD τ).loc main_arg0)) (m ((c : Thread nD τ).loc main_arg2)) (m ((c : Thread nD τ).loc main_arg4)) (ix3 h r l) := by
  have ht : t.val < 1 := t.isLt
  unfold vv
  by_cases h1 : l.val < 128
  · refine (if_pos h1).trans ((kv_lane m c t a r hr ⟨256 * h.val + (128 + l.val % 128), by omega⟩).trans (Eq.trans ?_ (ref_v_plain _ _ _ r h l h1).symm))
    have hl : l.val % 128 = l.val := by omega
    exact congrArg _ (by blk_ext)
  · refine (if_neg h1).trans ?_
    by_cases h2 : l.val = 128
    · exact (if_pos h2).trans (ref_v_one _ _ _ r h l h2).symm
    · exact (if_neg h2).trans (ref_v_pad _ _ _ r h l (by omega)).symm

/-- The q result is the reference's. -/
theorem final10 (c : Dev nD) : (dats m 0 c).arrAt 10 (cfgs 0).N = val_main_v91 (F := Ideal) (m ((c : Thread nD τ).loc main_arg0)) (m ((c : Thread nD τ).loc main_arg1)) (m ((c : Thread nD τ).loc main_arg3)) (m ((c : Thread nD τ).loc main_arg5)) (m ((c : Thread nD τ).loc main_arg6)) := by
  refine (dats m 0 c).arrAt_eq_of_covers 10 _ (by decide +kernel) fun t hf y => ?_
  have ht : t.val < 1 := t.isLt
  have hy : (y 1).val < 128 := (y 1).isLt
  have he : ((cfg0.win 10).blk t).view.emb y = ix3 (y 0) (⟨t.val * 128 + (y 1).val, by omega⟩ : Fin 128) (y 2) := by
    blk_ext [(idx t).2.2.2.2.2.2.2.2.2.2.1]
  refine (block10 m c t y).trans (((congrArg _ (eq_ix3 y)).trans (q_point m c t (y 1) ⟨t.val * 128 + (y 1).val, by omega⟩ rfl (y 0) (y 2))).trans ?_)
  exact (congrArg (val_main_v91 (F := Ideal) (m ((c : Thread nD τ).loc main_arg0)) (m ((c : Thread nD τ).loc main_arg1)) (m ((c : Thread nD τ).loc main_arg3)) (m ((c : Thread nD τ).loc main_arg5)) (m ((c : Thread nD τ).loc main_arg6))) he).symm

/-- The k result is the reference's. -/
theorem final11 (c : Dev nD) : (dats m 0 c).arrAt 11 (cfgs 0).N = val_main_v92 (F := Ideal) (m ((c : Thread nD τ).loc main_arg0)) (m ((c : Thread nD τ).loc main_arg2)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht : t.val < 1 := t.isLt
  have hy : (y 2).val < 128 := (y 2).isLt
  have he : ((cfg0.win 11).blk t).view.emb y = ix3 (y 0) (y 1) (⟨t.val * 128 + (y 2).val, by omega⟩ : Fin 128) := by
    blk_ext [(idx t).2.2.2.2.2.2.2.2.2.2.2.1]
  refine (block11 m c t y).trans (((congrArg _ (eq_ix3 y)).trans (k_point m c t (y 2) ⟨t.val * 128 + (y 2).val, by omega⟩ rfl (y 0) (y 1))).trans ?_)
  exact (congrArg (val_main_v92 (F := Ideal) (m ((c : Thread nD τ).loc main_arg0)) (m ((c : Thread nD τ).loc main_arg2)) (m ((c : Thread nD τ).loc main_arg4)) (m ((c : Thread nD τ).loc main_arg5)) (m ((c : Thread nD τ).loc main_arg6))) he).symm

/-- The v result is the reference's. -/
theorem final12 (c : Dev nD) : (dats m 0 c).arrAt 12 (cfgs 0).N = val_main_v93 (F := Ideal) (m ((c : Thread nD τ).loc main_arg0)) (m ((c : Thread nD τ).loc main_arg2)) (m ((c : Thread nD τ).loc main_arg4)) := by
  refine (dats m 0 c).arrAt_eq_of_covers 12 _ (by decide +kernel) fun t hf y => ?_
  have ht : t.val < 1 := t.isLt
  have hy : (y 1).val < 128 := (y 1).isLt
  have he : ((cfg0.win 12).blk t).view.emb y = ix3 (y 0) (⟨t.val * 128 + (y 1).val, by omega⟩ : Fin 128) (y 2) := by
    blk_ext [(idx t).2.2.2.2.2.2.2.2.2.2.2.2]
  refine (block12 m c t y).trans (((congrArg _ (eq_ix3 y)).trans (v_point m c t (y 1) ⟨t.val * 128 + (y 1).val, by omega⟩ rfl (y 0) (y 2))).trans ?_)
  exact (congrArg (val_main_v93 (F := Ideal) (m ((c : Thread nD τ).loc main_arg0)) (m ((c : Thread nD τ).loc main_arg2)) (m ((c : Thread nD τ).loc main_arg4))) he).symm

end Cert.MetaRopeValue

end
-- ==== Proof.MetaRopeClaims.lean ====
/- The claims about the meta tokens' up-projections and the rotary embedding: the frames, and the values at the extended reals. -/
module

public import proofs.«01_k».proof.Defs
public import proofs.«01_k».proof.Proof.Gen.Kernel9.Frame
public import proofs.«01_k».proof.Proof.MetaRopeValue
public import Idealize.ShloMosaic.Lib.Quiescent

@[expose] public section

noncomputable section

namespace Cert.MetaRopeClaims

open Idealize.ShloMosaic Idealize.ShloMosaic.TcCoe Idealize.SL.Sem

/-- The kernel ends, its arguments and counters as they were. -/
theorem frame_kernel : Cert.quiescent_Kernel9 := fun m g _ => Cert.Kernel9.Gen.frame m g

/-- So does the idealized kernel. -/
theorem frame_ideal : Cert.quiescent_Kernel9Ideal := fun m g _ => Cert.Kernel9Ideal.Gen.frame m g

/-- So does the reference, which has no semaphore. -/
theorem frame_reference : Cert.quiescent_Reference9Ideal := fun m g _ =>
  (θ_run Cert.Reference9Ideal.defs _ _).mono
    (fun r h => ⟨fun c => (h c).2.2.2, sem_eq_zero_of_no_sems (by decide) r.2⟩)
    (Cert.Reference9Ideal.Value.run m g)

/-- The kernel's three results are the reference's. -/
theorem values : Cert.algebraic_Kernel9Ideal_Reference9Ideal := by
  pair_intro
  · run_from Cert.Kernel9Ideal.Value.run_blocks m g
  · run_from Cert.Reference9Ideal.Value.run m' g'
    · refine (Cert.Reference9Ideal.Read.val_main_v91_eq m' c).trans (Eq.trans ?_ (MetaRopeValue.final10 m c).symm)
      obtain ⟨h0, h1, _, h3, _, h5, h6⟩ := hagree c
      rw [h0, h1, h3, h5, h6]
    · refine (Cert.Reference9Ideal.Read.val_main_v92_eq _ _ _ _ _).trans (Eq.trans ?_ (MetaRopeValue.final11 m c).symm)
      obtain ⟨_, _, h2, _, h4, h5, h6⟩ := hagree c
      rw [h2, h4, h5, h6]
    · refine (Cert.Reference9Ideal.Read.val_main_v93_eq _ _ _).trans (Eq.trans ?_ (MetaRopeValue.final12 m c).symm)
      obtain ⟨_, _, h2, _, h4, _, _⟩ := hagree c
      rw [h2, h4]

end Cert.MetaRopeClaims

end
-- ==== Proof.lean ====
module

public import proofs.«01_k».proof.Defs
public import proofs.«01_k».proof.Proof.Gen.Kernel2Ideal.Skeleton
public import proofs.«01_k».proof.Proof.Gen.Kernel5Ideal.Skeleton
public import proofs.«01_k».proof.Proof.Gen.Kernel.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.LatentClaims
public import proofs.«01_k».proof.Proof.FeedClaims
public import proofs.«01_k».proof.Proof.MergeClaims
public import proofs.«01_k».proof.Proof.OutClaims
public import proofs.«01_k».proof.Proof.GateClaims
public import proofs.«01_k».proof.Proof.RopeClaims
public import proofs.«01_k».proof.Proof.MetaLatentClaims
public import proofs.«01_k».proof.Proof.MetaInputClaims
public import proofs.«01_k».proof.Proof.MetaRopeClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, LatentClaims.frame_kernel,
    LatentClaims.frame_ideal, LatentClaims.frame_reference, FeedClaims.frame_kernel, FeedClaims.frame_ideal,
    FeedClaims.frame_reference, MergeClaims.frame_kernel, MergeClaims.frame_ideal, MergeClaims.frame_reference,
    OutClaims.frame_kernel, OutClaims.frame_ideal, OutClaims.frame_reference, GateClaims.frame_kernel,
    GateClaims.frame_ideal, GateClaims.frame_reference, RopeClaims.frame_kernel, RopeClaims.frame_ideal,
    RopeClaims.frame_reference, MetaLatentClaims.frame_kernel, MetaLatentClaims.frame_ideal, MetaLatentClaims.frame_reference,
    MetaInputClaims.frame_kernel, MetaInputClaims.frame_ideal, MetaInputClaims.frame_reference, MetaRopeClaims.frame_kernel,
    MetaRopeClaims.frame_ideal, MetaRopeClaims.frame_reference, trivial, LatentClaims.values,
    trivial, FeedClaims.values, trivial, MergeClaims.values,
    trivial, OutClaims.values, trivial, GateClaims.values,
    trivial, RopeClaims.values, trivial, MetaLatentClaims.values,
    trivial, MetaInputClaims.values, trivial, MetaRopeClaims.values⟩

end Cert.Proof

end
